-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite4 [hPre_finite4 : Cert.Pre_finite4.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7))).1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7))).2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7))).2.2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7))).2.2.2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7))).2.2.2.2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7))).2.2.2.2.2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7))).2.2.2.2.2.2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7))).2.2.2.2.2.2.2 = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite4 [hPre_finite4 : Cert.Pre_finite4.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7))).1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7))).2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7))).2.2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7))).2.2.2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7))).2.2.2.2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7))).2.2.2.2.2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7))).2.2.2.2.2.2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7))).2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ r.2.sem = fun _ => 0)

def quiescent_Kernel4Ideal_pre_finite4 [hKernel4Ideal : Cert.Kernel4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite4 m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0)

def quiescent_Reference4Ideal_pre_finite4 [hReference4Ideal : Cert.Reference4Ideal.Facts] [hPre_finite4 : Cert.Pre_finite4.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite4 m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0)

def preserves_Kernel_KernelIdeal : Prop :=
  IdealRules.named_const.Statement Cert.KernelIdeal.κ "mask" .f32 0xF149F2CA#32 ⊥
  ∧ IdealRules.named_const.Statement Cert.KernelIdeal.κ "log2e" .f32 0x3FB8AA3B#32 (((Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v78)) (v1 : (c : Dev Cert.KernelIdeal.nD) → Buf (Elt Ideal) ((c.tc : Thread Cert.KernelIdeal.nD Cert.KernelIdeal.τ).loc Cert.KernelIdeal.main_v84)) (v2 : (c : Dev Cert.KernelIdeal.nD) → Buf (Elt Ideal) ((c.tc : Thread Cert.KernelIdeal.nD Cert.KernelIdeal.τ).loc Cert.KernelIdeal.main_v90)) (v3 : (c : Dev Cert.KernelIdeal.nD) → Buf (Elt Ideal) ((c.tc : Thread Cert.KernelIdeal.nD Cert.KernelIdeal.τ).loc Cert.KernelIdeal.main_v96)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v78) = v0 c
          ∧ r.2.mem ((c.tc : Thread Cert.KernelIdeal.nD Cert.KernelIdeal.τ).loc Cert.KernelIdeal.main_v84) = v1 c
          ∧ r.2.mem ((c.tc : Thread Cert.KernelIdeal.nD Cert.KernelIdeal.τ).loc Cert.KernelIdeal.main_v90) = v2 c
          ∧ r.2.mem ((c.tc : Thread Cert.KernelIdeal.nD Cert.KernelIdeal.τ).loc Cert.KernelIdeal.main_v96) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_v52) = v1 c
          ∧ r.2.mem ((c.tc : Thread Cert.ReferenceIdeal.nD Cert.ReferenceIdeal.τ).loc Cert.ReferenceIdeal.main_v51) = v2 c
          ∧ r.2.mem ((c.tc : Thread Cert.ReferenceIdeal.nD Cert.ReferenceIdeal.τ).loc Cert.ReferenceIdeal.main_v35) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)) (v2 : (c : Dev Cert.Kernel2Ideal.nD) → Buf (Elt Ideal) ((c.tc : Thread Cert.Kernel2Ideal.nD Cert.Kernel2Ideal.τ).loc Cert.Kernel2Ideal.main_v0_2)) (v3 : (c : Dev Cert.Kernel2Ideal.nD) → Buf (Elt Ideal) ((c.tc : Thread Cert.Kernel2Ideal.nD Cert.Kernel2Ideal.τ).loc Cert.Kernel2Ideal.main_v0_3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_v0_2) = v2 c
          ∧ r.2.mem ((c.tc : Thread Cert.Kernel2Ideal.nD Cert.Kernel2Ideal.τ).loc Cert.Kernel2Ideal.main_v0_3) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v0) = v0 c
          ∧ r.2.mem ((c.tc : Thread Cert.Reference2Ideal.nD Cert.Reference2Ideal.τ).loc Cert.Reference2Ideal.main_v24) = v1 c
          ∧ r.2.mem ((c.tc : Thread Cert.Reference2Ideal.nD Cert.Reference2Ideal.τ).loc Cert.Reference2Ideal.main_v5) = v2 c
          ∧ r.2.mem ((c.tc : Thread Cert.Reference2Ideal.nD Cert.Reference2Ideal.τ).loc Cert.Reference2Ideal.main_v11) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)) →
    ∃ (v0 : (c : Dev Cert.Kernel3Ideal.nD) → Buf (Elt Ideal) ((c.tc : Thread Cert.Kernel3Ideal.nD Cert.Kernel3Ideal.τ).loc Cert.Kernel3Ideal.main_v7_0)) (v1 : (c : Dev Cert.Kernel3Ideal.nD) → Buf (Elt Ideal) ((c.tc : Thread Cert.Kernel3Ideal.nD Cert.Kernel3Ideal.τ).loc Cert.Kernel3Ideal.main_v7_2)) (v2 : (c : Dev Cert.Kernel3Ideal.nD) → Buf (Elt Ideal) ((c.tc : Thread Cert.Kernel3Ideal.nD Cert.Kernel3Ideal.τ).loc Cert.Kernel3Ideal.main_v12)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v7_0) = v0 c
          ∧ r.2.mem ((c.tc : Thread Cert.Kernel3Ideal.nD Cert.Kernel3Ideal.τ).loc Cert.Kernel3Ideal.main_v7_2) = v1 c
          ∧ r.2.mem ((c.tc : Thread Cert.Kernel3Ideal.nD Cert.Kernel3Ideal.τ).loc Cert.Kernel3Ideal.main_v12) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v51) = v0 c
          ∧ r.2.mem ((c.tc : Thread Cert.Reference3Ideal.nD Cert.Reference3Ideal.τ).loc Cert.Reference3Ideal.main_v34) = v1 c
          ∧ r.2.mem ((c.tc : Thread Cert.Reference3Ideal.nD Cert.Reference3Ideal.τ).loc Cert.Reference3Ideal.main_v30) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12))

def preserves_Kernel4_Kernel4Ideal : Prop :=
  True

def algebraic_Kernel4Ideal_Reference4Ideal_pre_finite4 [hKernel4Ideal : Cert.Kernel4Ideal.Facts] [hReference4Ideal : Cert.Reference4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite4 m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)) →
    ∃ (v0 : (c : Dev Cert.Kernel4Ideal.nD) → Buf (Elt Ideal) ((c.tc : Thread Cert.Kernel4Ideal.nD Cert.Kernel4Ideal.τ).loc Cert.Kernel4Ideal.main_v28_5)) (v1 : (c : Dev Cert.Kernel4Ideal.nD) → Buf (Elt Ideal) ((c.tc : Thread Cert.Kernel4Ideal.nD Cert.Kernel4Ideal.τ).loc Cert.Kernel4Ideal.main_v32)) (v2 : (c : Dev Cert.Kernel4Ideal.nD) → Buf (Elt Ideal) ((c.tc : Thread Cert.Kernel4Ideal.nD Cert.Kernel4Ideal.τ).loc Cert.Kernel4Ideal.main_v36)) (v3 : (c : Dev Cert.Kernel4Ideal.nD) → Buf (Elt Ideal) ((c.tc : Thread Cert.Kernel4Ideal.nD Cert.Kernel4Ideal.τ).loc Cert.Kernel4Ideal.main_v40)) (v4 : (c : Dev Cert.Kernel4Ideal.nD) → Buf (Elt Ideal) ((c.tc : Thread Cert.Kernel4Ideal.nD Cert.Kernel4Ideal.τ).loc Cert.Kernel4Ideal.main_v44)) (v5 : (c : Dev Cert.Kernel4Ideal.nD) → Buf (Elt Ideal) ((c.tc : Thread Cert.Kernel4Ideal.nD Cert.Kernel4Ideal.τ).loc Cert.Kernel4Ideal.main_v28_7)) (v6 : (c : Dev Cert.Kernel4Ideal.nD) → Buf (Elt Ideal) ((c.tc : Thread Cert.Kernel4Ideal.nD Cert.Kernel4Ideal.τ).loc Cert.Kernel4Ideal.main_v28_6)) (v7 : (c : Dev Cert.Kernel4Ideal.nD) → Buf (Elt Ideal) ((c.tc : Thread Cert.Kernel4Ideal.nD Cert.Kernel4Ideal.τ).loc Cert.Kernel4Ideal.main_v28_8)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v28_5) = v0 c
          ∧ r.2.mem ((c.tc : Thread Cert.Kernel4Ideal.nD Cert.Kernel4Ideal.τ).loc Cert.Kernel4Ideal.main_v32) = v1 c
          ∧ r.2.mem ((c.tc : Thread Cert.Kernel4Ideal.nD Cert.Kernel4Ideal.τ).loc Cert.Kernel4Ideal.main_v36) = v2 c
          ∧ r.2.mem ((c.tc : Thread Cert.Kernel4Ideal.nD Cert.Kernel4Ideal.τ).loc Cert.Kernel4Ideal.main_v40) = v3 c
          ∧ r.2.mem ((c.tc : Thread Cert.Kernel4Ideal.nD Cert.Kernel4Ideal.τ).loc Cert.Kernel4Ideal.main_v44) = v4 c
          ∧ r.2.mem ((c.tc : Thread Cert.Kernel4Ideal.nD Cert.Kernel4Ideal.τ).loc Cert.Kernel4Ideal.main_v28_7) = v5 c
          ∧ r.2.mem ((c.tc : Thread Cert.Kernel4Ideal.nD Cert.Kernel4Ideal.τ).loc Cert.Kernel4Ideal.main_v28_6) = v6 c
          ∧ r.2.mem ((c.tc : Thread Cert.Kernel4Ideal.nD Cert.Kernel4Ideal.τ).loc Cert.Kernel4Ideal.main_v28_8) = v7 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v98) = v0 c
          ∧ r.2.mem ((c.tc : Thread Cert.Reference4Ideal.nD Cert.Reference4Ideal.τ).loc Cert.Reference4Ideal.main_v96) = v1 c
          ∧ r.2.mem ((c.tc : Thread Cert.Reference4Ideal.nD Cert.Reference4Ideal.τ).loc Cert.Reference4Ideal.main_v97) = v2 c
          ∧ r.2.mem ((c.tc : Thread Cert.Reference4Ideal.nD Cert.Reference4Ideal.τ).loc Cert.Reference4Ideal.main_v75) = v3 c
          ∧ r.2.mem ((c.tc : Thread Cert.Reference4Ideal.nD Cert.Reference4Ideal.τ).loc Cert.Reference4Ideal.main_v51) = v4 c
          ∧ r.2.mem ((c.tc : Thread Cert.Reference4Ideal.nD Cert.Reference4Ideal.τ).loc Cert.Reference4Ideal.main_v72) = v5 c
          ∧ r.2.mem ((c.tc : Thread Cert.Reference4Ideal.nD Cert.Reference4Ideal.τ).loc Cert.Reference4Ideal.main_v54) = v6 c
          ∧ r.2.mem ((c.tc : Thread Cert.Reference4Ideal.nD Cert.Reference4Ideal.τ).loc Cert.Reference4Ideal.main_v78) = v7 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite : Cert.Pre_finite.Facts) (hPre_finite4 : Cert.Pre_finite4.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite4 (hKernel4Ideal := hKernel4Ideal) (hPre_finite4 := hPre_finite4)
    ∧ quiescent_Reference4Ideal (hReference4Ideal := hReference4Ideal)
    ∧ quiescent_Reference4Ideal_pre_finite4 (hReference4Ideal := hReference4Ideal) (hPre_finite4 := hPre_finite4)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite4 (hKernel4Ideal := hKernel4Ideal) (hReference4Ideal := hReference4Ideal) (hPre_finite4 := hPre_finite4)
-- ==== Pre_finite.lean ====
abbrev S8x16400x96 : Shape := ⟨3, ![8, 16400, 96]⟩
abbrev S8x16400x64 : Shape := ⟨3, ![8, 16400, 64]⟩
abbrev S_ : Shape := ⟨0, ![]⟩

class Facts : Prop where
  bcast_S_S8x16400x96 : S_.BroadcastsInDim S8x16400x96 (![] : Fin 0 → Fin S8x16400x96.rank)
  bcast_S_S8x16400x64 : S_.BroadcastsInDim S8x16400x64 (![] : Fin 0 → Fin S8x16400x64.rank)

variable [Facts]

def fn {F : FTy → Type} [FloatOps F] (main_arg0 : FVec F S8x16400x96 .f32) (main_arg1 : FVec F S8x16400x96 .f32) (main_arg2 : FVec F S8x16400x64 .f32) (main_arg3 : FVec F S8x16400x64 .f32) : IVec S8x16400x96 1 × IVec S8x16400x96 1 × IVec S8x16400x64 1 × IVec S8x16400x64 1 :=
  let main_v0 : FVec F S8x16400x96 .f32 := Host.absf main_arg0
  let main_cst : FVec F S_ .f32 := constant S_ .f32 0x7F800000#32
  let main_v1 : FVec F S8x16400x96 .f32 := broadcastInDim S8x16400x96 ![] bcast_S_S8x16400x96 main_cst
  let main_v2 : IVec S8x16400x96 1 := cmpf .olt main_v0 main_v1
  let main_v3 : FVec F S8x16400x96 .f32 := Host.absf main_arg1
  let main_cst_0 : FVec F S_ .f32 := constant S_ .f32 0x7F800000#32
  let main_v4 : FVec F S8x16400x96 .f32 := broadcastInDim S8x16400x96 ![] bcast_S_S8x16400x96 main_cst_0
  let main_v5 : IVec S8x16400x96 1 := cmpf .olt main_v3 main_v4
  let main_v6 : FVec F S8x16400x64 .f32 := Host.absf main_arg2
  let main_cst_1 : FVec F S_ .f32 := constant S_ .f32 0x7F800000#32
  let main_v7 : FVec F S8x16400x64 .f32 := broadcastInDim S8x16400x64 ![] bcast_S_S8x16400x64 main_cst_1
  let main_v8 : IVec S8x16400x64 1 := cmpf .olt main_v6 main_v7
  let main_v9 : FVec F S8x16400x64 .f32 := Host.absf main_arg3
  let main_cst_2 : FVec F S_ .f32 := constant S_ .f32 0x7F800000#32
  let main_v10 : FVec F S8x16400x64 .f32 := broadcastInDim S8x16400x64 ![] bcast_S_S8x16400x64 main_cst_2
  let main_v11 : IVec S8x16400x64 1 := cmpf .olt main_v9 main_v10
  (main_v2, main_v5, main_v8, main_v11)
-- ==== Pre_finite4.lean ====
abbrev S16400x512 : Shape := ⟨2, ![16400, 512]⟩
abbrev S16400x1024 : Shape := ⟨2, ![16400, 1024]⟩
abbrev S16384x1024 : Shape := ⟨2, ![16384, 1024]⟩
abbrev S1024x1024 : Shape := ⟨2, ![1024, 1024]⟩
abbrev S1x1024 : Shape := ⟨2, ![1, 1024]⟩
abbrev S1x512 : Shape := ⟨2, ![1, 512]⟩
abbrev S_ : Shape := ⟨0, ![]⟩

class Facts : Prop where
  bcast_S_S16400x512 : S_.BroadcastsInDim S16400x512 (![] : Fin 0 → Fin S16400x512.rank)
  bcast_S_S16400x1024 : S_.BroadcastsInDim S16400x1024 (![] : Fin 0 → Fin S16400x1024.rank)
  bcast_S_S16384x1024 : S_.BroadcastsInDim S16384x1024 (![] : Fin 0 → Fin S16384x1024.rank)
  bcast_S_S1024x1024 : S_.BroadcastsInDim S1024x1024 (![] : Fin 0 → Fin S1024x1024.rank)
  bcast_S_S1x1024 : S_.BroadcastsInDim S1x1024 (![] : Fin 0 → Fin S1x1024.rank)
  bcast_S_S1x512 : S_.BroadcastsInDim S1x512 (![] : Fin 0 → Fin S1x512.rank)

variable [Facts]

def fn_part1 {F : FTy → Type} [FloatOps F] (main_arg6 : FVec F S1x1024 .f32) (main_arg7 : FVec F S1x512 .f32) (main_v2 : IVec S16400x512 1) (main_v5 : IVec S16400x512 1) (main_v8 : IVec S16400x512 1) (main_v11 : IVec S16400x1024 1) (main_v14 : IVec S16384x1024 1) (main_v17 : IVec S1024x1024 1) : IVec S16400x512 1 × IVec S16400x512 1 × IVec S16400x512 1 × IVec S16400x1024 1 × IVec S16384x1024 1 × IVec S1024x1024 1 × IVec S1x1024 1 × IVec S1x512 1 :=
  let main_v18 : FVec F S1x1024 .f32 := Host.absf main_arg6
  let main_cst_5 : FVec F S_ .f32 := constant S_ .f32 0x7F800000#32
  let main_v19 : FVec F S1x1024 .f32 := broadcastInDim S1x1024 ![] bcast_S_S1x1024 main_cst_5
  let main_v20 : IVec S1x1024 1 := cmpf .olt main_v18 main_v19
  let main_v21 : FVec F S1x512 .f32 := Host.absf main_arg7
  let main_cst_6 : FVec F S_ .f32 := constant S_ .f32 0x7F800000#32
  let main_v22 : FVec F S1x512 .f32 := broadcastInDim S1x512 ![] bcast_S_S1x512 main_cst_6
  let main_v23 : IVec S1x512 1 := cmpf .olt main_v21 main_v22
  (main_v2, main_v5, main_v8, main_v11, main_v14, main_v17, main_v20, main_v23)

def fn {F : FTy → Type} [FloatOps F] (main_arg0 : FVec F S16400x512 .f32) (main_arg1 : FVec F S16400x512 .f32) (main_arg2 : FVec F S16400x512 .f32) (main_arg3 : FVec F S16400x1024 .f32) (main_arg4 : FVec F S16384x1024 .f32) (main_arg5 : FVec F S1024x1024 .f32) (main_arg6 : FVec F S1x1024 .f32) (main_arg7 : FVec F S1x512 .f32) : IVec S16400x512 1 × IVec S16400x512 1 × IVec S16400x512 1 × IVec S16400x1024 1 × IVec S16384x1024 1 × IVec S1024x1024 1 × IVec S1x1024 1 × IVec S1x512 1 :=
  let main_v0 : FVec F S16400x512 .f32 := Host.absf main_arg0
  let main_cst : FVec F S_ .f32 := constant S_ .f32 0x7F800000#32
  let main_v1 : FVec F S16400x512 .f32 := broadcastInDim S16400x512 ![] bcast_S_S16400x512 main_cst
  let main_v2 : IVec S16400x512 1 := cmpf .olt main_v0 main_v1
  let main_v3 : FVec F S16400x512 .f32 := Host.absf main_arg1
  let main_cst_0 : FVec F S_ .f32 := constant S_ .f32 0x7F800000#32
  let main_v4 : FVec F S16400x512 .f32 := broadcastInDim S16400x512 ![] bcast_S_S16400x512 main_cst_0
  let main_v5 : IVec S16400x512 1 := cmpf .olt main_v3 main_v4
  let main_v6 : FVec F S16400x512 .f32 := Host.absf main_arg2
  let main_cst_1 : FVec F S_ .f32 := constant S_ .f32 0x7F800000#32
  let main_v7 : FVec F S16400x512 .f32 := broadcastInDim S16400x512 ![] bcast_S_S16400x512 main_cst_1
  let main_v8 : IVec S16400x512 1 := cmpf .olt main_v6 main_v7
  let main_v9 : FVec F S16400x1024 .f32 := Host.absf main_arg3
  let main_cst_2 : FVec F S_ .f32 := constant S_ .f32 0x7F800000#32
  let main_v10 : FVec F S16400x1024 .f32 := broadcastInDim S16400x1024 ![] bcast_S_S16400x1024 main_cst_2
  let main_v11 : IVec S16400x1024 1 := cmpf .olt main_v9 main_v10
  let main_v12 : FVec F S16384x1024 .f32 := Host.absf main_arg4
  let main_cst_3 : FVec F S_ .f32 := constant S_ .f32 0x7F800000#32
  let main_v13 : FVec F S16384x1024 .f32 := broadcastInDim S16384x1024 ![] bcast_S_S16384x1024 main_cst_3
  let main_v14 : IVec S16384x1024 1 := cmpf .olt main_v12 main_v13
  let main_v15 : FVec F S1024x1024 .f32 := Host.absf main_arg5
  let main_cst_4 : FVec F S_ .f32 := constant S_ .f32 0x7F800000#32
  let main_v16 : FVec F S1024x1024 .f32 := broadcastInDim S1024x1024 ![] bcast_S_S1024x1024 main_cst_4
  let main_v17 : IVec S1024x1024 1 := cmpf .olt main_v15 main_v16
  fn_part1 (F := F) main_arg6 main_arg7 main_v2 main_v5 main_v8 main_v11 main_v14 main_v17
-- ==== Kernel.lean ====
abbrev S8x16400x96 : Shape := ⟨3, ![8, 16400, 96]⟩
abbrev S8x16400x64 : Shape := ⟨3, ![8, 16400, 64]⟩
abbrev S_ : Shape := ⟨0, ![]⟩
abbrev S16400x8x96 : Shape := ⟨3, ![16400, 8, 96]⟩
abbrev S16400x768 : Shape := ⟨2, ![16400, 768]⟩
abbrev S240x768 : Shape := ⟨2, ![240, 768]⟩
abbrev S16640x768 : Shape := ⟨2, ![16640, 768]⟩
abbrev S8x2080x768 : Shape := ⟨3, ![8, 2080, 768]⟩
abbrev S2080x8x768 : Shape := ⟨3, ![2080, 8, 768]⟩
abbrev S16640x8x96 : Shape := ⟨3, ![16640, 8, 96]⟩
abbrev S16400x8x64 : Shape := ⟨3, ![16400, 8, 64]⟩
abbrev S16400x512 : Shape := ⟨2, ![16400, 512]⟩
abbrev S240x512 : Shape := ⟨2, ![240, 512]⟩
abbrev S16640x512 : Shape := ⟨2, ![16640, 512]⟩
abbrev S8x2080x512 : Shape := ⟨3, ![8, 2080, 512]⟩
abbrev S2080x8x512 : Shape := ⟨3, ![2080, 8, 512]⟩
abbrev S16640x8x64 : Shape := ⟨3, ![16640, 8, 64]⟩
abbrev S16640x8x1 : Shape := ⟨3, ![16640, 8, 1]⟩
abbrev S16640x8x63 : Shape := ⟨3, ![16640, 8, 63]⟩
abbrev S16640x8x128 : Shape := ⟨3, ![16640, 8, 128]⟩
abbrev S13x1280x8x96 : Shape := ⟨4, ![13, 1280, 8, 96]⟩
abbrev S8x13x96x1280 : Shape := ⟨4, ![8, 13, 96, 1280]⟩
abbrev S13x1280x8x128 : Shape := ⟨4, ![13, 1280, 8, 128]⟩
abbrev S8x13x128x1280 : Shape := ⟨4, ![8, 13, 128, 1280]⟩
abbrev S8x16640x96 : Shape := ⟨3, ![8, 16640, 96]⟩
abbrev S8x96x16640 : Shape := ⟨3, ![8, 96, 16640]⟩
abbrev S8x16640x64 : Shape := ⟨3, ![8, 16640, 64]⟩
abbrev S8x64x16640 : Shape := ⟨3, ![8, 64, 16640]⟩
abbrev S8x13x1x1280 : Shape := ⟨4, ![8, 13, 1, 1280]⟩
abbrev S1x1x96x1280 : Shape := ⟨4, ![1, 1, 96, 1280]⟩
abbrev S1x16640x96 : Shape := ⟨3, ![1, 16640, 96]⟩
abbrev S1x13x128x1280 : Shape := ⟨4, ![1, 13, 128, 1280]⟩
abbrev S1x64x1280 : Shape := ⟨3, ![1, 64, 1280]⟩
abbrev S1x1x1x1280 : Shape := ⟨4, ![1, 1, 1, 1280]⟩
abbrev S1x1280 : Shape := ⟨2, ![1, 1280]⟩
abbrev S128x1280 : Shape := ⟨2, ![128, 1280]⟩
abbrev S96x1280 : Shape := ⟨2, ![96, 1280]⟩
abbrev S1x1280x96 : Shape := ⟨3, ![1, 1280, 96]⟩
abbrev S1280x96 : Shape := ⟨2, ![1280, 96]⟩
abbrev S1280x1280 : Shape := ⟨2, ![1280, 1280]⟩
abbrev S1280 : Shape := ⟨1, ![1280]⟩
abbrev S1x1x128x1280 : Shape := ⟨4, ![1, 1, 128, 1280]⟩
abbrev S64x1280 : Shape := ⟨2, ![64, 1280]⟩
abbrev S16640x8 : Shape := ⟨2, ![16640, 8]⟩
abbrev S13x1280x8x64 : Shape := ⟨4, ![13, 1280, 8, 64]⟩
abbrev S8x13x64x1280 : Shape := ⟨4, ![8, 13, 64, 1280]⟩
abbrev S8x16640 : Shape := ⟨2, ![8, 16640]⟩
abbrev S1x13x96x1280 : Shape := ⟨4, ![1, 13, 96, 1280]⟩
abbrev S1x640x96 : Shape := ⟨3, ![1, 640, 96]⟩
abbrev S1x96x640 : Shape := ⟨3, ![1, 96, 640]⟩
abbrev S1x640x64 : Shape := ⟨3, ![1, 640, 64]⟩
abbrev S1x13x64x1280 : Shape := ⟨4, ![1, 13, 64, 1280]⟩
abbrev S1x13x1x1280 : Shape := ⟨4, ![1, 13, 1, 1280]⟩
abbrev S1x64x640 : Shape := ⟨3, ![1, 64, 640]⟩
abbrev S96x640 : Shape := ⟨2, ![96, 640]⟩
abbrev S64x640 : Shape := ⟨2, ![64, 640]⟩
abbrev S640x96 : Shape := ⟨2, ![640, 96]⟩
abbrev S640x64 : Shape := ⟨2, ![640, 64]⟩
abbrev S1x1x64x1280 : Shape := ⟨4, ![1, 1, 64, 1280]⟩
abbrev S640x1280 : Shape := ⟨2, ![640, 1280]⟩

abbrev nBuf : Space → Nat
  | .hbm => 115
  | .vmem => 34
  | .smem => 0
  | _ => 0

abbrev bufTy : (tb : Table) → Fin (tcTables nBuf tb) → BufTy
  | .hbm, ⟨0, _⟩ => ⟨S8x16400x96, .f32⟩
  | .hbm, ⟨1, _⟩ => ⟨S8x16400x96, .f32⟩
  | .hbm, ⟨2, _⟩ => ⟨S8x16400x64, .f32⟩
  | .hbm, ⟨3, _⟩ => ⟨S8x16400x64, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S16400x8x96, .f32⟩
  | .hbm, ⟨9, _⟩ => ⟨S16400x768, .f32⟩
  | .hbm, ⟨10, _⟩ => ⟨S_, .f32⟩
  | .hbm, ⟨11, _⟩ => ⟨S240x768, .f32⟩
  | .hbm, ⟨12, _⟩ => ⟨S16640x768, .f32⟩
  | .hbm, ⟨13, _⟩ => ⟨S8x2080x768, .f32⟩
  | .hbm, ⟨14, _⟩ => ⟨S2080x8x768, .f32⟩
  | .hbm, ⟨15, _⟩ => ⟨S16640x768, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S16640x768, .f32⟩
  | .hbm, ⟨20, _⟩ => ⟨S16640x768, .f32⟩
  | .hbm, ⟨21, _⟩ => ⟨S16640x768, .bf16⟩
  | .hbm, ⟨22, _⟩ => ⟨S16640x8x96, .bf16⟩
  | .hbm, ⟨23, _⟩ => ⟨S16400x8x96, .f32⟩
  | .hbm, ⟨24, _⟩ => ⟨S16400x768, .f32⟩
  | .hbm, ⟨25, _⟩ => ⟨S_, .f32⟩
  | .hbm, ⟨26, _⟩ => ⟨S240x768, .f32⟩
  | .hbm, ⟨27, _⟩ => ⟨S16640x768, .f32⟩
  | .hbm, ⟨28, _⟩ => ⟨S8x2080x768, .f32⟩
  | .hbm, ⟨29, _⟩ => ⟨S2080x8x768, .f32⟩
  | .hbm, ⟨30, _⟩ => ⟨S16640x768, .f32⟩
  | .hbm, ⟨31, _⟩ => ⟨S16640x768, .bf16⟩
  | .hbm, ⟨32, _⟩ => ⟨S16640x8x96, .bf16⟩
  | .hbm, ⟨33, _⟩ => ⟨S16400x8x64, .f32⟩
  | .hbm, ⟨34, _⟩ => ⟨S16400x512, .f32⟩
  | .hbm, ⟨35, _⟩ => ⟨S_, .f32⟩
  | .hbm, ⟨36, _⟩ => ⟨S240x512, .f32⟩
  | .hbm, ⟨37, _⟩ => ⟨S16640x512, .f32⟩
  | .hbm, ⟨38, _⟩ => ⟨S8x2080x512, .f32⟩
  | .hbm, ⟨39, _⟩ => ⟨S2080x8x512, .f32⟩
  | .hbm, ⟨40, _⟩ => ⟨S16640x512, .f32⟩
  | .hbm, ⟨41, _⟩ => ⟨S16640x512, .bf16⟩
  | .hbm, ⟨42, _⟩ => ⟨S16640x8x64, .bf16⟩
  | .hbm, ⟨43, _⟩ => ⟨S_, .bf16⟩
  | .hbm, ⟨44, _⟩ => ⟨S16640x8x1, .bf16⟩
  | .hbm, ⟨45, _⟩ => ⟨S_, .bf16⟩
  | .hbm, ⟨46, _⟩ => ⟨S16640x8x63, .bf16⟩
  | .hbm, ⟨47, _⟩ => ⟨S16640x8x128, .bf16⟩
  | .hbm, ⟨48, _⟩ => ⟨S13x1280x8x96, .bf16⟩
  | .hbm, ⟨49, _⟩ => ⟨S8x13x96x1280, .bf16⟩
  | .hbm, ⟨50, _⟩ => ⟨S13x1280x8x128, .bf16⟩
  | .hbm, ⟨51, _⟩ => ⟨S8x13x128x1280, .bf16⟩
  | .hbm, ⟨52, _⟩ => ⟨S8x16640x96, .bf16⟩
  | .hbm, ⟨53, _⟩ => ⟨S8x96x16640, .bf16⟩
  | .hbm, ⟨54, _⟩ => ⟨S8x16640x64, .bf16⟩
  | .hbm, ⟨55, _⟩ => ⟨S8x64x16640, .f32⟩
  | .hbm, ⟨56, _⟩ => ⟨S8x13x1x1280, .f32⟩
  | .hbm, ⟨57, _⟩ => ⟨S16640x8x64, .f32⟩
  | .hbm, ⟨58, _⟩ => ⟨S16640x512, .f32⟩
  | .hbm, ⟨59, _⟩ => ⟨S16400x8x64, .f32⟩
  | .hbm, ⟨60, _⟩ => ⟨S16400x512, .f32⟩
  | .hbm, ⟨61, _⟩ => ⟨S_, .f32⟩
  | .hbm, ⟨62, _⟩ => ⟨S240x512, .f32⟩
  | .hbm, ⟨63, _⟩ => ⟨S16640x512, .f32⟩
  | .hbm, ⟨64, _⟩ => ⟨S8x2080x512, .f32⟩
  | .hbm, ⟨65, _⟩ => ⟨S2080x8x512, .f32⟩
  | .hbm, ⟨66, _⟩ => ⟨S16640x512, .f32⟩
  | .hbm, ⟨67, _⟩ => ⟨S16640x512, .f32⟩
  | .hbm, ⟨68, _⟩ => ⟨S16640x8x64, .f32⟩
  | .hbm, ⟨69, _⟩ => ⟨S_, .f32⟩
  | .hbm, ⟨70, _⟩ => ⟨S16640x8, .f32⟩
  | .hbm, ⟨71, _⟩ => ⟨S16640x512, .bf16⟩
  | .hbm, ⟨72, _⟩ => ⟨S13x1280x8x64, .bf16⟩
  | .hbm, ⟨73, _⟩ => ⟨S8x13x64x1280, .bf16⟩
  | .hbm, ⟨74, _⟩ => ⟨S8x16640, .f32⟩
  | .hbm, ⟨75, _⟩ => ⟨S8x13x1x1280, .f32⟩
  | .hbm, ⟨76, _⟩ => ⟨S8x13x96x1280, .f32⟩
  | .hbm, ⟨77, _⟩ => ⟨S8x96x16640, .f32⟩
  | .hbm, ⟨78, _⟩ => ⟨S8x64x16640, .f32⟩
  | .hbm, ⟨79, _⟩ => ⟨S13x1280x8x96, .f32⟩
  | .hbm, ⟨80, _⟩ => ⟨S16640x768, .f32⟩
  | .hbm, ⟨81, _⟩ => ⟨S_, .f32⟩
  | .hbm, ⟨82, _⟩ => ⟨S_, .f32⟩
  | .hbm, ⟨83, _⟩ => ⟨S16640x768, .f32⟩
  | .hbm, ⟨84, _⟩ => ⟨S16640x768, .f32⟩
  | .hbm, ⟨85, _⟩ => ⟨S16640x8x96, .f32⟩
  | .hbm, ⟨86, _⟩ => ⟨S16640x768, .f32⟩
  | .hbm, ⟨87, _⟩ => ⟨S16640x768, .f32⟩
  | .hbm, ⟨88, _⟩ => ⟨S16640x768, .f32⟩
  | .hbm, ⟨89, _⟩ => ⟨S16640x8x64, .f32⟩
  | .hbm, ⟨90, _⟩ => ⟨S16640x512, .f32⟩
  | .hbm, ⟨91, _⟩ => ⟨S2080x8x512, .f32⟩
  | .hbm, ⟨92, _⟩ => ⟨S8x2080x512, .f32⟩
  | .hbm, ⟨93, _⟩ => ⟨S16640x512, .f32⟩
  | .hbm, ⟨94, _⟩ => ⟨S16400x512, .f32⟩
  | .hbm, ⟨95, _⟩ => ⟨S16400x8x64, .f32⟩
  | .hbm, ⟨96, _⟩ => ⟨S8x16400x64, .f32⟩
  | .hbm, ⟨97, _⟩ => ⟨S2080x8x768, .f32⟩
  | .hbm, ⟨98, _⟩ => ⟨S8x2080x768, .f32⟩
  | .hbm, ⟨99, _⟩ => ⟨S16640x768, .f32⟩
  | .hbm, ⟨100, _⟩ => ⟨S16400x768, .f32⟩
  | .hbm, ⟨101, _⟩ => ⟨S16400x8x96, .f32⟩
  | .hbm, ⟨102, _⟩ => ⟨S8x16400x96, .f32⟩
  | .hbm, ⟨103, _⟩ => ⟨S2080x8x768, .f32⟩
  | .hbm, ⟨104, _⟩ => ⟨S8x2080x768, .f32⟩
  | .hbm, ⟨105, _⟩ => ⟨S16640x768, .f32⟩
  | .hbm, ⟨106, _⟩ => ⟨S16400x768, .f32⟩
  | .hbm, ⟨107, _⟩ => ⟨S16400x8x96, .f32⟩
  | .hbm, ⟨108, _⟩ => ⟨S8x16400x96, .f32⟩
  | .hbm, ⟨109, _⟩ => ⟨S2080x8x512, .f32⟩
  | .hbm, ⟨110, _⟩ => ⟨S8x2080x512, .f32⟩
  | .hbm, ⟨111, _⟩ => ⟨S16640x512, .f32⟩
  | .hbm, ⟨112, _⟩ => ⟨S16400x512, .f32⟩
  | .hbm, ⟨113, _⟩ => ⟨S16400x8x64, .f32⟩
  | .hbm, ⟨114, _⟩ => ⟨S8x16400x64, .f32⟩
  | .local _ .vmem, ⟨0, _⟩ => ⟨S1x1x96x1280, .bf16⟩
  | .local _ .vmem, ⟨1, _⟩ => ⟨S1x1x96x1280, .bf16⟩
  | .local _ .vmem, ⟨2, _⟩ => ⟨S1x16640x96, .bf16⟩
  | .local _ .vmem, ⟨3, _⟩ => ⟨S1x16640x96, .bf16⟩
  | .local _ .vmem, ⟨4, _⟩ => ⟨S1x13x128x1280, .bf16⟩
  | .local _ .vmem, ⟨5, _⟩ => ⟨S1x13x128x1280, .bf16⟩
  | .local _ .vmem, ⟨6, _⟩ => ⟨S1x64x1280, .f32⟩
  | .local _ .vmem, ⟨7, _⟩ => ⟨S1x64x1280, .f32⟩
  | .local _ .vmem, ⟨8, _⟩ => ⟨S1x1x1x1280, .f32⟩
  | .local _ .vmem, ⟨9, _⟩ => ⟨S1x1x1x1280, .f32⟩
  | .local _ .vmem, ⟨10, _⟩ => ⟨S1x1280, .f32⟩
  | .local _ .vmem, ⟨11, _⟩ => ⟨S128x1280, .f32⟩
  | .local _ .vmem, ⟨12, _⟩ => ⟨S1x13x96x1280, .bf16⟩
  | .local _ .vmem, ⟨13, _⟩ => ⟨S1x13x96x1280, .bf16⟩
  | .local _ .vmem, ⟨14, _⟩ => ⟨S1x640x96, .bf16⟩
  | .local _ .vmem, ⟨15, _⟩ => ⟨S1x640x96, .bf16⟩
  | .local _ .vmem, ⟨16, _⟩ => ⟨S1x96x640, .bf16⟩
  | .local _ .vmem, ⟨17, _⟩ => ⟨S1x96x640, .bf16⟩
  | .local _ .vmem, ⟨18, _⟩ => ⟨S1x640x64, .bf16⟩
  | .local _ .vmem, ⟨19, _⟩ => ⟨S1x640x64, .bf16⟩
  | .local _ .vmem, ⟨20, _⟩ => ⟨S1x13x64x1280, .bf16⟩
  | .local _ .vmem, ⟨21, _⟩ => ⟨S1x13x64x1280, .bf16⟩
  | .local _ .vmem, ⟨22, _⟩ => ⟨S1x13x1x1280, .f32⟩
  | .local _ .vmem, ⟨23, _⟩ => ⟨S1x13x1x1280, .f32⟩
  | .local _ .vmem, ⟨24, _⟩ => ⟨S1x13x1x1280, .f32⟩
  | .local _ .vmem, ⟨25, _⟩ => ⟨S1x13x1x1280, .f32⟩
  | .local _ .vmem, ⟨26, _⟩ => ⟨S1x13x96x1280, .f32⟩
  | .local _ .vmem, ⟨27, _⟩ => ⟨S1x13x96x1280, .f32⟩
  | .local _ .vmem, ⟨28, _⟩ => ⟨S1x96x640, .f32⟩
  | .local _ .vmem, ⟨29, _⟩ => ⟨S1x96x640, .f32⟩
  | .local _ .vmem, ⟨30, _⟩ => ⟨S1x64x640, .f32⟩
  | .local _ .vmem, ⟨31, _⟩ => ⟨S1x64x640, .f32⟩
  | .local _ .vmem, ⟨32, _⟩ => ⟨S96x640, .f32⟩
  | .local _ .vmem, ⟨33, _⟩ => ⟨S64x640, .f32⟩
  | _, _ => ⟨S8x16400x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_4 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_5 : Ref sig .tc := ⟨.hbm, 43, rfl⟩
abbrev main_v33 : Ref sig .tc := ⟨.hbm, 44, rfl⟩
abbrev main_cst_6 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43_0 : Ref sig .tc := ⟨.hbm, 55, rfl⟩
abbrev main_v43_1 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_cst_7 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_cst_8 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61_0 : Ref sig .tc := ⟨.hbm, 76, rfl⟩
abbrev main_v61_1 : Ref sig .tc := ⟨.hbm, 77, rfl⟩
abbrev main_v61_2 : Ref sig .tc := ⟨.hbm, 78, rfl⟩
abbrev main_v62 : Ref sig .tc := ⟨.hbm, 79, rfl⟩
abbrev main_v63 : Ref sig .tc := ⟨.hbm, 80, rfl⟩
abbrev main_cst_9 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg4_1 : Ref sig .tc := ⟨.vmem, 21, rfl⟩
abbrev cc1_stg5_0 : Ref sig .tc := ⟨.vmem, 22, rfl⟩
abbrev cc1_stg5_1 : Ref sig .tc := ⟨.vmem, 23, rfl⟩
abbrev cc1_stg6_0 : Ref sig .tc := ⟨.vmem, 24, rfl⟩
abbrev cc1_stg6_1 : Ref sig .tc := ⟨.vmem, 25, rfl⟩
abbrev cc1_stg7_0 : Ref sig .tc := ⟨.vmem, 26, rfl⟩
abbrev cc1_stg7_1 : Ref sig .tc := ⟨.vmem, 27, rfl⟩
abbrev cc1_stg8_0 : Ref sig .tc := ⟨.vmem, 28, rfl⟩
abbrev cc1_stg8_1 : Ref sig .tc := ⟨.vmem, 29, rfl⟩
abbrev cc1_stg9_0 : Ref sig .tc := ⟨.vmem, 30, rfl⟩
abbrev cc1_stg9_1 : Ref sig .tc := ⟨.vmem, 31, rfl⟩
abbrev cc1_scratch0 : Ref sig .tc := ⟨.vmem, 32, rfl⟩
abbrev cc1_scratch1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc1_sem5_0 : DmaSem sig := 20
abbrev cc1_sem5_1 : DmaSem sig := 21
abbrev cc1_sem6_0 : DmaSem sig := 22
abbrev cc1_sem6_1 : DmaSem sig := 23
abbrev cc1_sem7_0 : DmaSem sig := 24
abbrev cc1_sem7_1 : DmaSem sig := 25
abbrev cc1_sem8_0 : DmaSem sig := 26
abbrev cc1_sem8_1 : DmaSem sig := 27
abbrev cc1_sem9_0 : DmaSem sig := 28
abbrev cc1_sem9_1 : DmaSem sig := 29

abbrev nD : Nat := 1
abbrev τ : Topo := Topo.v7x

variable {F : FTy → Type} [FloatOps F]

abbrev grid0 : Pipeline.Grid := ⟨2, ![8, 13], ![false, false]⟩

@[reducible] def k0_t1_loop : Scf.Loop 32 :=
  let c0_i32 : BitVec 32 := 0#32
  let c8_i32 : BitVec 32 := 8#32
  let v10 : BitVec 32 := Scalar.addi c0_i32 c8_i32
  let c1_i32 : BitVec 32 := 1#32
  ⟨c0_i32, v10, c1_i32⟩
def k0_mult1 (k0_t1 : Fin k0_t1_loop.trips) : BitVec 32 :=
  let c0_i32 : BitVec 32 := 0#32
  let c1_i32 : BitVec 32 := 1#32
  let arg9 : BitVec 32 := Scf.iv c0_i32 c1_i32 k0_t1
  let c1280_i32 : BitVec 32 := 1280#32
  let v195 : BitVec 32 := Scalar.muli arg9 c1280_i32
  v195
def k0_off1 (k0_t1 : Fin k0_t1_loop.trips) : Fin 3 → Nat :=
  let c0_107 : Index := 0#32
  let c0_i32 : BitVec 32 := 0#32
  let c1_i32 : BitVec 32 := 1#32
  let arg9 : BitVec 32 := Scf.iv c0_i32 c1_i32 k0_t1
  let c1280_i32 : BitVec 32 := 1280#32
  let v195 : BitVec 32 := Scalar.muli arg9 c1280_i32
  let v196 : BitVec 32 := v195
  let v197 : Index := Scalar.indexCast v196
  let c0_108 : Index := 0#32
  ![0, v197.toNat, 0]
def k0_off2 (k0_t1 : Fin k0_t1_loop.trips) : Fin 4 → Nat :=
  let c0_115 : Index := 0#32
  let c0_i32 : BitVec 32 := 0#32
  let c1_i32 : BitVec 32 := 1#32
  let arg9 : BitVec 32 := Scf.iv c0_i32 c1_i32 k0_t1
  let v213 : Index := Scalar.indexCast arg9
  let c0_116 : Index := 0#32
  let c0_117 : Index := 0#32
  ![0, v213.toNat, 0, 0]
def k0_mult2 : BitVec 32 :=
  let c10240_i32 : BitVec 32 := 10240#32
  c10240_i32
def k0_mult3 : BitVec 32 :=
  let c11520_i32 : BitVec 32 := 11520#32
  c11520_i32
def k0_mult4 : BitVec 32 :=
  let c12800_i32 : BitVec 32 := 12800#32
  c12800_i32
def k0_mult5 : BitVec 32 :=
  let c14080_i32 : BitVec 32 := 14080#32
  c14080_i32
def k0_mult6 : BitVec 32 :=
  let c15360_i32 : BitVec 32 := 15360#32
  c15360_i32
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1x96x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16640x96 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x13x128x1280 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x64x1280 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1x1280 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨2, ![8, 26], ![false, false]⟩

@[reducible] def k1_t1_loop : Scf.Loop 32 :=
  let c0_i32_14 : BitVec 32 := 0#32
  let c12_i32 : BitVec 32 := 12#32
  let v17 : BitVec 32 := Scalar.addi c0_i32_14 c12_i32
  let c1_i32 : BitVec 32 := 1#32
  ⟨c0_i32_14, v17, c1_i32⟩
def k1_off1 (k1_t1 : Fin k1_t1_loop.trips) : Fin 4 → Nat :=
  let c0_62 : Index := 0#32
  let c0_i32_14 : BitVec 32 := 0#32
  let c1_i32 : BitVec 32 := 1#32
  let arg14 : BitVec 32 := Scf.iv c0_i32_14 c1_i32 k1_t1
  let v63 : Index := Scalar.indexCast arg14
  let c0_63 : Index := 0#32
  let c0_64 : Index := 0#32
  ![0, v63.toNat, 0, 0]
def k1_off2 (k1_t1 : Fin k1_t1_loop.trips) : Fin 4 → Nat :=
  let c0_65 : Index := 0#32
  let c0_i32_14 : BitVec 32 := 0#32
  let c1_i32 : BitVec 32 := 1#32
  let arg14 : BitVec 32 := Scf.iv c0_i32_14 c1_i32 k1_t1
  let v66 : Index := Scalar.indexCast arg14
  let c0_66 : Index := 0#32
  let c0_67 : Index := 0#32
  ![0, v66.toNat, 0, 0]
def k1_off3 (k1_t1 : Fin k1_t1_loop.trips) : Fin 4 → Nat :=
  let c0_69 : Index := 0#32
  let c0_i32_14 : BitVec 32 := 0#32
  let c1_i32 : BitVec 32 := 1#32
  let arg14 : BitVec 32 := Scf.iv c0_i32_14 c1_i32 k1_t1
  let v70 : Index := Scalar.indexCast arg14
  let c0_70 : Index := 0#32
  let c0_71 : Index := 0#32
  ![0, v70.toNat, 0, 0]
def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_4 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_5 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_6 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_7 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_8 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_9 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage1_0 : Fin 2 → Memref sig .tc .vmem S1x13x96x1280 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1x640x96 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x96x640 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x640x64 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x13x64x1280 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S1x13x1x1280 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev stage1_6 : Fin 2 → Memref sig .tc .vmem S1x13x1x1280 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

abbrev stage1_7 : Fin 2 → Memref sig .tc .vmem S1x13x96x1280 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false]

abbrev stage1_8 : Fin 2 → Memref sig .tc .vmem S1x96x640 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true]

abbrev stage1_9 : Fin 2 → Memref sig .tc .vmem S1x64x640 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, true]
-- ==== KernelIdeal.lean ====
variable {F : FTy → Type} [FloatOps F] [Named F]
def κ : String → Option EReal := fun
  | "log2e" => some (((Real.log 2)⁻¹ : ℝ) : EReal)
  | "mask" => some ⊥
  | _ => none
-- ==== ReferenceIdeal.lean ====
abbrev S8x16400x96 : Shape := ⟨3, ![8, 16400, 96]⟩
abbrev S8x16400x64 : Shape := ⟨3, ![8, 16400, 64]⟩
abbrev S_ : Shape := ⟨0, ![]⟩
abbrev S8x16400x16400 : Shape := ⟨3, ![8, 16400, 16400]⟩
abbrev S8x16400 : Shape := ⟨2, ![8, 16400]⟩
abbrev S8x16400x1 : Shape := ⟨3, ![8, 16400, 1]⟩
abbrev S8x64x16400 : Shape := ⟨3, ![8, 64, 16400]⟩

abbrev nBuf : Space → Nat
  | .hbm => 71
  | .vmem => 0
  | .smem => 0
  | _ => 0

abbrev bufTy : (tb : Table) → Fin (tcTables nBuf tb) → BufTy
  | .hbm, ⟨0, _⟩ => ⟨S8x16400x96, .f32⟩
  | .hbm, ⟨1, _⟩ => ⟨S8x16400x96, .f32⟩
  | .hbm, ⟨2, _⟩ => ⟨S8x16400x64, .f32⟩
  | .hbm, ⟨3, _⟩ => ⟨S8x16400x64, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S8x16400x16400, .f32⟩
  | .hbm, ⟨9, _⟩ => ⟨S8x16400x16400, .f32⟩
  | .hbm, ⟨10, _⟩ => ⟨S8x16400x16400, .f32⟩
  | .hbm, ⟨11, _⟩ => ⟨S_, .f32⟩
  | .hbm, ⟨12, _⟩ => ⟨S8x16400, .f32⟩
  | .hbm, ⟨13, _⟩ => ⟨S8x16400x1, .f32⟩
  | .hbm, ⟨14, _⟩ => ⟨S8x16400x16400, .f32⟩
  | .hbm, ⟨15, _⟩ => ⟨S8x16400x16400, .i1⟩
  | .hbm, ⟨16, _⟩ => ⟨S8x16400x16400, .f32⟩
  | .hbm, ⟨17, _⟩ => ⟨S_, .f32⟩
  | .hbm, ⟨18, _⟩ => ⟨S8x16400, .f32⟩
  | .hbm, ⟨19, _⟩ => ⟨S_, .f32⟩
  | .hbm, ⟨20, _⟩ => ⟨S8x16400, .f32⟩
  | .hbm, ⟨21, _⟩ => ⟨S8x16400, .f32⟩
  | .hbm, ⟨22, _⟩ => ⟨S_, .f32⟩
  | .hbm, ⟨23, _⟩ => ⟨S8x16400, .f32⟩
  | .hbm, ⟨24, _⟩ => ⟨S8x16400, .i1⟩
  | .hbm, ⟨25, _⟩ => ⟨S_, .f32⟩
  | .hbm, ⟨26, _⟩ => ⟨S8x16400, .f32⟩
  | .hbm, ⟨27, _⟩ => ⟨S8x16400, .i1⟩
  | .hbm, ⟨28, _⟩ => ⟨S_, .f32⟩
  | .hbm, ⟨29, _⟩ => ⟨S8x16400, .f32⟩
  | .hbm, ⟨30, _⟩ => ⟨S_, .f32⟩
  | .hbm, ⟨31, _⟩ => ⟨S8x16400, .f32⟩
  | .hbm, ⟨32, _⟩ => ⟨S_, .f32⟩
  | .hbm, ⟨33, _⟩ => ⟨S8x16400, .f32⟩
  | .hbm, ⟨34, _⟩ => ⟨S8x16400, .f32⟩
  | .hbm, ⟨35, _⟩ => ⟨S8x16400, .f32⟩
  | .hbm, ⟨36, _⟩ => ⟨S8x16400x1, .f32⟩
  | .hbm, ⟨37, _⟩ => ⟨S8x16400x16400, .f32⟩
  | .hbm, ⟨38, _⟩ => ⟨S8x16400x16400, .f32⟩
  | .hbm, ⟨39, _⟩ => ⟨S8x16400x16400, .f32⟩
  | .hbm, ⟨40, _⟩ => ⟨S_, .f32⟩
  | .hbm, ⟨41, _⟩ => ⟨S8x16400, .f32⟩
  | .hbm, ⟨42, _⟩ => ⟨S8x16400x1, .f32⟩
  | .hbm, ⟨43, _⟩ => ⟨S8x16400x16400, .f32⟩
  | .hbm, ⟨44, _⟩ => ⟨S8x16400x16400, .f32⟩
  | .hbm, ⟨45, _⟩ => ⟨S8x16400x1, .f32⟩
  | .hbm, ⟨46, _⟩ => ⟨S_, .f32⟩
  | .hbm, ⟨47, _⟩ => ⟨S8x16400x1, .f32⟩
  | .hbm, ⟨48, _⟩ => ⟨S8x16400x1, .f32⟩
  | .hbm, ⟨49, _⟩ => ⟨S8x16400x64, .f32⟩
  | .hbm, ⟨50, _⟩ => ⟨S8x64x16400, .f32⟩
  | .hbm, ⟨51, _⟩ => ⟨S8x16400x64, .f32⟩
  | .hbm, ⟨52, _⟩ => ⟨S8x16400x16400, .f32⟩
  | .hbm, ⟨53, _⟩ => ⟨S8x16400x16400, .f32⟩
  | .hbm, ⟨54, _⟩ => ⟨S8x16400x16400, .f32⟩
  | .hbm, ⟨55, _⟩ => ⟨S8x16400x16400, .f32⟩
  | .hbm, ⟨56, _⟩ => ⟨S_, .f32⟩
  | .hbm, ⟨57, _⟩ => ⟨S8x16400, .f32⟩
  | .hbm, ⟨58, _⟩ => ⟨S8x16400x1, .f32⟩
  | .hbm, ⟨59, _⟩ => ⟨S8x16400x1, .f32⟩
  | .hbm, ⟨60, _⟩ => ⟨S8x16400x16400, .f32⟩
  | .hbm, ⟨61, _⟩ => ⟨S8x16400x16400, .f32⟩
  | .hbm, ⟨62, _⟩ => ⟨S_, .f32⟩
  | .hbm, ⟨63, _⟩ => ⟨S8x16400, .f32⟩
  | .hbm, ⟨64, _⟩ => ⟨S8x16400x16400, .f32⟩
  | .hbm, ⟨65, _⟩ => ⟨S8x16400x16400, .f32⟩
  | .hbm, ⟨66, _⟩ => ⟨S8x16400x16400, .f32⟩
  | .hbm, ⟨67, _⟩ => ⟨S8x16400x16400, .f32⟩
  | .hbm, ⟨68, _⟩ => ⟨S8x16400x16400, .f32⟩
  | .hbm, ⟨69, _⟩ => ⟨S8x16400x96, .f32⟩
  | .hbm, ⟨70, _⟩ => ⟨S8x16400x96, .f32⟩
  | _, _ => ⟨S8x16400x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_cst_7 : Ref sig .tc := ⟨.hbm, 30, rfl⟩
abbrev main_v18 : Ref sig .tc := ⟨.hbm, 31, rfl⟩
abbrev main_cst_8 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_9 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_10 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_11 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_12 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩

abbrev nD : Nat := 1
abbrev τ : Topo := Topo.v7x

variable {F : FTy → Type} [FloatOps F]
-- ==== Kernel2.lean ====
abbrev S8x6144x128 : Shape := ⟨3, ![8, 6144, 128]⟩
abbrev S6144x128 : Shape := ⟨2, ![6144, 128]⟩
abbrev S8x512x128 : Shape := ⟨3, ![8, 512, 128]⟩
abbrev S512x128 : Shape := ⟨2, ![512, 128]⟩
abbrev S1x512x128 : Shape := ⟨3, ![1, 512, 128]⟩

abbrev nBuf : Space → Nat
  | .hbm => 8
  | .vmem => 16
  | .smem => 0
  | _ => 0

abbrev bufTy : (tb : Table) → Fin (tcTables nBuf tb) → BufTy
  | .hbm, ⟨0, _⟩ => ⟨S8x6144x128, .f32⟩
  | .hbm, ⟨1, _⟩ => ⟨S6144x128, .f32⟩
  | .hbm, ⟨2, _⟩ => ⟨S6144x128, .f32⟩
  | .hbm, ⟨3, _⟩ => ⟨S6144x128, .f32⟩
  | .hbm, ⟨4, _⟩ => ⟨S6144x128, .f32⟩
  | .hbm, ⟨5, _⟩ => ⟨S6144x128, .f32⟩
  | .hbm, ⟨6, _⟩ => ⟨S6144x128, .f32⟩
  | .hbm, ⟨7, _⟩ => ⟨S6144x128, .f32⟩
  | .local _ .vmem, ⟨0, _⟩ => ⟨S8x512x128, .f32⟩
  | .local _ .vmem, ⟨1, _⟩ => ⟨S8x512x128, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S512x128, .f32⟩
  | _, _ => ⟨S8x6144x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![12], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference2Ideal.lean ====
abbrev S8x6144x128 : Shape := ⟨3, ![8, 6144, 128]⟩
abbrev S6144x128 : Shape := ⟨2, ![6144, 128]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x6144x128, .f32⟩
  | .hbm, ⟨1, _⟩ => ⟨S6144x128, .f32⟩
  | .hbm, ⟨2, _⟩ => ⟨S6144x128, .f32⟩
  | .hbm, ⟨3, _⟩ => ⟨S6144x128, .f32⟩
  | .hbm, ⟨4, _⟩ => ⟨S_, .f32⟩
  | .hbm, ⟨5, _⟩ => ⟨S6144x128, .f32⟩
  | .hbm, ⟨6, _⟩ => ⟨S_, .f32⟩
  | .hbm, ⟨7, _⟩ => ⟨S6144x128, .f32⟩
  | .hbm, ⟨8, _⟩ => ⟨S6144x128, .f32⟩
  | .hbm, ⟨9, _⟩ => ⟨S_, .f32⟩
  | .hbm, ⟨10, _⟩ => ⟨S6144x128, .f32⟩
  | .hbm, ⟨11, _⟩ => ⟨S6144x128, .f32⟩
  | .hbm, ⟨12, _⟩ => ⟨S6144x128, .f32⟩
  | .hbm, ⟨13, _⟩ => ⟨S_, .f32⟩
  | .hbm, ⟨14, _⟩ => ⟨S6144x128, .f32⟩
  | .hbm, ⟨15, _⟩ => ⟨S6144x128, .f32⟩
  | .hbm, ⟨16, _⟩ => ⟨S6144x128, .f32⟩
  | .hbm, ⟨17, _⟩ => ⟨S_, .f32⟩
  | .hbm, ⟨18, _⟩ => ⟨S6144x128, .f32⟩
  | .hbm, ⟨19, _⟩ => ⟨S6144x128, .f32⟩
  | .hbm, ⟨20, _⟩ => ⟨S6144x128, .f32⟩
  | .hbm, ⟨21, _⟩ => ⟨S_, .f32⟩
  | .hbm, ⟨22, _⟩ => ⟨S6144x128, .f32⟩
  | .hbm, ⟨23, _⟩ => ⟨S6144x128, .f32⟩
  | .hbm, ⟨24, _⟩ => ⟨S_, .f32⟩
  | .hbm, ⟨25, _⟩ => ⟨S6144x128, .f32⟩
  | .hbm, ⟨26, _⟩ => ⟨S6144x128, .f32⟩
  | .hbm, ⟨27, _⟩ => ⟨S6144x128, .f32⟩
  | .hbm, ⟨28, _⟩ => ⟨S_, .f32⟩
  | .hbm, ⟨29, _⟩ => ⟨S6144x128, .f32⟩
  | .hbm, ⟨30, _⟩ => ⟨S6144x128, .f32⟩
  | .hbm, ⟨31, _⟩ => ⟨S6144x128, .f32⟩
  | .hbm, ⟨32, _⟩ => ⟨S_, .f32⟩
  | .hbm, ⟨33, _⟩ => ⟨S6144x128, .f32⟩
  | .hbm, ⟨34, _⟩ => ⟨S6144x128, .f32⟩
  | .hbm, ⟨35, _⟩ => ⟨S6144x128, .f32⟩
  | .hbm, ⟨36, _⟩ => ⟨S_, .f32⟩
  | .hbm, ⟨37, _⟩ => ⟨S6144x128, .f32⟩
  | .hbm, ⟨38, _⟩ => ⟨S6144x128, .f32⟩
  | _, _ => ⟨S8x6144x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel3.lean ====
abbrev S16640x256 : Shape := ⟨2, ![16640, 256]⟩
abbrev S16640x128 : Shape := ⟨2, ![16640, 128]⟩
abbrev S16640x32 : Shape := ⟨2, ![16640, 32]⟩
abbrev S16640x512 : Shape := ⟨2, ![16640, 512]⟩
abbrev S16640x1024 : Shape := ⟨2, ![16640, 1024]⟩
abbrev S1x1024 : Shape := ⟨2, ![1, 1024]⟩
abbrev S1024x1952 : Shape := ⟨2, ![1024, 1952]⟩
abbrev S1x512 : Shape := ⟨2, ![1, 512]⟩
abbrev S1024x384 : Shape := ⟨2, ![1024, 384]⟩
abbrev S1024x1536 : Shape := ⟨2, ![1024, 1536]⟩
abbrev S1024x32 : Shape := ⟨2, ![1024, 32]⟩
abbrev S_ : Shape := ⟨0, ![]⟩
abbrev S1024x96 : Shape := ⟨2, ![1024, 96]⟩
abbrev S1024x2048 : Shape := ⟨2, ![1024, 2048]⟩
abbrev S256x256 : Shape := ⟨2, ![256, 256]⟩
abbrev S256x128 : Shape := ⟨2, ![256, 128]⟩
abbrev S256x512 : Shape := ⟨2, ![256, 512]⟩
abbrev S256x32 : Shape := ⟨2, ![256, 32]⟩
abbrev S256x1024 : Shape := ⟨2, ![256, 1024]⟩
abbrev S256x96 : Shape := ⟨2, ![256, 96]⟩
abbrev S256x2048 : Shape := ⟨2, ![256, 2048]⟩
abbrev S256 : Shape := ⟨1, ![256]⟩
abbrev S256x1 : Shape := ⟨2, ![256, 1]⟩
abbrev S1024 : Shape := ⟨1, ![1024]⟩

abbrev nBuf : Space → Nat
  | .hbm => 29
  | .vmem => 27
  | .smem => 0
  | _ => 0

abbrev bufTy : (tb : Table) → Fin (tcTables nBuf tb) → BufTy
  | .hbm, ⟨0, _⟩ => ⟨S16640x256, .f32⟩
  | .hbm, ⟨1, _⟩ => ⟨S16640x128, .f32⟩
  | .hbm, ⟨2, _⟩ => ⟨S16640x32, .f32⟩
  | .hbm, ⟨3, _⟩ => ⟨S16640x512, .f32⟩
  | .hbm, ⟨4, _⟩ => ⟨S16640x512, .f32⟩
  | .hbm, ⟨5, _⟩ => ⟨S16640x512, .f32⟩
  | .hbm, ⟨6, _⟩ => ⟨S16640x512, .f32⟩
  | .hbm, ⟨7, _⟩ => ⟨S16640x512, .f32⟩
  | .hbm, ⟨8, _⟩ => ⟨S16640x1024, .f32⟩
  | .hbm, ⟨9, _⟩ => ⟨S16640x1024, .f32⟩
  | .hbm, ⟨10, _⟩ => ⟨S1x1024, .f32⟩
  | .hbm, ⟨11, _⟩ => ⟨S1024x1952, .f32⟩
  | .hbm, ⟨12, _⟩ => ⟨S1x512, .f32⟩
  | .hbm, ⟨13, _⟩ => ⟨S1024x384, .f32⟩
  | .hbm, ⟨14, _⟩ => ⟨S1024x1536, .f32⟩
  | .hbm, ⟨15, _⟩ => ⟨S1024x32, .f32⟩
  | .hbm, ⟨16, _⟩ => ⟨S1024x1952, .f32⟩
  | .hbm, ⟨17, _⟩ => ⟨S_, .f32⟩
  | .hbm, ⟨18, _⟩ => ⟨S1024x96, .f32⟩
  | .hbm, ⟨19, _⟩ => ⟨S1024x2048, .f32⟩
  | .hbm, ⟨20, _⟩ => ⟨S1024x2048, .bf16⟩
  | .hbm, ⟨21, _⟩ => ⟨S16640x1024, .f32⟩
  | .hbm, ⟨22, _⟩ => ⟨S1024x2048, .f32⟩
  | .hbm, ⟨23, _⟩ => ⟨S1x1024, .f32⟩
  | .hbm, ⟨24, _⟩ => ⟨S1024x1952, .f32⟩
  | .hbm, ⟨25, _⟩ => ⟨S1024x384, .f32⟩
  | .hbm, ⟨26, _⟩ => ⟨S1024x32, .f32⟩
  | .hbm, ⟨27, _⟩ => ⟨S1024x1536, .f32⟩
  | .hbm, ⟨28, _⟩ => ⟨S1024x1952, .f32⟩
  | .local _ .vmem, ⟨0, _⟩ => ⟨S256x256, .f32⟩
  | .local _ .vmem, ⟨1, _⟩ => ⟨S256x256, .f32⟩
  | .local _ .vmem, ⟨2, _⟩ => ⟨S256x128, .f32⟩
  | .local _ .vmem, ⟨3, _⟩ => ⟨S256x128, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S256x32, .f32⟩
  | .local _ .vmem, ⟨15, _⟩ => ⟨S256x32, .f32⟩
  | .local _ .vmem, ⟨16, _⟩ => ⟨S256x1024, .f32⟩
  | .local _ .vmem, ⟨17, _⟩ => ⟨S256x1024, .f32⟩
  | .local _ .vmem, ⟨18, _⟩ => ⟨S256x1024, .f32⟩
  | .local _ .vmem, ⟨19, _⟩ => ⟨S256x1024, .f32⟩
  | .local _ .vmem, ⟨20, _⟩ => ⟨S1x1024, .f32⟩
  | .local _ .vmem, ⟨21, _⟩ => ⟨S1024x2048, .bf16⟩
  | .local _ .vmem, ⟨22, _⟩ => ⟨S1x512, .f32⟩
  | .local _ .vmem, ⟨23, _⟩ => ⟨S256x1024, .f32⟩
  | .local _ .vmem, ⟨24, _⟩ => ⟨S256x1024, .f32⟩
  | .local _ .vmem, ⟨25, _⟩ => ⟨S1024x2048, .f32⟩
  | .local _ .vmem, ⟨26, _⟩ => ⟨S1x1024, .f32⟩
  | _, _ => ⟨S16640x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7_0 : Ref sig .tc := ⟨.hbm, 21, rfl⟩
abbrev main_v7_1 : Ref sig .tc := ⟨.hbm, 22, rfl⟩
abbrev main_v7_2 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg15_0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem12_0 : DmaSem sig := 22
abbrev cc0_sem13_0 : DmaSem sig := 23
abbrev cc0_sem13_1 : DmaSem sig := 24
abbrev cc0_sem14_0 : DmaSem sig := 25
abbrev cc0_sem15_0 : DmaSem sig := 26

abbrev nD : Nat := 1
abbrev τ : Topo := Topo.v7x

variable {F : FTy → Type} [FloatOps F]

abbrev grid0 : Pipeline.Grid := ⟨1, ![65], ![false]⟩

def k0_cond1 (i : grid0.Coords) : BitVec 1 :=
  let arg0 : BitVec 32 := BitVec.ofNat 32 (i 0).val
  let c0_i32 : BitVec 32 := 0#32
  let v32 : BitVec 1 := Scalar.cmpi .eq arg0 c0_i32
  let v33 : BitVec 32 := Scalar.extui v32
  let c0_i32_25 : BitVec 32 := 0#32
  let v34 : BitVec 1 := Scalar.cmpi .ne v33 c0_i32_25
  v34

def k0_cond2 (i : grid0.Coords) : BitVec 1 :=
  let arg0 : BitVec 32 := BitVec.ofNat 32 (i 0).val
  let c0_i32 : BitVec 32 := 0#32
  let v32 : BitVec 1 := Scalar.cmpi .eq arg0 c0_i32
  let v_true : BitVec 1 := 1#1
  let v35 : BitVec 1 := Scalar.xori v32 v_true
  let v36 : BitVec 32 := Scalar.extui v35
  let c0_i32_26 : BitVec 32 := 0#32
  let v37 : BitVec 1 := Scalar.cmpi .ne v36 c0_i32_26
  v37

def k0_cond3 (i : grid0.Coords) : BitVec 1 :=
  let arg0 : BitVec 32 := BitVec.ofNat 32 (i 0).val
  let c0_i32_33 : BitVec 32 := 0#32
  let v59 : BitVec 1 := Scalar.cmpi .eq arg0 c0_i32_33
  let v60 : BitVec 32 := Scalar.extui v59
  let c0_i32_34 : BitVec 32 := 0#32
  let v61 : BitVec 1 := Scalar.cmpi .ne v60 c0_i32_34
  v61

def k0_cond4 (i : grid0.Coords) : BitVec 1 :=
  let arg0 : BitVec 32 := BitVec.ofNat 32 (i 0).val
  let c0_i32_33 : BitVec 32 := 0#32
  let v59 : BitVec 1 := Scalar.cmpi .eq arg0 c0_i32_33
  let true_35 : BitVec 1 := 1#1
  let v62 : BitVec 1 := Scalar.xori v59 true_35
  let v63 : BitVec 32 := Scalar.extui v62
  let c0_i32_36 : BitVec 32 := 0#32
  let v64 : BitVec 1 := Scalar.cmpi .ne v63 c0_i32_36
  v64

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x32 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x2048 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S1024x2048 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== Reference3Ideal.lean ====
abbrev S16640x256 : Shape := ⟨2, ![16640, 256]⟩
abbrev S16640x128 : Shape := ⟨2, ![16640, 128]⟩
abbrev S16640x32 : Shape := ⟨2, ![16640, 32]⟩
abbrev S16640x512 : Shape := ⟨2, ![16640, 512]⟩
abbrev S16640x1024 : Shape := ⟨2, ![16640, 1024]⟩
abbrev S1x1024 : Shape := ⟨2, ![1, 1024]⟩
abbrev S1024x1952 : Shape := ⟨2, ![1024, 1952]⟩
abbrev S1x512 : Shape := ⟨2, ![1, 512]⟩
abbrev S_ : Shape := ⟨0, ![]⟩
abbrev S16640 : Shape := ⟨1, ![16640]⟩
abbrev S16640x1 : Shape := ⟨2, ![16640, 1]⟩
abbrev S16640x1952 : Shape := ⟨2, ![16640, 1952]⟩
abbrev S1952x1024 : Shape := ⟨2, ![1952, 1024]⟩
abbrev S1024 : Shape := ⟨1, ![1024]⟩

abbrev nBuf : Space → Nat
  | .hbm => 73
  | .vmem => 0
  | .smem => 0
  | _ => 0

abbrev bufTy : (tb : Table) → Fin (tcTables nBuf tb) → BufTy
  | .hbm, ⟨0, _⟩ => ⟨S16640x256, .f32⟩
  | .hbm, ⟨1, _⟩ => ⟨S16640x128, .f32⟩
  | .hbm, ⟨2, _⟩ => ⟨S16640x32, .f32⟩
  | .hbm, ⟨3, _⟩ => ⟨S16640x512, .f32⟩
  | .hbm, ⟨4, _⟩ => ⟨S16640x512, .f32⟩
  | .hbm, ⟨5, _⟩ => ⟨S16640x512, .f32⟩
  | .hbm, ⟨6, _⟩ => ⟨S16640x512, .f32⟩
  | .hbm, ⟨7, _⟩ => ⟨S16640x512, .f32⟩
  | .hbm, ⟨8, _⟩ => ⟨S16640x1024, .f32⟩
  | .hbm, ⟨9, _⟩ => ⟨S16640x1024, .f32⟩
  | .hbm, ⟨10, _⟩ => ⟨S1x1024, .f32⟩
  | .hbm, ⟨11, _⟩ => ⟨S1024x1952, .f32⟩
  | .hbm, ⟨12, _⟩ => ⟨S1x512, .f32⟩
  | .hbm, ⟨13, _⟩ => ⟨S16640x1024, .f32⟩
  | .hbm, ⟨14, _⟩ => ⟨S_, .f32⟩
  | .hbm, ⟨15, _⟩ => ⟨S16640, .f32⟩
  | .hbm, ⟨16, _⟩ => ⟨S16640x1, .f32⟩
  | .hbm, ⟨17, _⟩ => ⟨S_, .f32⟩
  | .hbm, ⟨18, _⟩ => ⟨S16640x1, .f32⟩
  | .hbm, ⟨19, _⟩ => ⟨S16640x1, .f32⟩
  | .hbm, ⟨20, _⟩ => ⟨S_, .f32⟩
  | .hbm, ⟨21, _⟩ => ⟨S16640x1, .f32⟩
  | .hbm, ⟨22, _⟩ => ⟨S16640x1, .f32⟩
  | .hbm, ⟨23, _⟩ => ⟨S16640x1, .f32⟩
  | .hbm, ⟨24, _⟩ => ⟨S16640x1, .f32⟩
  | .hbm, ⟨25, _⟩ => ⟨S_, .f32⟩
  | .hbm, ⟨26, _⟩ => ⟨S16640x1, .f32⟩
  | .hbm, ⟨27, _⟩ => ⟨S16640x1, .f32⟩
  | .hbm, ⟨28, _⟩ => ⟨S16640x1024, .f32⟩
  | .hbm, ⟨29, _⟩ => ⟨S16640x1024, .f32⟩
  | .hbm, ⟨30, _⟩ => ⟨S16640x1024, .f32⟩
  | .hbm, ⟨31, _⟩ => ⟨S16640x1024, .f32⟩
  | .hbm, ⟨32, _⟩ => ⟨S16640x1952, .f32⟩
  | .hbm, ⟨33, _⟩ => ⟨S16640x256, .f32⟩
  | .hbm, ⟨34, _⟩ => ⟨S16640x128, .f32⟩
  | .hbm, ⟨35, _⟩ => ⟨S16640x32, .f32⟩
  | .hbm, ⟨36, _⟩ => ⟨S16640x512, .f32⟩
  | .hbm, ⟨37, _⟩ => ⟨S16640x512, .f32⟩
  | .hbm, ⟨38, _⟩ => ⟨S16640x512, .f32⟩
  | .hbm, ⟨39, _⟩ => ⟨S16640x512, .f32⟩
  | .hbm, ⟨40, _⟩ => ⟨S16640x512, .f32⟩
  | .hbm, ⟨41, _⟩ => ⟨S16640x512, .f32⟩
  | .hbm, ⟨42, _⟩ => ⟨S16640x512, .f32⟩
  | .hbm, ⟨43, _⟩ => ⟨S16640x512, .f32⟩
  | .hbm, ⟨44, _⟩ => ⟨S16640x512, .f32⟩
  | .hbm, ⟨45, _⟩ => ⟨S16640x1952, .f32⟩
  | .hbm, ⟨46, _⟩ => ⟨S1952x1024, .f32⟩
  | .hbm, ⟨47, _⟩ => ⟨S1024x1952, .f32⟩
  | .hbm, ⟨48, _⟩ => ⟨S16640x1024, .f32⟩
  | .hbm, ⟨49, _⟩ => ⟨S16640x1024, .f32⟩
  | .hbm, ⟨50, _⟩ => ⟨S_, .f32⟩
  | .hbm, ⟨51, _⟩ => ⟨S1024, .f32⟩
  | .hbm, ⟨52, _⟩ => ⟨S1x1024, .f32⟩
  | .hbm, ⟨53, _⟩ => ⟨S16640x1024, .f32⟩
  | .hbm, ⟨54, _⟩ => ⟨S16640x1024, .f32⟩
  | .hbm, ⟨55, _⟩ => ⟨S16640x1024, .f32⟩
  | .hbm, ⟨56, _⟩ => ⟨S_, .f32⟩
  | .hbm, ⟨57, _⟩ => ⟨S16640, .f32⟩
  | .hbm, ⟨58, _⟩ => ⟨S16640x1, .f32⟩
  | .hbm, ⟨59, _⟩ => ⟨S16640x1024, .f32⟩
  | .hbm, ⟨60, _⟩ => ⟨S16640x1024, .f32⟩
  | .hbm, ⟨61, _⟩ => ⟨S16640x1024, .f32⟩
  | .hbm, ⟨62, _⟩ => ⟨S16640x1, .f32⟩
  | .hbm, ⟨63, _⟩ => ⟨S_, .f32⟩
  | .hbm, ⟨64, _⟩ => ⟨S16640x1, .f32⟩
  | .hbm, ⟨65, _⟩ => ⟨S16640x1, .f32⟩
  | .hbm, ⟨66, _⟩ => ⟨S_, .f32⟩
  | .hbm, ⟨67, _⟩ => ⟨S16640, .f32⟩
  | .hbm, ⟨68, _⟩ => ⟨S16640x1024, .f32⟩
  | .hbm, ⟨69, _⟩ => ⟨S16640x1024, .f32⟩
  | .hbm, ⟨70, _⟩ => ⟨S16640x1024, .f32⟩
  | .hbm, ⟨71, _⟩ => ⟨S16640x1024, .f32⟩
  | .hbm, ⟨72, _⟩ => ⟨S16640x1024, .f32⟩
  | _, _ => ⟨S16640x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_cst : Ref sig .tc := ⟨.hbm, 14, rfl⟩
abbrev main_v1 : Ref sig .tc := ⟨.hbm, 15, rfl⟩
abbrev main_v2 : Ref sig .tc := ⟨.hbm, 16, rfl⟩
abbrev main_cst_0 : Ref sig .tc := ⟨.hbm, 17, rfl⟩
abbrev main_v3 : Ref sig .tc := ⟨.hbm, 18, rfl⟩
abbrev main_v4 : Ref sig .tc := ⟨.hbm, 19, rfl⟩
abbrev main_cst_1 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_cst_2 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_3 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_4 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_5 : Ref sig .tc := ⟨.hbm, 63, rfl⟩
abbrev main_v44 : Ref sig .tc := ⟨.hbm, 64, rfl⟩
abbrev main_v45 : Ref sig .tc := ⟨.hbm, 65, rfl⟩
abbrev main_cst_6 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩

abbrev nD : Nat := 1
abbrev τ : Topo := Topo.v7x

variable {F : FTy → Type} [FloatOps F]
-- ==== Kernel4.lean ====
abbrev S16400x512 : Shape := ⟨2, ![16400, 512]⟩
abbrev S16400x1024 : Shape := ⟨2, ![16400, 1024]⟩
abbrev S16384x1024 : Shape := ⟨2, ![16384, 1024]⟩
abbrev S1024x1024 : Shape := ⟨2, ![1024, 1024]⟩
abbrev S1x1024 : Shape := ⟨2, ![1, 1024]⟩
abbrev S1x512 : Shape := ⟨2, ![1, 512]⟩
abbrev S512x8 : Shape := ⟨2, ![512, 8]⟩
abbrev S_ : Shape := ⟨0, ![]⟩
abbrev S16x1024 : Shape := ⟨2, ![16, 1024]⟩
abbrev S240x1024 : Shape := ⟨2, ![240, 1024]⟩
abbrev S16640x1024 : Shape := ⟨2, ![16640, 1024]⟩
abbrev S8x2080x1024 : Shape := ⟨3, ![8, 2080, 1024]⟩
abbrev S2080x8x1024 : Shape := ⟨3, ![2080, 8, 1024]⟩
abbrev S240x512 : Shape := ⟨2, ![240, 512]⟩
abbrev S16640x512 : Shape := ⟨2, ![16640, 512]⟩
abbrev S8x2080x512 : Shape := ⟨3, ![8, 2080, 512]⟩
abbrev S2080x8x512 : Shape := ⟨3, ![2080, 8, 512]⟩
abbrev S16640x8 : Shape := ⟨2, ![16640, 8]⟩
abbrev S1x1 : Shape := ⟨2, ![1, 1]⟩
abbrev S640x512 : Shape := ⟨2, ![640, 512]⟩
abbrev S640x1024 : Shape := ⟨2, ![640, 1024]⟩
abbrev S640x8 : Shape := ⟨2, ![640, 8]⟩
abbrev S640 : Shape := ⟨1, ![640]⟩
abbrev S640x1 : Shape := ⟨2, ![640, 1]⟩
abbrev S1 : Shape := ⟨1, ![1]⟩
abbrev S1024 : Shape := ⟨1, ![1024]⟩
abbrev S512 : Shape := ⟨1, ![512]⟩

abbrev nBuf : Space → Nat
  | .hbm => 68
  | .vmem => 28
  | .smem => 0
  | _ => 0

abbrev bufTy : (tb : Table) → Fin (tcTables nBuf tb) → BufTy
  | .hbm, ⟨0, _⟩ => ⟨S16400x512, .f32⟩
  | .hbm, ⟨1, _⟩ => ⟨S16400x512, .f32⟩
  | .hbm, ⟨2, _⟩ => ⟨S16400x512, .f32⟩
  | .hbm, ⟨3, _⟩ => ⟨S16400x1024, .f32⟩
  | .hbm, ⟨4, _⟩ => ⟨S16384x1024, .f32⟩
  | .hbm, ⟨5, _⟩ => ⟨S1024x1024, .f32⟩
  | .hbm, ⟨6, _⟩ => ⟨S1x1024, .f32⟩
  | .hbm, ⟨7, _⟩ => ⟨S1x512, .f32⟩
  | .hbm, ⟨8, _⟩ => ⟨S512x8, .f32⟩
  | .hbm, ⟨9, _⟩ => ⟨S_, .f32⟩
  | .hbm, ⟨10, _⟩ => ⟨S16x1024, .f32⟩
  | .hbm, ⟨11, _⟩ => ⟨S16400x1024, .f32⟩
  | .hbm, ⟨12, _⟩ => ⟨S_, .f32⟩
  | .hbm, ⟨13, _⟩ => ⟨S240x1024, .f32⟩
  | .hbm, ⟨14, _⟩ => ⟨S16640x1024, .f32⟩
  | .hbm, ⟨15, _⟩ => ⟨S8x2080x1024, .f32⟩
  | .hbm, ⟨16, _⟩ => ⟨S2080x8x1024, .f32⟩
  | .hbm, ⟨17, _⟩ => ⟨S16640x1024, .f32⟩
  | .hbm, ⟨18, _⟩ => ⟨S_, .f32⟩
  | .hbm, ⟨19, _⟩ => ⟨S240x512, .f32⟩
  | .hbm, ⟨20, _⟩ => ⟨S16640x512, .f32⟩
  | .hbm, ⟨21, _⟩ => ⟨S8x2080x512, .f32⟩
  | .hbm, ⟨22, _⟩ => ⟨S2080x8x512, .f32⟩
  | .hbm, ⟨23, _⟩ => ⟨S16640x512, .f32⟩
  | .hbm, ⟨24, _⟩ => ⟨S_, .f32⟩
  | .hbm, ⟨25, _⟩ => ⟨S240x512, .f32⟩
  | .hbm, ⟨26, _⟩ => ⟨S16640x512, .f32⟩
  | .hbm, ⟨27, _⟩ => ⟨S8x2080x512, .f32⟩
  | .hbm, ⟨28, _⟩ => ⟨S2080x8x512, .f32⟩
  | .hbm, ⟨29, _⟩ => ⟨S16640x512, .f32⟩
  | .hbm, ⟨30, _⟩ => ⟨S_, .f32⟩
  | .hbm, ⟨31, _⟩ => ⟨S240x512, .f32⟩
  | .hbm, ⟨32, _⟩ => ⟨S16640x512, .f32⟩
  | .hbm, ⟨33, _⟩ => ⟨S8x2080x512, .f32⟩
  | .hbm, ⟨34, _⟩ => ⟨S2080x8x512, .f32⟩
  | .hbm, ⟨35, _⟩ => ⟨S16640x512, .f32⟩
  | .hbm, ⟨36, _⟩ => ⟨S_, .f32⟩
  | .hbm, ⟨37, _⟩ => ⟨S240x1024, .f32⟩
  | .hbm, ⟨38, _⟩ => ⟨S16640x1024, .f32⟩
  | .hbm, ⟨39, _⟩ => ⟨S8x2080x1024, .f32⟩
  | .hbm, ⟨40, _⟩ => ⟨S2080x8x1024, .f32⟩
  | .hbm, ⟨41, _⟩ => ⟨S16640x1024, .f32⟩
  | .hbm, ⟨42, _⟩ => ⟨S1024x1024, .bf16⟩
  | .hbm, ⟨43, _⟩ => ⟨S16640x1024, .f32⟩
  | .hbm, ⟨44, _⟩ => ⟨S16640x512, .f32⟩
  | .hbm, ⟨45, _⟩ => ⟨S16640x512, .f32⟩
  | .hbm, ⟨46, _⟩ => ⟨S16640x512, .f32⟩
  | .hbm, ⟨47, _⟩ => ⟨S16640x8, .f32⟩
  | .hbm, ⟨48, _⟩ => ⟨S1x1, .f32⟩
  | .hbm, ⟨49, _⟩ => ⟨S1x1024, .f32⟩
  | .hbm, ⟨50, _⟩ => ⟨S1024x1024, .f32⟩
  | .hbm, ⟨51, _⟩ => ⟨S1x512, .f32⟩
  | .hbm, ⟨52, _⟩ => ⟨S2080x8x512, .f32⟩
  | .hbm, ⟨53, _⟩ => ⟨S8x2080x512, .f32⟩
  | .hbm, ⟨54, _⟩ => ⟨S16640x512, .f32⟩
  | .hbm, ⟨55, _⟩ => ⟨S16400x512, .f32⟩
  | .hbm, ⟨56, _⟩ => ⟨S2080x8x512, .f32⟩
  | .hbm, ⟨57, _⟩ => ⟨S8x2080x512, .f32⟩
  | .hbm, ⟨58, _⟩ => ⟨S16640x512, .f32⟩
  | .hbm, ⟨59, _⟩ => ⟨S16400x512, .f32⟩
  | .hbm, ⟨60, _⟩ => ⟨S2080x8x512, .f32⟩
  | .hbm, ⟨61, _⟩ => ⟨S8x2080x512, .f32⟩
  | .hbm, ⟨62, _⟩ => ⟨S16640x512, .f32⟩
  | .hbm, ⟨63, _⟩ => ⟨S16400x512, .f32⟩
  | .hbm, ⟨64, _⟩ => ⟨S2080x8x1024, .f32⟩
  | .hbm, ⟨65, _⟩ => ⟨S8x2080x1024, .f32⟩
  | .hbm, ⟨66, _⟩ => ⟨S16640x1024, .f32⟩
  | .hbm, ⟨67, _⟩ => ⟨S16400x1024, .f32⟩
  | .local _ .vmem, ⟨0, _⟩ => ⟨S640x512, .f32⟩
  | .local _ .vmem, ⟨1, _⟩ => ⟨S640x512, .f32⟩
  | .local _ .vmem, ⟨2, _⟩ => ⟨S640x512, .f32⟩
  | .local _ .vmem, ⟨3, _⟩ => ⟨S640x512, .f32⟩
  | .local _ .vmem, ⟨4, _⟩ => ⟨S640x512, .f32⟩
  | .local _ .vmem, ⟨5, _⟩ => ⟨S640x512, .f32⟩
  | .local _ .vmem, ⟨6, _⟩ => ⟨S640x1024, .f32⟩
  | .local _ .vmem, ⟨7, _⟩ => ⟨S640x1024, .f32⟩
  | .local _ .vmem, ⟨8, _⟩ => ⟨S640x1024, .f32⟩
  | .local _ .vmem, ⟨9, _⟩ => ⟨S640x1024, .f32⟩
  | .local _ .vmem, ⟨10, _⟩ => ⟨S1024x1024, .bf16⟩
  | .local _ .vmem, ⟨11, _⟩ => ⟨S1x1024, .f32⟩
  | .local _ .vmem, ⟨12, _⟩ => ⟨S1x512, .f32⟩
  | .local _ .vmem, ⟨13, _⟩ => ⟨S512x8, .f32⟩
  | .local _ .vmem, ⟨14, _⟩ => ⟨S640x1024, .f32⟩
  | .local _ .vmem, ⟨15, _⟩ => ⟨S640x1024, .f32⟩
  | .local _ .vmem, ⟨16, _⟩ => ⟨S640x512, .f32⟩
  | .local _ .vmem, ⟨17, _⟩ => ⟨S640x512, .f32⟩
  | .local _ .vmem, ⟨18, _⟩ => ⟨S640x512, .f32⟩
  | .local _ .vmem, ⟨19, _⟩ => ⟨S640x512, .f32⟩
  | .local _ .vmem, ⟨20, _⟩ => ⟨S640x512, .f32⟩
  | .local _ .vmem, ⟨21, _⟩ => ⟨S640x512, .f32⟩
  | .local _ .vmem, ⟨22, _⟩ => ⟨S640x8, .f32⟩
  | .local _ .vmem, ⟨23, _⟩ => ⟨S640x8, .f32⟩
  | .local _ .vmem, ⟨24, _⟩ => ⟨S1x1, .f32⟩
  | .local _ .vmem, ⟨25, _⟩ => ⟨S1x1024, .f32⟩
  | .local _ .vmem, ⟨26, _⟩ => ⟨S1024x1024, .f32⟩
  | .local _ .vmem, ⟨27, _⟩ => ⟨S1x512, .f32⟩
  | _, _ => ⟨S16400x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_cst_0 : Ref sig .tc := ⟨.hbm, 9, rfl⟩
abbrev main_v0 : Ref sig .tc := ⟨.hbm, 10, rfl⟩
abbrev main_v1 : Ref sig .tc := ⟨.hbm, 11, rfl⟩
abbrev main_cst_1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst_2 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_3 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_4 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_5 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28_0 : Ref sig .tc := ⟨.hbm, 43, rfl⟩
abbrev main_v28_1 : Ref sig .tc := ⟨.hbm, 44, rfl⟩
abbrev main_v28_2 : Ref sig .tc := ⟨.hbm, 45, rfl⟩
abbrev main_v28_3 : Ref sig .tc := ⟨.hbm, 46, rfl⟩
abbrev main_v28_4 : Ref sig .tc := ⟨.hbm, 47, rfl⟩
abbrev main_v28_5 : Ref sig .tc := ⟨.hbm, 48, rfl⟩
abbrev main_v28_6 : Ref sig .tc := ⟨.hbm, 49, rfl⟩
abbrev main_v28_7 : Ref sig .tc := ⟨.hbm, 50, rfl⟩
abbrev main_v28_8 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg15_0 : Ref sig .tc := ⟨.vmem, 25, rfl⟩
abbrev cc0_stg16_0 : Ref sig .tc := ⟨.vmem, 26, rfl⟩
abbrev cc0_stg17_0 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem15_0 : DmaSem sig := 25
abbrev cc0_sem16_0 : DmaSem sig := 26
abbrev cc0_sem17_0 : DmaSem sig := 27

abbrev nD : Nat := 1
abbrev τ : Topo := Topo.v7x

variable {F : FTy → Type} [FloatOps F]

abbrev grid0 : Pipeline.Grid := ⟨1, ![26], ![false]⟩

def k0_cond1 (i : grid0.Coords) : BitVec 1 :=
  let arg0 : BitVec 32 := BitVec.ofNat 32 (i 0).val
  let c0_i32 : BitVec 32 := 0#32
  let v90 : BitVec 1 := Scalar.cmpi .eq arg0 c0_i32
  let v91 : BitVec 32 := Scalar.extui v90
  let c0_i32_34 : BitVec 32 := 0#32
  let v92 : BitVec 1 := Scalar.cmpi .ne v91 c0_i32_34
  v92

def k0_cond2 (i : grid0.Coords) : BitVec 1 :=
  let arg0 : BitVec 32 := BitVec.ofNat 32 (i 0).val
  let c0_i32 : BitVec 32 := 0#32
  let v90 : BitVec 1 := Scalar.cmpi .eq arg0 c0_i32
  let v_true : BitVec 1 := 1#1
  let v93 : BitVec 1 := Scalar.xori v90 v_true
  let v94 : BitVec 32 := Scalar.extui v93
  let c0_i32_35 : BitVec 32 := 0#32
  let v95 : BitVec 1 := Scalar.cmpi .ne v94 c0_i32_35
  v95

def k0_cond3 (i : grid0.Coords) : BitVec 1 :=
  let arg0 : BitVec 32 := BitVec.ofNat 32 (i 0).val
  let c0_i32_39 : BitVec 32 := 0#32
  let v113 : BitVec 1 := Scalar.cmpi .eq arg0 c0_i32_39
  let v114 : BitVec 32 := Scalar.extui v113
  let c0_i32_40 : BitVec 32 := 0#32
  let v115 : BitVec 1 := Scalar.cmpi .ne v114 c0_i32_40
  v115

def k0_cond4 (i : grid0.Coords) : BitVec 1 :=
  let arg0 : BitVec 32 := BitVec.ofNat 32 (i 0).val
  let c0_i32_39 : BitVec 32 := 0#32
  let v113 : BitVec 1 := Scalar.cmpi .eq arg0 c0_i32_39
  let true_41 : BitVec 1 := 1#1
  let v116 : BitVec 1 := Scalar.xori v113 true_41
  let v117 : BitVec 32 := Scalar.extui v116
  let c0_i32_42 : BitVec 32 := 0#32
  let v118 : BitVec 1 := Scalar.cmpi .ne v117 c0_i32_42
  v118

def k0_cond5 (i : grid0.Coords) : BitVec 1 :=
  let arg0 : BitVec 32 := BitVec.ofNat 32 (i 0).val
  let c0_i32_47 : BitVec 32 := 0#32
  let v126 : BitVec 1 := Scalar.cmpi .eq arg0 c0_i32_47
  let v127 : BitVec 32 := Scalar.extui v126
  let c0_i32_48 : BitVec 32 := 0#32
  let v128 : BitVec 1 := Scalar.cmpi .ne v127 c0_i32_48
  v128

def k0_cond6 (i : grid0.Coords) : BitVec 1 :=
  let arg0 : BitVec 32 := BitVec.ofNat 32 (i 0).val
  let c0_i32_47 : BitVec 32 := 0#32
  let v126 : BitVec 1 := Scalar.cmpi .eq arg0 c0_i32_47
  let true_49 : BitVec 1 := 1#1
  let v129 : BitVec 1 := Scalar.xori v126 true_49
  let v130 : BitVec 32 := Scalar.extui v129
  let c0_i32_50 : BitVec 32 := 0#32
  let v131 : BitVec 1 := Scalar.cmpi .ne v130 c0_i32_50
  v131

def k0_cond7 (i : grid0.Coords) : BitVec 1 :=
  let arg0 : BitVec 32 := BitVec.ofNat 32 (i 0).val
  let c0_i32_56 : BitVec 32 := 0#32
  let v152 : BitVec 1 := Scalar.cmpi .eq arg0 c0_i32_56
  let v153 : BitVec 32 := Scalar.extui v152
  let c0_i32_57 : BitVec 32 := 0#32
  let v154 : BitVec 1 := Scalar.cmpi .ne v153 c0_i32_57
  v154

def k0_cond8 (i : grid0.Coords) : BitVec 1 :=
  let arg0 : BitVec 32 := BitVec.ofNat 32 (i 0).val
  let c0_i32_56 : BitVec 32 := 0#32
  let v152 : BitVec 1 := Scalar.cmpi .eq arg0 c0_i32_56
  let true_58 : BitVec 1 := 1#1
  let v155 : BitVec 1 := Scalar.xori v152 true_58
  let v156 : BitVec 32 := Scalar.extui v155
  let c0_i32_59 : BitVec 32 := 0#32
  let v157 : BitVec 1 := Scalar.cmpi .ne v156 c0_i32_59
  v157

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S640x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S640x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S640x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S640x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S640x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x8 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S640x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S640x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S640x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S640x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S640x8 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S1x1 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1024x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x512 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]
-- ==== Reference4Ideal.lean ====
abbrev S16400x512 : Shape := ⟨2, ![16400, 512]⟩
abbrev S16400x1024 : Shape := ⟨2, ![16400, 1024]⟩
abbrev S16384x1024 : Shape := ⟨2, ![16384, 1024]⟩
abbrev S1024x1024 : Shape := ⟨2, ![1024, 1024]⟩
abbrev S1x1024 : Shape := ⟨2, ![1, 1024]⟩
abbrev S1x512 : Shape := ⟨2, ![1, 512]⟩
abbrev S_ : Shape := ⟨0, ![]⟩
abbrev S16400 : Shape := ⟨1, ![16400]⟩
abbrev S16400x1 : Shape := ⟨2, ![16400, 1]⟩
abbrev S16384 : Shape := ⟨1, ![16384]⟩
abbrev S1024 : Shape := ⟨1, ![1024]⟩
abbrev S512 : Shape := ⟨1, ![512]⟩
abbrev S1x1 : Shape := ⟨2, ![1, 1]⟩

abbrev nBuf : Space → Nat
  | .hbm => 147
  | .vmem => 0
  | .smem => 0
  | _ => 0

abbrev hbmTy0_0 (i : Nat) : BufTy := match i % 128 with
  | 0 => ⟨S16400x512, .f32⟩
  | 1 => ⟨S16400x512, .f32⟩
  | 2 => ⟨S16400x512, .f32⟩
  | 3 => ⟨S16400x1024, .f32⟩
  | 4 => ⟨S16384x1024, .f32⟩
  | 5 => ⟨S1024x1024, .f32⟩
  | 6 => ⟨S1x1024, .f32⟩
  | 7 => ⟨S1x512, .f32⟩
  | 8 => ⟨S16400x512, .f32⟩
  | 9 => ⟨S16400x512, .f32⟩
  | 10 => ⟨S_, .f32⟩
  | 11 => ⟨S16400x512, .f32⟩
  | 12 => ⟨S16400x512, .f32⟩
  | 13 => ⟨S_, .f32⟩
  | 14 => ⟨S16400x512, .f32⟩
  | 15 => ⟨S16400x512, .f32⟩
  | 16 => ⟨S_, .f32⟩
  | 17 => ⟨S16400x512, .f32⟩
  | 18 => ⟨S16400x512, .f32⟩
  | 19 => ⟨S16400x512, .f32⟩
  | 20 => ⟨S16400x512, .f32⟩
  | 21 => ⟨S16400x512, .f32⟩
  | 22 => ⟨S16400x512, .f32⟩
  | 23 => ⟨S_, .f32⟩
  | 24 => ⟨S16400, .f32⟩
  | 25 => ⟨S16400x1, .f32⟩
  | 26 => ⟨S_, .f32⟩
  | 27 => ⟨S16400x1, .f32⟩
  | 28 => ⟨S16400x1, .f32⟩
  | 29 => ⟨S_, .f32⟩
  | 30 => ⟨S16400x1, .f32⟩
  | 31 => ⟨S16400x1, .f32⟩
  | 32 => ⟨S16400x1, .f32⟩
  | 33 => ⟨S16400x1, .f32⟩
  | 34 => ⟨S_, .f32⟩
  | 35 => ⟨S16400x1, .f32⟩
  | 36 => ⟨S16400x1, .f32⟩
  | 37 => ⟨S16400x512, .f32⟩
  | 38 => ⟨S16400x512, .f32⟩
  | 39 => ⟨S16400x512, .f32⟩
  | 40 => ⟨S16400x512, .f32⟩
  | 41 => ⟨S16400x1024, .f32⟩
  | 42 => ⟨S16400x1024, .f32⟩
  | 43 => ⟨S16400x1024, .f32⟩
  | 44 => ⟨S_, .f32⟩
  | 45 => ⟨S16400, .f32⟩
  | 46 => ⟨S16400x1, .f32⟩
  | 47 => ⟨S_, .f32⟩
  | 48 => ⟨S16400x1, .f32⟩
  | 49 => ⟨S16400x1, .f32⟩
  | 50 => ⟨S_, .f32⟩
  | 51 => ⟨S16400x1, .f32⟩
  | 52 => ⟨S16400x1, .f32⟩
  | 53 => ⟨S16400x1, .f32⟩
  | 54 => ⟨S16400x1, .f32⟩
  | 55 => ⟨S_, .f32⟩
  | 56 => ⟨S16400x1, .f32⟩
  | 57 => ⟨S16400x1, .f32⟩
  | 58 => ⟨S16400x1024, .f32⟩
  | 59 => ⟨S16400x1024, .f32⟩
  | 60 => ⟨S16400x1024, .f32⟩
  | 61 => ⟨S16400x1024, .f32⟩
  | 62 => ⟨S16400x1024, .f32⟩
  | 63 => ⟨S16384x1024, .f32⟩
  | 64 => ⟨S16384x1024, .f32⟩
  | 65 => ⟨S16384x1024, .f32⟩
  | 66 => ⟨S_, .f32⟩
  | 67 => ⟨S16384x1024, .f32⟩
  | 68 => ⟨S16384x1024, .f32⟩
  | 69 => ⟨S_, .f32⟩
  | 70 => ⟨S16384, .f32⟩
  | 71 => ⟨S_, .f32⟩
  | 72 => ⟨S16384, .f32⟩
  | 73 => ⟨S16384, .f32⟩
  | 74 => ⟨S_, .f32⟩
  | 75 => ⟨S_, .f32⟩
  | 76 => ⟨S_, .f32⟩
  | 77 => ⟨S_, .f32⟩
  | 78 => ⟨S_, .f32⟩
  | 79 => ⟨S_, .f32⟩
  | 80 => ⟨S_, .f32⟩
  | 81 => ⟨S16384, .f32⟩
  | 82 => ⟨S_, .f32⟩
  | 83 => ⟨S16384, .f32⟩
  | 84 => ⟨S16384, .f32⟩
  | 85 => ⟨S16384x1024, .f32⟩
  | 86 => ⟨S16384x1024, .f32⟩
  | 87 => ⟨S_, .f32⟩
  | 88 => ⟨S16400x1024, .f32⟩
  | 89 => ⟨S16400x1024, .f32⟩
  | 90 => ⟨S_, .f32⟩
  | 91 => ⟨S1024, .f32⟩
  | 92 => ⟨S1x1024, .f32⟩
  | 93 => ⟨S16400x1024, .f32⟩
  | 94 => ⟨S16400x1024, .f32⟩
  | 95 => ⟨S16400x1024, .f32⟩
  | 96 => ⟨S_, .f32⟩
  | 97 => ⟨S16400, .f32⟩
  | 98 => ⟨S16400x1, .f32⟩
  | 99 => ⟨S16400x1024, .f32⟩
  | 100 => ⟨S16400x1024, .f32⟩
  | 101 => ⟨S16400x1, .f32⟩
  | 102 => ⟨S_, .f32⟩
  | 103 => ⟨S16400x1, .f32⟩
  | 104 => ⟨S16400x1, .f32⟩
  | 105 => ⟨S_, .f32⟩
  | 106 => ⟨S16400, .f32⟩
  | 107 => ⟨S16400x1024, .f32⟩
  | 108 => ⟨S16400x1024, .f32⟩
  | 109 => ⟨S16400x1024, .f32⟩
  | 110 => ⟨S16400x1024, .f32⟩
  | 111 => ⟨S16400x1024, .f32⟩
  | 112 => ⟨S1024x1024, .f32⟩
  | 113 => ⟨S1024x1024, .f32⟩
  | 114 => ⟨S16400x1024, .f32⟩
  | 115 => ⟨S16400x512, .f32⟩
  | 116 => ⟨S16400x512, .f32⟩
  | 117 => ⟨S16400x512, .f32⟩
  | 118 => ⟨S_, .f32⟩
  | 119 => ⟨S512, .f32⟩
  | 120 => ⟨S1x512, .f32⟩
  | 121 => ⟨S16400x512, .f32⟩
  | 122 => ⟨S16400x512, .f32⟩
  | 123 => ⟨S16400x512, .f32⟩
  | 124 => ⟨S_, .f32⟩
  | 125 => ⟨S16400, .f32⟩
  | 126 => ⟨S16400x1, .f32⟩
  | 127 => ⟨S16400x512, .f32⟩
  | _ => ⟨S16400x512, .f32⟩

abbrev hbmTy0_1 (i : Nat) : BufTy := match i % 128 with
  | 0 => ⟨S16400x512, .f32⟩
  | 1 => ⟨S16400x1, .f32⟩
  | 2 => ⟨S_, .f32⟩
  | 3 => ⟨S16400x1, .f32⟩
  | 4 => ⟨S16400x1, .f32⟩
  | 5 => ⟨S_, .f32⟩
  | 6 => ⟨S16400, .f32⟩
  | 7 => ⟨S16400x512, .f32⟩
  | 8 => ⟨S16400x512, .f32⟩
  | 9 => ⟨S16400x512, .f32⟩
  | 10 => ⟨S16400x512, .f32⟩
  | 11 => ⟨S16400x512, .f32⟩
  | 12 => ⟨S16400x512, .f32⟩
  | 13 => ⟨S16400x512, .f32⟩
  | 14 => ⟨S16400x512, .f32⟩
  | 15 => ⟨S16400x512, .f32⟩
  | 16 => ⟨S16400x512, .f32⟩
  | 17 => ⟨S16400x512, .f32⟩
  | 18 => ⟨S1x1, .f32⟩
  | _ => ⟨S16400x512, .f32⟩

abbrev hbmTy (i : Nat) : BufTy := match i / 128 with
  | 0 => hbmTy0_0 i
  | 1 => hbmTy0_1 i
  | _ => ⟨S16400x512, .f32⟩

abbrev bufTy : (tb : Table) → Fin (tcTables nBuf tb) → BufTy
  | .hbm, ⟨i, _⟩ => hbmTy i
  | _, _ => ⟨S16400x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_v0_2 : Ref sig .tc := ⟨.hbm, 15, rfl⟩
abbrev main_call0_cst_1 : Ref sig .tc := ⟨.hbm, 16, rfl⟩
abbrev main_call0_v6 : Ref sig .tc := ⟨.hbm, 17, rfl⟩
abbrev main_call0_v7 : Ref sig .tc := ⟨.hbm, 18, rfl⟩
abbrev main_v0_1 : Ref sig .tc := ⟨.hbm, 19, rfl⟩
abbrev main_v0_0 : Ref sig .tc := ⟨.hbm, 20, rfl⟩
abbrev main_v1 : Ref sig .tc := ⟨.hbm, 21, rfl⟩
abbrev main_v2 : Ref sig .tc := ⟨.hbm, 22, rfl⟩
abbrev main_cst : Ref sig .tc := ⟨.hbm, 23, rfl⟩
abbrev main_v3 : Ref sig .tc := ⟨.hbm, 24, rfl⟩
abbrev main_v4 : Ref sig .tc := ⟨.hbm, 25, rfl⟩
abbrev main_cst_0 : Ref sig .tc := ⟨.hbm, 26, rfl⟩
abbrev main_v5 : Ref sig .tc := ⟨.hbm, 27, rfl⟩
abbrev main_v6 : Ref sig .tc := ⟨.hbm, 28, rfl⟩
abbrev main_cst_1 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_cst_2 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_cst_3 : Ref sig .tc := ⟨.hbm, 44, rfl⟩
abbrev main_v20 : Ref sig .tc := ⟨.hbm, 45, rfl⟩
abbrev main_v21 : Ref sig .tc := ⟨.hbm, 46, rfl⟩
abbrev main_cst_4 : Ref sig .tc := ⟨.hbm, 47, rfl⟩
abbrev main_v22 : Ref sig .tc := ⟨.hbm, 48, rfl⟩
abbrev main_v23 : Ref sig .tc := ⟨.hbm, 49, rfl⟩
abbrev main_cst_5 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_cst_6 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_cst_7 : Ref sig .tc := ⟨.hbm, 66, rfl⟩
abbrev main_v38 : Ref sig .tc := ⟨.hbm, 67, rfl⟩
abbrev main_v39 : Ref sig .tc := ⟨.hbm, 68, rfl⟩
abbrev main_cst_8 : Ref sig .tc := ⟨.hbm, 69, rfl⟩
abbrev main_v40 : Ref sig .tc := ⟨.hbm, 70, rfl⟩
abbrev main_cst_9 : Ref sig .tc := ⟨.hbm, 71, rfl⟩
abbrev main_v41 : Ref sig .tc := ⟨.hbm, 72, rfl⟩
abbrev main_v42 : Ref sig .tc := ⟨.hbm, 73, rfl⟩
abbrev main_cst_10 : Ref sig .tc := ⟨.hbm, 74, rfl⟩
abbrev main_v43 : Ref sig .tc := ⟨.hbm, 75, rfl⟩
abbrev main_cst_11 : Ref sig .tc := ⟨.hbm, 76, rfl⟩
abbrev main_v44 : Ref sig .tc := ⟨.hbm, 77, rfl⟩
abbrev main_cst_12 : Ref sig .tc := ⟨.hbm, 78, rfl⟩
abbrev main_cst_13 : Ref sig .tc := ⟨.hbm, 79, rfl⟩
abbrev main_v45 : Ref sig .tc := ⟨.hbm, 80, rfl⟩
abbrev main_v46 : Ref sig .tc := ⟨.hbm, 81, rfl⟩
abbrev main_cst_14 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_cst_15 : Ref sig .tc := ⟨.hbm, 87, rfl⟩
abbrev main_v51 : Ref sig .tc := ⟨.hbm, 88, rfl⟩
abbrev main_v52 : Ref sig .tc := ⟨.hbm, 89, rfl⟩
abbrev main_cst_16 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_cst_17 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_cst_18 : Ref sig .tc := ⟨.hbm, 102, rfl⟩
abbrev main_v63 : Ref sig .tc := ⟨.hbm, 103, rfl⟩
abbrev main_v64 : Ref sig .tc := ⟨.hbm, 104, rfl⟩
abbrev main_cst_19 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_cst_20 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_cst_21 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_cst_22 : Ref sig .tc := ⟨.hbm, 130, rfl⟩
abbrev main_v87 : Ref sig .tc := ⟨.hbm, 131, rfl⟩
abbrev main_v88 : Ref sig .tc := ⟨.hbm, 132, rfl⟩
abbrev main_cst_23 : Ref sig .tc := ⟨.hbm, 133, rfl⟩
abbrev main_v89 : Ref sig .tc := ⟨.hbm, 134, rfl⟩
abbrev main_v90 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_call1_v0 : Ref sig .tc := ⟨.hbm, 142, rfl⟩
abbrev main_call1_v1 : Ref sig .tc := ⟨.hbm, 143, rfl⟩
abbrev main_call1_v2 : Ref sig .tc := ⟨.hbm, 144, rfl⟩
abbrev main_v97 : Ref sig .tc := ⟨.hbm, 145, rfl⟩
abbrev main_v98 : Ref sig .tc := ⟨.hbm, 146, rfl⟩

abbrev nD : Nat := 1
abbrev τ : Topo := Topo.v7x

variable {F : FTy → Type} [FloatOps F]
-- ==== Proof.AttnRun.lean ====
/- The run of the kernel's program, with what its result buffers hold at the end. -/
module

public import proofs.«01_k».proof.Proof.Gen.KernelIdeal.Frame

@[expose] public section

set_option maxRecDepth 16384

noncomputable section

namespace Attn.Run

open Idealize.ShloMosaic Idealize.ShloMosaic.TcCoe Idealize.ShloMosaic.Tactic
open Idealize.SL Idealize.SL.RA Idealize.SL.BI
open scoped Idealize.SL.BI
open Idealize.ShloMosaic.Rounds
open Idealize.SL.BI.BIBase Idealize.SL.BI.Laws Idealize.SL.ProofMode Idealize.SL.Sem
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters every fair execution ends with the results at the last boundary's contents and the arguments unchanged. -/
theorem run_values : θ_run defs (onTc (τ := τ) (main (F := F))) ⟨m, fun _ => 0, ρ⟩ (fun r => ∀ c : Dev nD,
      r.2.mem ((c.tc : Thread nD τ).loc main_v78) = W5 m ρ c (Proc.devRef .tc main_v78)
      ∧ r.2.mem ((c.tc : Thread nD τ).loc main_v84) = W5 m ρ c (Proc.devRef .tc main_v84)
      ∧ r.2.mem ((c.tc : Thread nD τ).loc main_v90) = W5 m ρ c (Proc.devRef .tc main_v90)
      ∧ r.2.mem ((c.tc : Thread nD τ).loc main_v96) = W5 m ρ c (Proc.devRef .tc main_v96)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h _ c =>
      ⟨h c _ (mem_uc main_v78 (by decide)), h c _ (mem_uc main_v84 (by decide)), h c _ (mem_uc main_v90 (by decide)), h c _ (mem_uc main_v96 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c)⟩)

end Attn.Run
-- ==== Proof.AttnMath.lean ====
module

public import Idealize.ShloMosaic.Lib.Pointwise
public import Mathlib.Tactic.FieldSimp
public import Mathlib.Tactic.Ring
public import Mathlib.Analysis.SpecialFunctions.Pow.Real
public import Idealize.ShloMosaic.PureOps.Ideal

@[expose] public section
open Idealize.ShloMosaic
open scoped BigOperators
namespace AttnMath

/-- The token position of row `r` of the interleaved layout. -/
def rowPos (r : ℕ) : ℕ := r % 8 * 2080 + r / 8

/-- The row at which token position `p` stands. -/
def posRow (p : ℕ) : ℕ := p % 2080 * 8 + p / 2080

theorem rowPos_posRow (p : ℕ) (h : p < 16640) : rowPos (posRow p) = p := by
  unfold rowPos posRow; omega
theorem posRow_rowPos (r : ℕ) (h : r < 16640) : posRow (rowPos r) = r := by
  unfold rowPos posRow; omega
theorem posRow_lt (p : ℕ) (h : p < 16640) : posRow p < 16640 := by
  unfold posRow; omega
theorem rowPos_lt (r : ℕ) (h : r < 16640) : rowPos r < 16640 := by
  unfold rowPos; omega
theorem rowPos_early (r : ℕ) (h : r < 14080) : rowPos r < 16400 := by
  unfold rowPos; omega

/-- A function of token positions laid out over the rows, zero on the padded ones. -/
noncomputable def spread (f : Fin 16400 → ℝ) (r : ℕ) : ℝ := if h : rowPos r < 16400 then f ⟨rowPos r, h⟩ else 0

/-- The sum over all rows of a spread function is the sum over the positions. -/
theorem sum_spread (f : Fin 16400 → ℝ) : ∑ r ∈ Finset.range 16640, spread f r = ∑ p : Fin 16400, f p := by
  have e : ∀ r, spread f r = if rowPos r < 16400 then spread f r else 0 := by
    intro r; by_cases h : rowPos r < 16400 <;> simp [spread, h]
  rw [Finset.sum_congr rfl (fun r _ => e r), ← Finset.sum_filter]
  refine (Finset.sum_bij' (s := Finset.univ)
    (t := (Finset.range 16640).filter (fun r => rowPos r < 16400))
    (f := f) (g := spread f)
    (fun (p : Fin 16400) _ => posRow p.1) (fun r hr => ⟨rowPos r, (Finset.mem_filter.mp hr).2⟩) ?_ ?_ ?_ ?_ ?_).symm
  · intro p _
    have := p.2
    rw [Finset.mem_filter, Finset.mem_range, rowPos_posRow _ (by omega)]
    exact ⟨posRow_lt _ (by omega), p.2⟩
  · intro r hr; exact Finset.mem_univ _
  · intro p _; have := p.2; apply Fin.ext; exact rowPos_posRow _ (by omega)
  · intro r hr; exact posRow_rowPos _ (Finset.mem_range.mp (Finset.mem_filter.mp hr).1)
  · intro p _
    have hp := p.2
    have e := rowPos_posRow p.1 (by omega)
    unfold spread
    rw [dif_pos (by omega)]
    congr 1; apply Fin.ext; exact e.symm

/-- A sum over whole chunks, one more chunk. -/
theorem sum_chunk (f : ℕ → ℝ) (n k : ℕ) :
    ∑ r ∈ Finset.range (n * (k + 1)), f r = ∑ r ∈ Finset.range (n * k), f r + ∑ a : Fin n, f (n * k + a) := by
  rw [Nat.mul_succ, Finset.sum_range_add, Finset.sum_range (fun x => f (n * k + x))]

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum of products of reals, taken in the extended reals. -/
theorem sum_mul_coe {ι : Type*} (s : Finset ι) (f g : ι → EReal) (a b : ι → ℝ) (hf : ∀ i, f i = a i) (hg : ∀ i, g i = b i) :
    ∑ i ∈ s, f i * g i = ((∑ i ∈ s, a i * b i : ℝ) : EReal) := by
  rw [coe_sum]; refine Finset.sum_congr rfl fun i _ => ?_; rw [hf, hg, EReal.coe_mul]

theorem div_coe (a b : ℝ) (h : b ≠ 0) : Ideal.div (a : EReal) (b : EReal) = ((a / b : ℝ) : EReal) := by
  unfold Ideal.div
  rw [if_neg (by exact_mod_cast h), ← EReal.coe_inv, ← EReal.coe_mul, div_eq_mul_inv]

theorem exp2_sub (a b : ℝ) : Ideal.exp2 ((a : EReal) - (b : EReal)) = (((2 : ℝ) ^ (a - b) : ℝ) : EReal) := by
  rw [← EReal.coe_sub, Ideal.exp2_coe]; rfl

theorem exp2_bot_sub (b : ℝ) : Ideal.exp2 ((⊥ : EReal) - (b : EReal)) = 0 := by
  rw [EReal.bot_sub, Ideal.exp2_bot]

/-! ## The running softmax of one query column -/

section Online
variable (n : ℕ) (valid : ℕ → Prop) [DecidablePred valid] (t : ℕ → ℝ) (v : ℕ → Fin 128 → ℝ)

/-- The running state after the rows below `N`: a real level `M`, and the weighted sums relative to it. -/
def Run (N : ℕ) (m : EReal) (acc : Fin 128 → EReal) : Prop :=
  ∃ M : ℝ, m = (M : EReal) ∧ ∀ d, acc d = ((∑ r ∈ Finset.range N, if valid r then v r d * (2 : ℝ) ^ (t r - M) else 0 : ℝ) : EReal)

/-- The scores of one chunk: the real scores at the valid rows, `⊥` at the others. -/
def Score (k : ℕ) (s : Fin n → EReal) : Prop := ∀ a : Fin n, s a = if valid (n * k + a) then (t (n * k + a) : EReal) else ⊥

variable {n valid t v}

theorem Score.lt_top {k : ℕ} {s : Fin n → EReal} (hs : Score n valid t k s) (a : Fin n) : s a < ⊤ := by
  rw [hs a]; split
  · exact EReal.coe_lt_top _
  · exact bot_lt_top

theorem fold_lt_top {k : ℕ} {s : Fin n → EReal} (hs : Score n valid t k s) : Finset.univ.fold max (⊥ : EReal) s < ⊤ := by
  rw [Finset.fold_max_lt]; exact ⟨bot_lt_top, fun a _ => hs.lt_top a⟩

theorem part_coe {k : ℕ} {s : Fin n → EReal} (hs : Score n valid t k s) {vv : Fin n → EReal} {d : Fin 128}
    (hv : ∀ a : Fin n, vv a = (v (n * k + a) d : EReal)) (M' : ℝ) :
    ∑ a : Fin n, vv a * Ideal.exp2 (s a - (M' : EReal))
      = ((∑ a : Fin n, if valid (n * k + a) then v (n * k + a) d * (2 : ℝ) ^ (t (n * k + a) - M') else 0 : ℝ) : EReal) := by
  rw [coe_sum]; refine Finset.sum_congr rfl fun a _ => ?_
  rw [hs a, hv a]; split
  · rw [exp2_sub, ← EReal.coe_mul]
  · rw [exp2_bot_sub, mul_zero, EReal.coe_zero]

/-- One chunk of the running softmax. -/
theorem Run.step {k : ℕ} {m m' : EReal} {acc acc' : Fin 128 → EReal} {s : Fin n → EReal} {vv : Fin n → Fin 128 → EReal}
    (h : Run valid t v (n * k) m acc) (hs : Score n valid t k s) (hv : ∀ (a : Fin n) d, vv a d = (v (n * k + a) d : EReal))
    (hm : m' = max m (Finset.univ.fold max (⊥ : EReal) s))
    (hacc : ∀ d, acc' d = Ideal.exp2 (m - m') * acc d + ∑ a : Fin n, vv a d * Ideal.exp2 (s a - m')) :
    Run valid t v (n * (k + 1)) m' acc' := by
  obtain ⟨M, rfl, ha⟩ := h
  have hne : m' ≠ ⊤ := by
    rw [hm]; exact ne_of_lt (max_lt (EReal.coe_lt_top _) (fold_lt_top hs))
  have hnb : m' ≠ ⊥ := by
    rw [hm]; exact ne_of_gt (lt_of_lt_of_le (EReal.bot_lt_coe M) (le_max_left _ _))
  obtain ⟨M', rfl⟩ : ∃ M' : ℝ, m' = (M' : EReal) := ⟨m'.toReal, (EReal.coe_toReal hne hnb).symm⟩
  refine ⟨M', rfl, fun d => ?_⟩
  rw [hacc d, part_coe hs (fun a => hv a d) M', ha d, exp2_sub, ← EReal.coe_mul, ← EReal.coe_add, sum_chunk, Finset.mul_sum]
  congr 2
  refine Finset.sum_congr rfl fun r _ => ?_
  split
  · rw [mul_left_comm, ← Real.rpow_add (by norm_num)]; congr 2; ring
  · rw [mul_zero]

/-- The first chunk, from the empty state, some row of it valid. -/
theorem Run.first {m' : EReal} {acc' : Fin 128 → EReal} {s : Fin n → EReal} {vv : Fin n → Fin 128 → EReal}
    (hs : Score n valid t 0 s) (hv : ∀ (a : Fin n) d, vv a d = (v (n * 0 + a) d : EReal)) (a0 : Fin n) (h0 : valid (n * 0 + a0))
    (hm : m' = max ⊥ (Finset.univ.fold max (⊥ : EReal) s))
    (hacc : ∀ d, acc' d = Ideal.exp2 (⊥ - m') * 0 + ∑ a : Fin n, vv a d * Ideal.exp2 (s a - m')) :
    Run valid t v (n * 1) m' acc' := by
  have hne : m' ≠ ⊤ := by
    rw [hm]; exact ne_of_lt (max_lt bot_lt_top (fold_lt_top hs))
  have hnb : m' ≠ ⊥ := by
    rw [hm]
    refine ne_of_gt (lt_of_lt_of_le (b := s a0) ?_ (le_trans ?_ (le_max_right _ _)))
    · rw [hs a0, if_pos h0]; exact EReal.bot_lt_coe _
    · rw [Finset.le_fold_max]; exact .inr ⟨a0, Finset.mem_univ _, le_rfl⟩
  obtain ⟨M', rfl⟩ : ∃ M' : ℝ, m' = (M' : EReal) := ⟨m'.toReal, (EReal.coe_toReal hne hnb).symm⟩
  refine ⟨M', rfl, fun d => ?_⟩
  rw [hacc d, part_coe hs (fun a => hv a d) M', mul_zero, zero_add, sum_chunk]
  simp

/-- The weights of the valid rows below `N`, summed. -/
noncomputable def mass (valid : ℕ → Prop) [DecidablePred valid] (t : ℕ → ℝ) (N : ℕ) : ℝ :=
  ∑ r ∈ Finset.range N, if valid r then (2 : ℝ) ^ t r else 0

theorem mass_pos {N r : ℕ} (hr : r < N) (h : valid r) : 0 < mass valid t N := by
  refine Finset.sum_pos' (fun i _ => ?_) ⟨r, Finset.mem_range.mpr hr, ?_⟩
  · split
    · positivity
    · exact le_rfl
  · rw [if_pos h]; positivity

theorem shift (N : ℕ) (g : ℕ → ℝ) (M : ℝ) :
    (∑ r ∈ Finset.range N, if valid r then g r * (2 : ℝ) ^ (t r - M) else 0)
      = (∑ r ∈ Finset.range N, if valid r then g r * (2 : ℝ) ^ t r else 0) * (2 : ℝ) ^ (-M) := by
  rw [Finset.sum_mul]; refine Finset.sum_congr rfl fun r _ => ?_
  split
  · rw [mul_assoc, ← Real.rpow_add (by norm_num)]; rfl
  · rw [zero_mul]

theorem Run.den {N : ℕ} {m : EReal} {acc : Fin 128 → EReal} {M : ℝ} {d1 : Fin 128} (h1 : ∀ r, valid r → v r d1 = 1)
    (ha : acc d1 = ((∑ r ∈ Finset.range N, if valid r then v r d1 * (2 : ℝ) ^ (t r - M) else 0 : ℝ) : EReal)) :
    acc d1 = ((mass valid t N * (2 : ℝ) ^ (-M) : ℝ) : EReal) := by
  rw [ha, shift]; congr 2; unfold mass; refine Finset.sum_congr rfl fun r _ => ?_
  split
  · rw [h1 r ‹_›, one_mul]
  · rfl

/-- The quotient of a column's accumulator by the row of ones. -/
theorem Run.out {N : ℕ} {m : EReal} {acc : Fin 128 → EReal} (h : Run valid t v N m acc) {d1 : Fin 128}
    (h1 : ∀ r, valid r → v r d1 = 1) {r0 : ℕ} (hr : r0 < N) (h0 : valid r0) (d : Fin 128) :
    Ideal.div (acc d) (acc d1) = ((∑ r ∈ Finset.range N, if valid r then v r d * ((2 : ℝ) ^ t r / mass valid t N) else 0 : ℝ) : EReal) := by
  obtain ⟨M, rfl, ha⟩ := h
  have hZ := mass_pos (t := t) hr h0
  have h2 : (2 : ℝ) ^ (-M) ≠ 0 := (Real.rpow_pos_of_pos (by norm_num) _).ne'
  rw [Run.den (m := M) (M := M) h1 (ha d1), ha d, shift, div_coe _ _ (mul_ne_zero hZ.ne' h2), mul_div_mul_right _ _ h2, Finset.sum_div]
  congr 1; refine Finset.sum_congr rfl fun r _ => ?_
  split
  · rw [mul_div_assoc]
  · rw [zero_div]

/-- The level plus the logarithm of the row of ones: the base-two logarithm of the mass. -/
theorem Run.lse {N : ℕ} {m : EReal} {acc : Fin 128 → EReal} (h : Run valid t v N m acc) {d1 : Fin 128}
    (h1 : ∀ r, valid r → v r d1 = 1) {r0 : ℕ} (hr : r0 < N) (h0 : valid r0) :
    m + Ideal.log (acc d1) * (((Real.log 2)⁻¹ : ℝ) : EReal) = ((Real.log (mass valid t N) / Real.log 2 : ℝ) : EReal) := by
  obtain ⟨M, rfl, ha⟩ := h
  have hZ := mass_pos (t := t) hr h0
  have h2 : 0 < (2 : ℝ) ^ (-M) := Real.rpow_pos_of_pos (by norm_num) _
  have hl : Real.log 2 ≠ 0 := (Real.log_pos (by norm_num)).ne'
  rw [Run.den (m := M) (M := M) h1 (ha d1), Ideal.log_coe, if_neg (not_le.mpr (mul_pos hZ h2)), ← EReal.coe_mul, ← EReal.coe_add,
    Real.log_mul hZ.ne' h2.ne', Real.log_rpow (by norm_num)]
  congr 1; field_simp; ring

end Online

theorem two_rpow (s : ℝ) : (2 : ℝ) ^ (s / Real.log 2) = Real.exp s := by
  rw [Real.rpow_def_of_pos (by norm_num), mul_div_cancel₀ _ (Real.log_pos (by norm_num)).ne']

/-- The weight relative to the logarithm of the mass. -/
theorem exp2_lse (a Z : ℝ) (hZ : 0 < Z) :
    Ideal.exp2 ((a : EReal) - ((Real.log Z / Real.log 2 : ℝ) : EReal)) = (((2 : ℝ) ^ a / Z : ℝ) : EReal) := by
  rw [exp2_sub, Real.rpow_sub (by norm_num), two_rpow, Real.exp_log hZ]

end AttnMath
-- ==== Proof.AttnHost0.lean ====
/- What the host lines before the first attention region leave, element by element. -/
module

public import proofs.«01_k».proof.Proof.Gen.KernelIdeal.Frame
public import proofs.«01_k».proof.Proof.AttnMath
public import Idealize.ShloMosaic.Lib.StableHlo.ReadAt
public import Idealize.ShloMosaic.PureOps.IdealRules

@[expose] public section

set_option maxRecDepth 16384

noncomputable section

namespace Attn.Host

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg)

theorem two_word : Ideal.ofBits .f32 1073741824#32 = ((2 : ℝ) : EReal) := by
  simp [Ideal.ofBits, Ideal.ieee]
  rw [← EReal.coe_mul]; norm_num
theorem ninetysix_word : Ideal.ofBits .f32 1119879168#32 = ((96 : ℝ) : EReal) := by
  simp [Ideal.ofBits, Ideal.ieee]
  rw [← EReal.coe_mul]; norm_num

/-- The query argument's elements. -/
abbrev A0 (c : Dev nD) (h : Fin 8) (p : Fin 16400) (d : Fin 96) : EReal := m ((c : Thread nD τ).loc main_arg0) (ix3 h p d)
/-- The key argument's elements. -/
abbrev A1 (c : Dev nD) (h : Fin 8) (p : Fin 16400) (d : Fin 96) : EReal := m ((c : Thread nD τ).loc main_arg1) (ix3 h p d)
/-- The value argument's elements. -/
abbrev A2 (c : Dev nD) (h : Fin 8) (p : Fin 16400) (d : Fin 64) : EReal := m ((c : Thread nD τ).loc main_arg2) (ix3 h p d)
/-- The elements of the output's cotangent. -/
abbrev A3 (c : Dev nD) (h : Fin 8) (p : Fin 16400) (d : Fin 64) : EReal := m ((c : Thread nD τ).loc main_arg3) (ix3 h p d)

/-- The factor of the query rows. -/
theorem scale_eq : Ideal.div 1 (Ideal.log (Ideal.ofBits .f32 1073741824#32) * Ideal.sqrt (Ideal.ofBits .f32 1119879168#32))
    = ((1 / (Real.log 2 * Real.sqrt 96) : ℝ) : EReal) := by
  rw [two_word, ninetysix_word, Ideal.log_coe, Ideal.sqrt_coe, if_neg (by norm_num), if_neg (by norm_num), ← EReal.coe_mul, ← EReal.coe_one, AttnMath.div_coe]
  have h1 : 0 < Real.log 2 := Real.log_pos (by norm_num)
  have h2 : 0 < Real.sqrt 96 := Real.sqrt_pos.mpr (by norm_num)
  positivity

theorem rowsK (c : Dev nD) (r : Fin 16640) (h : Fin 8) (d : Fin 96) :
    (W1 m ρ c (Proc.devRef .tc main_v23) (ix3 r h d) : EReal)
      = if hp : AttnMath.rowPos r.val < 16400 then A1 m c h ⟨AttnMath.rowPos r.val, hp⟩ d else (0 : EReal) := by
  unfold W1 AttnMath.rowPos
  after_reads_at
  by_cases hp : r.val % 8 * 2080 + r.val / 8 < 16400
  · refine (dif_pos hp).trans (Eq.trans ?_ (dif_pos hp).symm)
    after_reads_at
  · refine (dif_neg hp).trans (Eq.trans ?_ (dif_neg hp).symm)
    after_reads_at

theorem rowsV (c : Dev nD) (r : Fin 16640) (h : Fin 8) (d : Fin 64) :
    (W1 m ρ c (Proc.devRef .tc main_v32) (ix3 r h d) : EReal)
      = if hp : AttnMath.rowPos r.val < 16400 then A2 m c h ⟨AttnMath.rowPos r.val, hp⟩ d else (0 : EReal) := by
  unfold W1 AttnMath.rowPos
  after_reads_at
  by_cases hp : r.val % 8 * 2080 + r.val / 8 < 16400
  · refine (dif_pos hp).trans (Eq.trans ?_ (dif_pos hp).symm)
    after_reads_at
  · refine (dif_neg hp).trans (Eq.trans ?_ (dif_neg hp).symm)
    after_reads_at

theorem rowsQ (c : Dev nD) (r : Fin 16640) (h : Fin 8) (d : Fin 96) :
    (W1 m ρ c (Proc.devRef .tc main_v14) (ix3 r h d) : EReal)
      = (if hp : AttnMath.rowPos r.val < 16400 then A0 m c h ⟨AttnMath.rowPos r.val, hp⟩ d else (0 : EReal))
        * ((1 / (Real.log 2 * Real.sqrt 96) : ℝ) : EReal) := by
  unfold W1 AttnMath.rowPos
  after_reads_at
  refine Eq.trans (congrArg (_ * ·) scale_eq) (congrArg (· * _) ?_)
  by_cases hp : r.val % 8 * 2080 + r.val / 8 < 16400
  · refine (dif_pos hp).trans (Eq.trans ?_ (dif_pos hp).symm)
    after_reads_at
  · refine (dif_neg hp).trans (Eq.trans ?_ (dif_neg hp).symm)
    after_reads_at

theorem rowsX (c : Dev nD) (r : Fin 16640) (h : Fin 8) (d : Fin 128) :
    (W1 m ρ c (Proc.devRef .tc main_v35) (ix3 r h d) : EReal)
      = if hd : d.val < 64 then (if hp : AttnMath.rowPos r.val < 16400 then A2 m c h ⟨AttnMath.rowPos r.val, hp⟩ ⟨d.val, hd⟩ else (0 : EReal))
        else if d.val = 64 then (1 : EReal) else (0 : EReal) := by
  unfold W1 AttnMath.rowPos
  after_reads_at
  by_cases hd : d.val < 64
  · refine (dif_pos hd).trans (Eq.trans ?_ (dif_pos hd).symm)
    after_reads_at
    by_cases hp : r.val % 8 * 2080 + r.val / 8 < 16400
    · refine (dif_pos hp).trans (Eq.trans ?_ (dif_pos hp).symm)
      after_reads_at
      refine congrArg (m ((c : Thread nD τ).loc main_arg2)) (funext fun i => Fin.ext ?_)
      fin_cases i <;> simp <;> omega
    · refine (dif_neg hp).trans (Eq.trans ?_ (dif_neg hp).symm)
      after_reads_at
  · refine (dif_neg hd).trans (Eq.trans ?_ (dif_neg hd).symm)
    by_cases h1 : d.val = 64
    · refine (dif_pos (by omega)).trans (Eq.trans ?_ (if_pos h1).symm)
      after_reads_at
    · refine (dif_neg (by omega)).trans (Eq.trans ?_ (if_neg h1).symm)
      after_reads_at

theorem at37 (c : Dev nD) (h : Fin 8) (n : Fin 13) (d : Fin 96) (x : Fin 1280) : W1 m ρ c (Proc.devRef .tc main_v37) (ix4 h n d x) = W1 m ρ c (Proc.devRef .tc main_v14) (ix3 ⟨1280 * n.val + x.val, by omega⟩ h d) := by
  have e : W1 m ρ c (Proc.devRef .tc main_v37) = transpose S8x13x96x1280 [2, 0, 3, 1] (shapeCast S13x1280x8x96 (W1 m ρ c (Proc.devRef .tc main_v14)) shapeCasts_S16640x8x96_S13x1280x8x96) transposes_S13x1280x8x96_S8x13x96x1280_2_0_3_1 := by
    unfold W1
    after_reads_simp
    try rfl
  rw [e]
  generalize W1 m ρ c (Proc.devRef .tc main_v14) = X
  pointwise
  try refine congrArg X (congrArg (ix3 · h d) (Fin.ext ?_))
  try simp only [Nat.mul_comm]

theorem at39 (c : Dev nD) (h : Fin 8) (n : Fin 13) (d : Fin 128) (x : Fin 1280) : W1 m ρ c (Proc.devRef .tc main_v39) (ix4 h n d x) = W1 m ρ c (Proc.devRef .tc main_v35) (ix3 ⟨1280 * n.val + x.val, by omega⟩ h d) := by
  have e : W1 m ρ c (Proc.devRef .tc main_v39) = transpose S8x13x128x1280 [2, 0, 3, 1] (shapeCast S13x1280x8x128 (W1 m ρ c (Proc.devRef .tc main_v35)) shapeCasts_S16640x8x128_S13x1280x8x128) transposes_S13x1280x8x128_S8x13x128x1280_2_0_3_1 := by
    unfold W1
    after_reads_simp
    try rfl
  rw [e]
  generalize W1 m ρ c (Proc.devRef .tc main_v35) = X
  pointwise
  try refine congrArg X (congrArg (ix3 · h d) (Fin.ext ?_))
  try simp only [Nat.mul_comm]

theorem at40 (c : Dev nD) (h : Fin 8) (r : Fin 16640) (d : Fin 96) : W1 m ρ c (Proc.devRef .tc main_v40) (ix3 h r d) = W1 m ρ c (Proc.devRef .tc main_v23) (ix3 r h d) := by
  have e : W1 m ρ c (Proc.devRef .tc main_v40) = transpose S8x16640x96 [1, 0, 2] (W1 m ρ c (Proc.devRef .tc main_v23)) transposes_S16640x8x96_S8x16640x96_1_0_2 := by
    unfold W1
    after_reads_simp
    try rfl
  rw [e]
  generalize W1 m ρ c (Proc.devRef .tc main_v23) = X
  pointwise
  try refine congrArg X (congrArg (ix3 · h d) (Fin.ext ?_))
  try simp only [Nat.mul_comm]

theorem at41 (c : Dev nD) (h : Fin 8) (d : Fin 96) (r : Fin 16640) : W1 m ρ c (Proc.devRef .tc main_v41) (ix3 h d r) = W1 m ρ c (Proc.devRef .tc main_v23) (ix3 r h d) := by
  have e : W1 m ρ c (Proc.devRef .tc main_v41) = transpose S8x96x16640 [1, 2, 0] (W1 m ρ c (Proc.devRef .tc main_v23)) transposes_S16640x8x96_S8x96x16640_1_2_0 := by
    unfold W1
    after_reads_simp
    try rfl
  rw [e]
  generalize W1 m ρ c (Proc.devRef .tc main_v23) = X
  pointwise
  try refine congrArg X (congrArg (ix3 · h d) (Fin.ext ?_))
  try simp only [Nat.mul_comm]

theorem at42 (c : Dev nD) (h : Fin 8) (r : Fin 16640) (d : Fin 64) : W1 m ρ c (Proc.devRef .tc main_v42) (ix3 h r d) = W1 m ρ c (Proc.devRef .tc main_v32) (ix3 r h d) := by
  have e : W1 m ρ c (Proc.devRef .tc main_v42) = transpose S8x16640x64 [1, 0, 2] (W1 m ρ c (Proc.devRef .tc main_v32)) transposes_S16640x8x64_S8x16640x64_1_0_2 := by
    unfold W1
    after_reads_simp
    try rfl
  rw [e]
  generalize W1 m ρ c (Proc.devRef .tc main_v32) = X
  pointwise
  try refine congrArg X (congrArg (ix3 · h d) (Fin.ext ?_))
  try simp only [Nat.mul_comm]

end Attn.Host
-- ==== Proof.AttnHost1.lean ====
/- What the host lines between the two attention regions and after them leave, element by element. -/
module

public import proofs.«01_k».proof.Proof.AttnHost0

@[expose] public section

set_option maxRecDepth 16384

noncomputable section

namespace Attn.Host

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg)

/-- The cotangent's rows as the first region's host lines leave them. -/
abbrev R52 (c : Dev nD) : FVec Ideal S16640x512 .f32 := W3 m ρ c (Proc.devRef .tc main_v52)
/-- The attention output's rows. -/
abbrev R45 (c : Dev nD) : FVec Ideal S16640x512 .f32 := W3 m ρ c (Proc.devRef .tc main_v45)

theorem rows45 (c : Dev nD) (r : Fin 16640) (h : Fin 8) (d : Fin 64) :
    W3 m ρ c (Proc.devRef .tc main_v45) (ix2 r ⟨h.val * 64 + d.val, by omega⟩) = W2 m ρ c (Proc.devRef .tc main_v43_0) (ix3 h d r) := by
  have e : W3 m ρ c (Proc.devRef .tc main_v45) = shapeCast S16640x512 (transpose S16640x8x64 [2, 0, 1] (W2 m ρ c (Proc.devRef .tc main_v43_0)) transposes_S8x64x16640_S16640x8x64_2_0_1) shapeCasts_S16640x8x64_S16640x512 := by
    unfold W3
    after_reads_simp
    try rfl
  rw [e]
  generalize W2 m ρ c (Proc.devRef .tc main_v43_0) = X
  pointwise

theorem rows52 (c : Dev nD) (r : Fin 16640) (h : Fin 8) (d : Fin 64) :
    (W3 m ρ c (Proc.devRef .tc main_v52) (ix2 r ⟨h.val * 64 + d.val, by omega⟩) : EReal)
      = if hp : AttnMath.rowPos r.val < 16400 then A3 m c h ⟨AttnMath.rowPos r.val, hp⟩ d else (0 : EReal) := by
  unfold W3 AttnMath.rowPos
  after_reads_at
  by_cases hp : r.val % 8 * 2080 + r.val / 8 < 16400
  · refine (dif_pos hp).trans (Eq.trans ?_ (dif_pos hp).symm)
    after_reads_at
    refine (congrFun (W2_args m ρ c main_arg3 (by decide)) _).trans ?_
    refine congrArg (m ((c : Thread nD τ).loc main_arg3)) (funext fun i => Fin.ext ?_)
    fin_cases i <;> simp <;> omega
  · refine (dif_neg hp).trans (Eq.trans ?_ (dif_neg hp).symm)
    after_reads_at

theorem at58 (c : Dev nD) (h : Fin 8) (n : Fin 13) (d : Fin 64) (x : Fin 1280) :
    W3 m ρ c (Proc.devRef .tc main_v58) (ix4 h n d x) = W3 m ρ c (Proc.devRef .tc main_v52) (ix2 ⟨1280 * n.val + x.val, by omega⟩ ⟨h.val * 64 + d.val, by omega⟩) := by
  have e : W3 m ρ c (Proc.devRef .tc main_v58) = transpose S8x13x64x1280 [2, 0, 3, 1] (shapeCast S13x1280x8x64 (truncf (F := Ideal) .bf16 (R52 m ρ c) bitsLt_bf16_f32) shapeCasts_S16640x512_S13x1280x8x64) transposes_S13x1280x8x64_S8x13x64x1280_2_0_3_1 := by
    unfold W3
    after_reads_simp
    try rfl
  rw [e]
  show _ = R52 m ρ c _
  generalize R52 m ρ c = X
  pointwise
  refine congrArg X (funext fun i => Fin.ext ?_)
  fin_cases i <;> simp <;> omega

theorem at60 (c : Dev nD) (h : Fin 8) (n : Fin 13) (x : Fin 1280) :
    W3 m ρ c (Proc.devRef .tc main_v60) (ix4 h n 0 x) = W3 m ρ c (Proc.devRef .tc main_v55) (ix2 ⟨1280 * n.val + x.val, by omega⟩ h) := by
  have e : W3 m ρ c (Proc.devRef .tc main_v60) = shapeCast S8x13x1x1280 (transpose S8x16640 [1, 0] (W3 m ρ c (Proc.devRef .tc main_v55)) transposes_S16640x8_S8x16640_1_0) shapeCasts_S8x16640_S8x13x1x1280 := by
    unfold W3
    after_reads_simp
    try rfl
  rw [e]
  generalize W3 m ρ c (Proc.devRef .tc main_v55) = X
  pointwise
  refine congrArg X (funext fun i => Fin.ext ?_)
  fin_cases i <;> simp <;> omega

theorem at55 (c : Dev nD) (r : Fin 16640) (h : Fin 8) :
    (W3 m ρ c (Proc.devRef .tc main_v55) (ix2 r h) : EReal)
      = 0 + ∑ d : Fin 64, (R52 m ρ c (ix2 r ⟨h.val * 64 + d.val, by omega⟩) : EReal) * (R45 m ρ c (ix2 r ⟨h.val * 64 + d.val, by omega⟩) : EReal) := by
  have e : W3 m ρ c (Proc.devRef .tc main_v55) = Host.reduceAdd (F := Ideal) (shapeCast S16640x8x64 (mulf (F := Ideal) (R52 m ρ c) (R45 m ρ c)) shapeCasts_S16640x512_S16640x8x64) (constant (F := Ideal) S_ .f32 0x00000000#32) reducesTo_S16640x8x64_S16640x8_d2 h_S_ := by
    unfold R52 R45 W3
    after_reads_simp
    try rfl
  rw [e]
  generalize R52 m ρ c = X
  generalize R45 m ρ c = Z
  pointwise
  try rfl

theorem out78 (c : Dev nD) (h : Fin 8) (p : Fin 16400) (d : Fin 64) :
    W5 m ρ c (Proc.devRef .tc main_v78) (ix3 h p d)
      = W4 m ρ c (Proc.devRef .tc main_v45) (ix2 ⟨AttnMath.posRow p.val, by unfold AttnMath.posRow; omega⟩ ⟨h.val * 64 + d.val, by omega⟩) := by
  unfold W5 AttnMath.posRow
  after_reads_at

theorem out96 (c : Dev nD) (h : Fin 8) (p : Fin 16400) (d : Fin 64) :
    W5 m ρ c (Proc.devRef .tc main_v96) (ix3 h p d)
      = W4 m ρ c (Proc.devRef .tc main_v61_2) (ix3 h d ⟨AttnMath.posRow p.val, by unfold AttnMath.posRow; omega⟩) := by
  unfold W5 AttnMath.posRow
  after_reads_at
  refine congrArg (W4 m ρ c (Proc.devRef .tc main_v61_2)) (funext fun i => Fin.ext ?_)
  fin_cases i <;> simp <;> omega

theorem out84 (c : Dev nD) (h : Fin 8) (p : Fin 16400) (d : Fin 96) :
    (W5 m ρ c (Proc.devRef .tc main_v84) (ix3 h p d) : EReal)
      = (show EReal from W4 m ρ c (Proc.devRef .tc main_v61_0) (ix4 h ⟨AttnMath.posRow p.val / 1280, by unfold AttnMath.posRow; omega⟩ d ⟨AttnMath.posRow p.val % 1280, by omega⟩))
        * (Ideal.div 1 (show EReal from W4 m ρ c (Proc.devRef .tc main_v1) ix0) : EReal) := by
  unfold W5 AttnMath.posRow
  after_reads_at
  refine congrArg (fun X : EReal => X * _) (congrArg (W4 m ρ c (Proc.devRef .tc main_v61_0)) (funext fun i => Fin.ext ?_))
  fin_cases i <;> simp <;> omega

theorem out90 (c : Dev nD) (h : Fin 8) (p : Fin 16400) (d : Fin 96) :
    (W5 m ρ c (Proc.devRef .tc main_v90) (ix3 h p d) : EReal)
      = (show EReal from W4 m ρ c (Proc.devRef .tc main_v61_1) (ix3 h d ⟨AttnMath.posRow p.val, by unfold AttnMath.posRow; omega⟩))
        * (show EReal from W4 m ρ c (Proc.devRef .tc main_v0) ix0) := by
  unfold W5 AttnMath.posRow
  after_reads_at
  refine congrArg (fun X : EReal => X * _) (congrArg (W4 m ρ c (Proc.devRef .tc main_v61_1)) (funext fun i => Fin.ext ?_))
  fin_cases i <;> simp <;> omega

end Attn.Host
-- ==== Proof.AttnPay.lean ====
/- What the two attention bodies store, element by element, at the extended reals. -/
module

public import proofs.«01_k».proof.Proof.Gen.KernelIdeal.Skeleton
public import proofs.«01_k».proof.Proof.AttnMath
public import Idealize.ShloMosaic.Lib.Pointwise
public import Idealize.ShloMosaic.PureOps.IdealRules

@[expose] public section

set_option maxRecDepth 16384

noncomputable section

namespace Attn.Pay

open Idealize.ShloMosaic Idealize.SL.Sem
open Cert.KernelIdeal Cert.KernelIdeal.Gen

theorem bot_word : Ideal.ofBits .f32 (0xFF800000#32) = (⊥ : EReal) := by simp [Ideal.ofBits, Ideal.ieee]

/-! ## Forward: a chunk without a mask -/

/-- The scores of a chunk: keys against queries. -/
theorem score (q : FVec Ideal S1x1x96x1280 .bf16) (k : FVec Ideal S1x1280x96 .bf16) (a x : Fin 1280) :
    k0_pay9 (F := Ideal) q k (ix2 a x) = ∑ d : Fin 96, k (ix3 0 a d) * q (ix4 0 0 d x) := by
  pointwise [k0_pay9, k0_pay8]

theorem level (q : FVec Ideal S1x1x96x1280 .bf16) (k : FVec Ideal S1x1280x96 .bf16) (m : FVec Ideal S1x1280 .f32) (x : Fin 1280) :
    k0_pay12 (F := Ideal) q k m (ix2 0 x)
      = max (m (ix2 0 x)) (Finset.univ.fold max (⊥ : EReal) fun a : Fin 1280 => k0_pay9 (F := Ideal) q k (ix2 a x)) := by
  rw [← bot_word]
  pointwise [k0_pay12, k0_pay10]

theorem accum (q : FVec Ideal S1x1x96x1280 .bf16) (k : FVec Ideal S1x1280x96 .bf16) (m : FVec Ideal S1x1280 .f32)
    (acc : FVec Ideal S128x1280 .f32) (v : FVec Ideal S1x1x128x1280 .bf16) (d : Fin 128) (x : Fin 1280) :
    k0_pay11 (F := Ideal) q k m acc v (ix2 d x)
      = Ideal.exp2 (m (ix2 0 x) - k0_pay12 (F := Ideal) q k m (ix2 0 x)) * acc (ix2 d x)
        + ∑ a : Fin 1280, v (ix4 0 0 d a) * Ideal.exp2 (k0_pay9 (F := Ideal) q k (ix2 a x) - k0_pay12 (F := Ideal) q k m (ix2 0 x)) := by
  pointwise [k0_pay11, k0_pay12]
  rfl

/-! ## Forward: a masked chunk -/

/-- The mask at key row `a` of the chunk that starts at row `base`. -/
def maskBit (base : BitVec 32) (a : Fin 1280) : BitVec 1 :=
  Scalar.cmpi .slt (((base + BitVec.ofNat 32 a.val) &&& 7#32) * 2080#32 + BitVec.sshiftRight (base + BitVec.ofNat 32 a.val) 3) 16400#32

theorem maskBit_11 : ∀ a : Fin 1280, maskBit 14080#32 a = BitVec.ofBool (decide (AttnMath.rowPos (14080 + a.val) < 16400)) := by
  decide +kernel

theorem maskBit_12 : ∀ a : Fin 1280, maskBit 15360#32 a = BitVec.ofBool (decide (AttnMath.rowPos (15360 + a.val) < 16400)) := by
  decide +kernel

theorem scoreM (q : FVec Ideal S1x1x96x1280 .bf16) (b : BitVec 32) (k : FVec Ideal S1x1280x96 .bf16) (a x : Fin 1280) :
    k0_pay27 (F := Ideal) (k0_pay8 (F := Ideal) q) b k (ix2 a x)
      = Scalar.select (maskBit b a) (k0_pay9 (F := Ideal) q k (ix2 a x)) (⊥ : EReal) := by
  have hn : Named.named (F := Ideal) (φ := .f32) κ "mask" 0xF149F2CA#32 = (⊥ : EReal) :=
    IdealRules.named_const.ideal_named_scalar _ _ _ _ rfl
  pointwise [k0_pay27, k0_pay9, hn]
  rfl

theorem levelM (q : FVec Ideal S1x1x96x1280 .bf16) (b : BitVec 32) (k : FVec Ideal S1x1280x96 .bf16) (m : FVec Ideal S1x1280 .f32) (x : Fin 1280) :
    k0_pay30 (F := Ideal) (k0_pay8 (F := Ideal) q) b k m (ix2 0 x)
      = max (m (ix2 0 x)) (Finset.univ.fold max (⊥ : EReal) fun a : Fin 1280 => k0_pay27 (F := Ideal) (k0_pay8 (F := Ideal) q) b k (ix2 a x)) := by
  rw [← bot_word]
  pointwise [k0_pay30, k0_pay28]

theorem accumM (q : FVec Ideal S1x1x96x1280 .bf16) (b : BitVec 32) (k : FVec Ideal S1x1280x96 .bf16) (m : FVec Ideal S1x1280 .f32)
    (acc : FVec Ideal S128x1280 .f32) (v : FVec Ideal S1x1x128x1280 .bf16) (d : Fin 128) (x : Fin 1280) :
    k0_pay29 (F := Ideal) (k0_pay8 (F := Ideal) q) b k m acc v (ix2 d x)
      = Ideal.exp2 (m (ix2 0 x) - k0_pay30 (F := Ideal) (k0_pay8 (F := Ideal) q) b k m (ix2 0 x)) * acc (ix2 d x)
        + ∑ a : Fin 1280, v (ix4 0 0 d a) * Ideal.exp2 (k0_pay27 (F := Ideal) (k0_pay8 (F := Ideal) q) b k (ix2 a x) - k0_pay30 (F := Ideal) (k0_pay8 (F := Ideal) q) b k m (ix2 0 x)) := by
  pointwise [k0_pay29, k0_pay30]
  rfl

/-! ## Forward: the chunks that the body writes out one by one are the same chunk -/

section
variable {F : FTy → Type} [FloatOps F] [Named F]
variable (q : Vec F S1x1x96x1280 .bf16) (k : Vec F S1x1280x96 .bf16) (m : Vec F S1x1280 .f32) (acc : Vec F S128x1280 .f32) (v : Vec F S1x1x128x1280 .bf16)

theorem acc8 : k0_pay17 (k0_pay15 q k m) (k0_pay16 q k m acc) v = k0_pay11 q k m acc v := rfl
theorem m8 : k0_pay18 (k0_pay14 q k m) = k0_pay12 q k m := rfl
theorem acc9 : k0_pay21 (k0_pay8 q) k m acc v = k0_pay11 q k m acc v := rfl
theorem m9 : k0_pay22 (k0_pay20 (k0_pay8 q) k m) = k0_pay12 q k m := rfl
theorem acc10 : k0_pay25 (k0_pay8 q) k m acc v = k0_pay11 q k m acc v := rfl
theorem m10 : k0_pay26 (k0_pay8 q) k m = k0_pay12 q k m := rfl
theorem acc12 : k0_pay1 (k0_pay33 (k0_pay8 q) k m acc v) = k0_pay29 (k0_pay8 q) 15360#32 k m acc v := rfl
theorem m12 : k0_pay2 (k0_pay32 (k0_pay8 q) k m) = k0_pay30 (k0_pay8 q) 15360#32 k m := rfl
end

/-! ## Forward: start and outputs -/

theorem m0 (x : Fin 1280) : k0_pay6 (F := Ideal) (ix2 0 x) = (⊥ : EReal) := by
  have hn : Named.named (F := Ideal) (φ := .f32) κ "mask" 0xF149F2CA#32 = (⊥ : EReal) :=
    IdealRules.named_const.ideal_named_scalar _ _ _ _ rfl
  pointwise [k0_pay6, hn]

theorem acc0 (d : Fin 128) (x : Fin 1280) : k0_pay7 (F := Ideal) (ix2 d x) = (0 : EReal) := by
  pointwise [k0_pay7]

theorem outO (acc : FVec Ideal S128x1280 .f32) (d : Fin 64) (x : Fin 1280) :
    k0_pay4 (F := Ideal) acc (ix3 0 d x) = Ideal.div (acc (ix2 (⟨d.val, by omega⟩ : Fin 128) x)) (acc (ix2 (64 : Fin 128) x)) := by
  pointwise [k0_pay4, k0_pay3]

theorem outL (acc : FVec Ideal S128x1280 .f32) (m : FVec Ideal S1x1280 .f32) (x : Fin 1280) :
    k0_pay5 (F := Ideal) acc m (ix4 0 0 0 x)
      = m (ix2 0 x) + Ideal.log (acc (ix2 (64 : Fin 128) x)) * (((Real.log 2)⁻¹ : ℝ) : EReal) := by
  have hn : Named.named (F := Ideal) (φ := .f32) κ "log2e" 0x3FB8AA3B#32 = (((Real.log 2)⁻¹ : ℝ) : EReal) :=
    IdealRules.named_const.ideal_named_scalar _ _ _ _ rfl
  pointwise [k0_pay5, k0_pay3, hn]

/-! ## Backward -/

section
variable (k : FVec Ideal S1x640x96 .bf16) (kt : FVec Ideal S1x96x640 .bf16) (v : FVec Ideal S1x640x64 .bf16)
  (q : FVec Ideal S1x1x96x1280 .bf16) (o : FVec Ideal S1x1x64x1280 .bf16) (l δ : FVec Ideal S1x1x1x1280 .f32)

/-- The weight of key row `j` for query row `x`. -/
theorem bp (j : Fin 640) (x : Fin 1280) :
    k1_pay6 (F := Ideal) (k1_pay13 (F := Ideal) k) q l (ix2 j x)
      = Ideal.exp2 ((∑ d : Fin 96, k (ix3 0 j d) * q (ix4 0 0 d x)) - l (ix4 0 0 0 x)) := by
  pointwise [k1_pay6, k1_pay13, k1_pay4]
  rfl

theorem bdv (acc : FVec Ideal S64x640 .f32) (d : Fin 64) (j : Fin 640) :
    k1_pay7 (F := Ideal) (k1_pay13 (F := Ideal) k) q o l acc (ix2 d j)
      = acc (ix2 d j) + ∑ x : Fin 1280, o (ix4 0 0 d x) * k1_pay6 (F := Ideal) (k1_pay13 (F := Ideal) k) q l (ix2 j x) := by
  pointwise [k1_pay7, k1_pay5]

theorem bds (j : Fin 640) (x : Fin 1280) :
    k1_pay8 (F := Ideal) (k1_pay13 (F := Ideal) k) (k1_pay15 (F := Ideal) v) q o l δ (ix2 j x)
      = k1_pay6 (F := Ideal) (k1_pay13 (F := Ideal) k) q l (ix2 j x)
        * ((∑ d : Fin 64, v (ix3 0 j d) * o (ix4 0 0 d x)) - δ (ix4 0 0 0 x)) := by
  pointwise [k1_pay8, k1_pay5, k1_pay15]

theorem bdk (acc : FVec Ideal S96x640 .f32) (d : Fin 96) (j : Fin 640) :
    k1_pay9 (F := Ideal) (k1_pay13 (F := Ideal) k) (k1_pay15 (F := Ideal) v) q o l δ acc (ix2 d j)
      = acc (ix2 d j) + ∑ x : Fin 1280, q (ix4 0 0 d x) * k1_pay8 (F := Ideal) (k1_pay13 (F := Ideal) k) (k1_pay15 (F := Ideal) v) q o l δ (ix2 j x) := by
  pointwise [k1_pay9, k1_pay4]

theorem bdq (s : FVec Ideal S640x1280 .bf16) (acc : FVec Ideal S1x1x96x1280 .f32) (d : Fin 96) (x : Fin 1280) :
    k1_pay16 (F := Ideal) kt s acc (ix4 0 0 d x)
      = acc (ix4 0 0 d x) + ∑ j : Fin 640, kt (ix3 0 d j) * s (ix2 j x) := by
  pointwise [k1_pay16, k1_pay14]

end

section
variable {F : FTy → Type} [FloatOps F] [Named F]
variable (k : Vec F S1x640x96 .bf16) (kt : Vec F S1x96x640 .bf16) (v : Vec F S1x640x64 .bf16)
  (q : Vec F S1x1x96x1280 .bf16) (o : Vec F S1x1x64x1280 .bf16) (l δ : Vec F S1x1x1x1280 .f32)

theorem dv12 (acc : Vec F S64x640 .f32) :
    k1_pay21 (k1_pay18 o) (k1_pay19 k q) l acc = k1_pay7 (k1_pay13 k) q o l acc := rfl
theorem dk12 (acc : Vec F S96x640 .f32) :
    k1_pay23 (k1_pay15 v) (k1_pay17 q) (k1_pay18 o) (k1_pay19 k q) l δ acc = k1_pay9 (k1_pay13 k) (k1_pay15 v) q o l δ acc := rfl
theorem dq12 (acc : Vec F S1x1x96x1280 .f32) :
    k1_pay1 (k1_pay24 (k1_pay14 kt) (k1_pay15 v) (k1_pay18 o) (k1_pay19 k q) l δ acc)
      = k1_pay16 kt (k1_pay8 (k1_pay13 k) (k1_pay15 v) q o l δ) acc := rfl
end

theorem dq0 (r : Fin 13) (d : Fin 96) (x : Fin 1280) : k1_pay10 (F := Ideal) (ix4 0 r d x) = (0 : EReal) := by
  pointwise [k1_pay10]
theorem dk0 (d : Fin 96) (j : Fin 640) : k1_pay11 (F := Ideal) (ix2 d j) = (0 : EReal) := by
  pointwise [k1_pay11]
theorem dv0 (d : Fin 64) (j : Fin 640) : k1_pay12 (F := Ideal) (ix2 d j) = (0 : EReal) := by
  pointwise [k1_pay12]
theorem outDk (s : FVec Ideal S96x640 .f32) (d : Fin 96) (j : Fin 640) : k1_pay2 (F := Ideal) s (ix3 0 d j) = s (ix2 d j) := by
  pointwise [k1_pay2]
theorem outDv (s : FVec Ideal S64x640 .f32) (d : Fin 64) (j : Fin 640) : k1_pay3 (F := Ideal) s (ix3 0 d j) = s (ix2 d j) := by
  pointwise [k1_pay3]

end Attn.Pay
-- ==== Proof.AttnFwd.lean ====
/- The forward attention body at one grid point: the online softmax over thirteen chunks of keys. -/
module

public import proofs.«01_k».proof.Proof.Gen.KernelIdeal.Frame
public import proofs.«01_k».proof.Proof.AttnPay
public import Idealize.ShloMosaic.Lib.Pipeline.ValueKit

@[expose] public section

set_option maxRecDepth 16384

noncomputable section

namespace Attn.Fwd

open Idealize.ShloMosaic Idealize.ShloMosaic.TcCoe Idealize.SL.Sem
open Cert.KernelIdeal Cert.KernelIdeal.Gen

/-! ## One chunk, and the state after the loop -/

section Steps
variable {F : FTy → Type} [FloatOps F] [Named F]

/-- The running state: the level per query row, and the accumulator. -/
abbrev St (F : FTy → Type) := Vec F S1x1280 .f32 × Vec F S128x1280 .f32

def stepU (q : Vec F S1x1x96x1280 .bf16) (k : Vec F S1x1280x96 .bf16) (v : Vec F S1x1x128x1280 .bf16) (s : St F) : St F :=
  (k0_pay12 q k s.1, k0_pay11 q k s.1 s.2 v)

def stepM (b : BitVec 32) (q : Vec F S1x1x96x1280 .bf16) (k : Vec F S1x1280x96 .bf16) (v : Vec F S1x1x128x1280 .bf16) (s : St F) : St F :=
  (k0_pay30 (k0_pay8 q) b k s.1, k0_pay29 (k0_pay8 q) b k s.1 s.2 v)

/-- The state before trip `k` of the counted loop. -/
def st (q : Vec F S1x1x96x1280 .bf16) (K : Vec F S1x16640x96 .bf16) (V : Vec F S1x13x128x1280 .bf16) : ℕ → St F
  | 0 => (k0_pay6, k0_pay7)
  | k + 1 => if h : k < k0_t1_loop.trips then
      stepU q (View.ld K (Rect.unit (s := S1x16640x96) (k0_off1 ⟨k, h⟩) S1x1280x96.size (k0_off1_inb ⟨k, h⟩)))
        (View.ld V (Rect.unit (s := S1x13x128x1280) (k0_off2 ⟨k, h⟩) S1x1x128x1280.size (k0_off2_inb ⟨k, h⟩))) (st q K V k)
    else st q K V k

theorem trip (𝒱 : Variants) (c : Dev nD) (bd : Option 𝒱.V) (i : grid0.Coords) (arg2 : Memref sig .tc .vmem S1x1x96x1280 .bf16) (harg2 : arg2.IsWhole) (arg3 : Memref sig .tc .vmem S1x16640x96 .bf16) (harg3 : arg3.IsWhole) (arg4 : Memref sig .tc .vmem S1x13x128x1280 .bf16) (harg4 : arg4.IsWhole) (arg5 : Memref sig .tc .vmem S1x64x1280 .f32) (harg5 : arg5.IsWhole) (arg6 : Memref sig .tc .vmem S1x1x1x1280 .f32) (harg6 : arg6.IsWhole) (arg7 : Memref sig .tc .vmem S1x1280 .f32) (harg7 : arg7.IsWhole) (arg8 : Memref sig .tc .vmem S128x1280 .f32) (harg8 : arg8.IsWhole) (q : Vec F S1x1x96x1280 .bf16) (X3 : BufTy.Contents (Elt F) arg3.view.ty) (X4 : BufTy.Contents (Elt F) arg4.view.ty) (k : Fin k0_t1_loop.trips) (f7 f8) :
    (tripL_k0_t1 (F := F) 𝒱 c bd i arg2 harg2 arg3 harg3 arg4 harg4 arg5 harg5 arg6 harg6 arg7 harg7 arg8 harg8 q X3 X4 k f7 f8)
      = ([⟨Rect.unit (s := S1x1280) ![0, 0] S1x1280.size inb_S1x1280_S1x1280_0_0, (stepU q
            (View.ld (View.read (Elt F) arg3.view X3) (Rect.unit (s := S1x16640x96) (k0_off1 k) S1x1280x96.size (k0_off1_inb k)))
            (View.ld (View.read (Elt F) arg4.view X4) (Rect.unit (s := S1x13x128x1280) (k0_off2 k) S1x1x128x1280.size (k0_off2_inb k)))
            (View.read (Elt F) arg7.view f7, View.read (Elt F) arg8.view f8)).1⟩],
         [⟨Rect.unit (s := S128x1280) ![0, 0] S128x1280.size inb_S128x1280_S128x1280_0_0, (stepU q
            (View.ld (View.read (Elt F) arg3.view X3) (Rect.unit (s := S1x16640x96) (k0_off1 k) S1x1280x96.size (k0_off1_inb k)))
            (View.ld (View.read (Elt F) arg4.view X4) (Rect.unit (s := S1x13x128x1280) (k0_off2 k) S1x1x128x1280.size (k0_off2_inb k)))
            (View.read (Elt F) arg7.view f7, View.read (Elt F) arg8.view f8)).2⟩]) := by
  unfold tripL_k0_t1 trip_k0_t1
  dsimp only
  frame_out

/-- A store of the whole shape, read back whole. -/
theorem read_cons {sg : RefSig} {κ : Kind} {sp : Space} {S : Shape} {e : EltTy} (v : View sg κ sp S e) (f : v.ty.Contents (Elt F))
    {off : Fin S.rank → ℕ} (inb : ∀ a, off a + S.size a ≤ S.size a) (w : S.Idx → Elt F e) (L : List (View.Piece (Elt F) S e)) (h : ∀ a, off a = 0) :
    View.read (Elt F) v (v.writes (Elt F) f ((⟨Rect.unit off S.size inb, w⟩ : View.Piece (Elt F) S e) :: L)) = w := by
  have hc : ∀ y, ∃ p ∈ (⟨Rect.unit off S.size inb, w⟩ : View.Piece (Elt F) S e) :: L, y ∈ p.1.set := fun y =>
    ⟨_, List.mem_cons_self, View.mem_set_unit_zero (View.eq_zero_of_forall h) inb y⟩
  rw [View.read_writes_eq_canon v f _ hc, View.canon_cons_unit_lit inb w L h]

theorem loop (𝒱 : Variants) (c : Dev nD) (bd : Option 𝒱.V) (i : grid0.Coords) (arg2 : Memref sig .tc .vmem S1x1x96x1280 .bf16) (harg2 : arg2.IsWhole) (arg3 : Memref sig .tc .vmem S1x16640x96 .bf16) (harg3 : arg3.IsWhole) (arg4 : Memref sig .tc .vmem S1x13x128x1280 .bf16) (harg4 : arg4.IsWhole) (arg5 : Memref sig .tc .vmem S1x64x1280 .f32) (harg5 : arg5.IsWhole) (arg6 : Memref sig .tc .vmem S1x1x1x1280 .f32) (harg6 : arg6.IsWhole) (arg7 : Memref sig .tc .vmem S1x1280 .f32) (harg7 : arg7.IsWhole) (arg8 : Memref sig .tc .vmem S128x1280 .f32) (harg8 : arg8.IsWhole) (q : Vec F S1x1x96x1280 .bf16) (K : Vec F S1x16640x96 .bf16) (V : Vec F S1x13x128x1280 .bf16) (G7 G8)
    (h7 : View.read (Elt F) arg7.view G7 = k0_pay6) (h8 : View.read (Elt F) arg8.view G8 = k0_pay7) :
    ∀ k : ℕ, k ≤ k0_t1_loop.trips →
      View.read (Elt F) arg7.view (arg7.view.writes (Elt F) G7 (pb_k0_t1 (F := F) 𝒱 c bd i arg2 harg2 arg3 harg3 arg4 harg4 arg5 harg5 arg6 harg6 arg7 harg7 arg8 harg8 q (harg3.unread K) (harg4.unread V) G7 G8 k).1) = (st q K V k).1
      ∧ View.read (Elt F) arg8.view (arg8.view.writes (Elt F) G8 (pb_k0_t1 (F := F) 𝒱 c bd i arg2 harg2 arg3 harg3 arg4 harg4 arg5 harg5 arg6 harg6 arg7 harg7 arg8 harg8 q (harg3.unread K) (harg4.unread V) G7 G8 k).2) = (st q K V k).2
  | 0, _ => ⟨h7, h8⟩
  | k + 1, hk => by
    have ih := loop 𝒱 c bd i arg2 harg2 arg3 harg3 arg4 harg4 arg5 harg5 arg6 harg6 arg7 harg7 arg8 harg8 q K V G7 G8 h7 h8 k (Nat.le_of_succ_le hk)
    have e := pb_k0_t1_succ (F := F) 𝒱 c bd i arg2 harg2 arg3 harg3 arg4 harg4 arg5 harg5 arg6 harg6 arg7 harg7 arg8 harg8 q (harg3.unread K) (harg4.unread V) G7 G8 ⟨k, hk⟩
    rw [trip] at e
    have s : st q K V (k + 1) = _ := dif_pos hk
    rw [e, s]
    simp only [List.cons_append, List.nil_append]
    rw [read_cons _ _ _ _ _ (by decide), read_cons _ _ _ _ _ (by decide), ih.1, ih.2, harg3.read_unread, harg4.read_unread]
    exact ⟨rfl, rfl⟩

end Steps

/-! ## The whole point -/

section Point
variable {F : FTy → Type} [FloatOps F] [Named F]

/-- The state after all thirteen chunks: eight trips of the loop, three whole chunks, two masked ones. -/
def fin (q : Vec F S1x1x96x1280 .bf16) (K : Vec F S1x16640x96 .bf16) (V : Vec F S1x13x128x1280 .bf16) : St F :=
  stepM 15360#32 q (View.ld K (Rect.unit (s := S1x16640x96) ![0, 15360, 0] S1x1280x96.size inb_S1x16640x96_S1x1280x96_0_15360_0))
      (View.ld V (Rect.unit (s := S1x13x128x1280) ![0, 12, 0, 0] S1x1x128x1280.size inb_S1x13x128x1280_S1x1x128x1280_0_12_0_0)) <|
  stepM 14080#32 q (View.ld K (Rect.unit (s := S1x16640x96) ![0, 14080, 0] S1x1280x96.size inb_S1x16640x96_S1x1280x96_0_14080_0))
      (View.ld V (Rect.unit (s := S1x13x128x1280) ![0, 11, 0, 0] S1x1x128x1280.size inb_S1x13x128x1280_S1x1x128x1280_0_11_0_0)) <|
  stepU q (View.ld K (Rect.unit (s := S1x16640x96) ![0, 12800, 0] S1x1280x96.size inb_S1x16640x96_S1x1280x96_0_12800_0))
      (View.ld V (Rect.unit (s := S1x13x128x1280) ![0, 10, 0, 0] S1x1x128x1280.size inb_S1x13x128x1280_S1x1x128x1280_0_10_0_0)) <|
  stepU q (View.ld K (Rect.unit (s := S1x16640x96) ![0, 11520, 0] S1x1280x96.size inb_S1x16640x96_S1x1280x96_0_11520_0))
      (View.ld V (Rect.unit (s := S1x13x128x1280) ![0, 9, 0, 0] S1x1x128x1280.size inb_S1x13x128x1280_S1x1x128x1280_0_9_0_0)) <|
  stepU q (View.ld K (Rect.unit (s := S1x16640x96) ![0, 10240, 0] S1x1280x96.size inb_S1x16640x96_S1x1280x96_0_10240_0))
      (View.ld V (Rect.unit (s := S1x13x128x1280) ![0, 8, 0, 0] S1x1x128x1280.size inb_S1x13x128x1280_S1x1x128x1280_0_8_0_0)) <|
  st q K V k0_t1_loop.trips

theorem readCov_append {sg : RefSig} {κ : Kind} {sp : Space} {S : Shape} {e : EltTy} (v : View sg κ sp S e)
    {off : Fin S.rank → ℕ} (inb : ∀ a, off a + S.size a ≤ S.size a) (L L' : List (View.Piece (Elt F) S e)) (h : ∀ a, off a = 0) :
    v.readCov (L ++ L') (Rect.unit off S.size inb).toLoadRect = View.read (Elt F) v (v.writes (Elt F) (v.writes (Elt F) v.junk L') L) := by
  obtain rfl := View.eq_zero_of_forall h
  rw [View.readCov_eq_canon', ← View.read_writes_junk_eq_canon v, View.writes_append]
  funext j
  congr 1
  funext a; apply Fin.ext; simp [LoadRect.idx]

variable (V : (c : Dev nD) → (b : Ref sig .tc) → Buf (Elt F) ((c : Thread nD τ).loc b))

theorem loopM (c : Dev nD) (i : grid0.Coords) (arg2 : Memref sig .tc .vmem S1x1x96x1280 .bf16) (harg2 : arg2.IsWhole) (arg3 : Memref sig .tc .vmem S1x16640x96 .bf16) (harg3 : arg3.IsWhole) (arg4 : Memref sig .tc .vmem S1x13x128x1280 .bf16) (harg4 : arg4.IsWhole) (arg5 : Memref sig .tc .vmem S1x64x1280 .f32) (harg5 : arg5.IsWhole) (arg6 : Memref sig .tc .vmem S1x1x1x1280 .f32) (harg6 : arg6.IsWhole) (h7) (h8) (q : Vec F S1x1x96x1280 .bf16) (K : Vec F S1x16640x96 .bf16) (X : Vec F S1x13x128x1280 .bf16) :
    (View.whole cc0_scratch0).readCov ((pb_k0_t1 (F := F) Variants.none c none i arg2 harg2 arg3 harg3 arg4 harg4 arg5 harg5 arg6 harg6 scM0_0 h7 scM0_1 h8 q (harg3.unread K) (harg4.unread X)
        ((View.whole cc0_scratch0).writes (Elt F) (View.whole cc0_scratch0).junk [⟨Rect.unit (s := S1x1280) ![0, 0] S1x1280.size inb_S1x1280_S1x1280_0_0, k0_pay6⟩])
        ((View.whole cc0_scratch1).writes (Elt F) (View.whole cc0_scratch1).junk [⟨Rect.unit (s := S128x1280) ![0, 0] S128x1280.size inb_S128x1280_S128x1280_0_0, k0_pay7⟩])
        (Scf.trips (0#32) (Scalar.addi 0#32 8#32) 1#32)).1 ++ [⟨Rect.unit (s := S1x1280) ![0, 0] S1x1280.size inb_S1x1280_S1x1280_0_0, k0_pay6⟩])
        (Rect.unit (s := S1x1280) ![0, 0] S1x1280.size inb_S1x1280_S1x1280_0_0).toLoadRect
      = (st q K X k0_t1_loop.trips).1 := by
  refine (readCov_append (S := S1x1280) (View.whole cc0_scratch0) inb_S1x1280_S1x1280_0_0 _ _ (by decide)).trans ?_
  exact (loop Variants.none c none i arg2 harg2 arg3 harg3 arg4 harg4 arg5 harg5 arg6 harg6 scM0_0 h7 scM0_1 h8 q K X _ _
    (read_cons _ _ _ _ _ (by decide)) (read_cons _ _ _ _ _ (by decide)) k0_t1_loop.trips le_rfl).1

theorem loopA (c : Dev nD) (i : grid0.Coords) (arg2 : Memref sig .tc .vmem S1x1x96x1280 .bf16) (harg2 : arg2.IsWhole) (arg3 : Memref sig .tc .vmem S1x16640x96 .bf16) (harg3 : arg3.IsWhole) (arg4 : Memref sig .tc .vmem S1x13x128x1280 .bf16) (harg4 : arg4.IsWhole) (arg5 : Memref sig .tc .vmem S1x64x1280 .f32) (harg5 : arg5.IsWhole) (arg6 : Memref sig .tc .vmem S1x1x1x1280 .f32) (harg6 : arg6.IsWhole) (h7) (h8) (q : Vec F S1x1x96x1280 .bf16) (K : Vec F S1x16640x96 .bf16) (X : Vec F S1x13x128x1280 .bf16) :
    (View.whole cc0_scratch1).readCov ((pb_k0_t1 (F := F) Variants.none c none i arg2 harg2 arg3 harg3 arg4 harg4 arg5 harg5 arg6 harg6 scM0_0 h7 scM0_1 h8 q (harg3.unread K) (harg4.unread X)
        ((View.whole cc0_scratch0).writes (Elt F) (View.whole cc0_scratch0).junk [⟨Rect.unit (s := S1x1280) ![0, 0] S1x1280.size inb_S1x1280_S1x1280_0_0, k0_pay6⟩])
        ((View.whole cc0_scratch1).writes (Elt F) (View.whole cc0_scratch1).junk [⟨Rect.unit (s := S128x1280) ![0, 0] S128x1280.size inb_S128x1280_S128x1280_0_0, k0_pay7⟩])
        (Scf.trips (0#32) (Scalar.addi 0#32 8#32) 1#32)).2 ++ [⟨Rect.unit (s := S128x1280) ![0, 0] S128x1280.size inb_S128x1280_S128x1280_0_0, k0_pay7⟩])
        (Rect.unit (s := S128x1280) ![0, 0] S128x1280.size inb_S128x1280_S128x1280_0_0).toLoadRect
      = (st q K X k0_t1_loop.trips).2 := by
  refine (readCov_append (S := S128x1280) (View.whole cc0_scratch1) inb_S128x1280_S128x1280_0_0 _ _ (by decide)).trans ?_
  exact (loop Variants.none c none i arg2 harg2 arg3 harg3 arg4 harg4 arg5 harg5 arg6 harg6 scM0_0 h7 scM0_1 h8 q K X _ _
    (read_cons _ _ _ _ _ (by decide)) (read_cons _ _ _ _ _ (by decide)) k0_t1_loop.trips le_rfl).2

theorem after_o (c : Dev nD) (t : Fin cfg0.N) :
    (dat0 (F := F) V c).after 3 t = k0_pay4 (fin (iblk0 V c 0 t) (iblk0 V c 1 t) (iblk0 V c 2 t)).2 := by
  rw [after0_3]
  unfold outsAt0
  frame_out
  rw [loopM, loopA]
  rfl

theorem after_l (c : Dev nD) (t : Fin cfg0.N) :
    (dat0 (F := F) V c).after 4 t
      = k0_pay5 (fin (iblk0 V c 0 t) (iblk0 V c 1 t) (iblk0 V c 2 t)).2 (fin (iblk0 V c 0 t) (iblk0 V c 1 t) (iblk0 V c 2 t)).1 := by
  rw [after0_4]
  unfold outsAt0
  frame_out
  rw [loopM, loopA]
  rfl

end Point

/-! ## The online softmax of one query column -/

section Column

theorem off1 : ∀ k : Fin k0_t1_loop.trips, k0_off1 k = ![0, 1280 * k.val, 0] := by decide +kernel
theorem off2 : ∀ k : Fin k0_t1_loop.trips, k0_off2 k = ![0, k.val, 0, 0] := by decide +kernel
theorem trips_eq : k0_t1_loop.trips = 8 := by decide +kernel

theorem ld_k (K : Vec Ideal S1x16640x96 .bf16) {off : Fin 3 → ℕ} (h) (o : ℕ) (ho : off = ![0, o, 0]) (a : Fin 1280) (d : Fin 96) (hb : o + a.val < 16640) :
    View.ld K (Rect.unit (s := S1x16640x96) off S1x1280x96.size h) (ix3 0 a d) = K (ix3 0 ⟨o + a.val, hb⟩ d) := by
  subst ho
  unfold View.ld
  refine congrArg _ (funext fun i => Fin.ext ?_)
  fin_cases i <;> simp [LoadRect.idx, Rect.unit]

theorem ld_v (V : Vec Ideal S1x13x128x1280 .bf16) {off : Fin 4 → ℕ} (h) (n : Fin 13) (ho : off = ![0, n.val, 0, 0]) (d : Fin 128) (a : Fin 1280) :
    View.ld V (Rect.unit (s := S1x13x128x1280) off S1x1x128x1280.size h) (ix4 0 0 d a) = V (ix4 0 n d a) := by
  subst ho
  unfold View.ld
  refine congrArg _ (funext fun i => Fin.ext ?_)
  fin_cases i <;> simp [LoadRect.idx, Rect.unit]

variable (valid : ℕ → Prop) [DecidablePred valid]

/-- A chunk without a mask, all its rows valid. -/
theorem run_stepU {q : Vec Ideal S1x1x96x1280 .bf16} {k : Vec Ideal S1x1280x96 .bf16} {vx : Vec Ideal S1x1x128x1280 .bf16} {s : St Ideal}
    {qr : Fin 96 → ℝ} {kr : ℕ → Fin 96 → ℝ} {vr : ℕ → Fin 128 → ℝ} {n : ℕ} {x : Fin 1280}
    (hq : ∀ d, q (ix4 0 0 d x) = ((qr d : ℝ) : EReal)) (hk : ∀ a d, k (ix3 0 a d) = ((kr (1280 * n + a.val) d : ℝ) : EReal))
    (hv : ∀ d a, vx (ix4 0 0 d a) = ((vr (1280 * n + a.val) d : ℝ) : EReal)) (hval : ∀ a : Fin 1280, valid (1280 * n + a.val))
    (h : AttnMath.Run valid (fun r => ∑ d, kr r d * qr d) vr (1280 * n) (s.1 (ix2 0 x)) (fun d => s.2 (ix2 d x))) :
    AttnMath.Run valid (fun r => ∑ d, kr r d * qr d) vr (1280 * (n + 1)) ((stepU q k vx s).1 (ix2 0 x)) (fun d => (stepU q k vx s).2 (ix2 d x)) := by
  refine h.step (s := fun a => k0_pay9 (F := Ideal) q k (ix2 a x)) (vv := fun a d => vx (ix4 0 0 d a)) (fun a => ?_) (fun a d => hv d a)
    (Pay.level q k s.1 x) (fun d => Pay.accum q k s.1 s.2 vx d x)
  beta_reduce
  rw [if_pos (hval a), Pay.score]
  exact AttnMath.sum_mul_coe _ _ _ _ _ (fun d => hk a d) hq

/-- A masked chunk. -/
theorem run_stepM {q : Vec Ideal S1x1x96x1280 .bf16} {k : Vec Ideal S1x1280x96 .bf16} {vx : Vec Ideal S1x1x128x1280 .bf16} {s : St Ideal}
    {qr : Fin 96 → ℝ} {kr : ℕ → Fin 96 → ℝ} {vr : ℕ → Fin 128 → ℝ} {n : ℕ} {x : Fin 1280} {b : BitVec 32}
    (hq : ∀ d, q (ix4 0 0 d x) = ((qr d : ℝ) : EReal)) (hk : ∀ a d, k (ix3 0 a d) = ((kr (1280 * n + a.val) d : ℝ) : EReal))
    (hv : ∀ d a, vx (ix4 0 0 d a) = ((vr (1280 * n + a.val) d : ℝ) : EReal))
    (hval : ∀ a : Fin 1280, Pay.maskBit b a = BitVec.ofBool (decide (valid (1280 * n + a.val))))
    (h : AttnMath.Run valid (fun r => ∑ d, kr r d * qr d) vr (1280 * n) (s.1 (ix2 0 x)) (fun d => s.2 (ix2 d x))) :
    AttnMath.Run valid (fun r => ∑ d, kr r d * qr d) vr (1280 * (n + 1)) ((stepM b q k vx s).1 (ix2 0 x)) (fun d => (stepM b q k vx s).2 (ix2 d x)) := by
  refine h.step (s := fun a => k0_pay27 (F := Ideal) (k0_pay8 (F := Ideal) q) b k (ix2 a x)) (vv := fun a d => vx (ix4 0 0 d a)) (fun a => ?_) (fun a d => hv d a)
    (Pay.levelM q b k s.1 x) (fun d => Pay.accumM q b k s.1 s.2 vx d x)
  beta_reduce
  rw [Pay.scoreM, hval, Pay.score, AttnMath.sum_mul_coe _ _ _ _ _ (fun d => hk a d) hq]
  by_cases hv : valid (1280 * n + a.val)
  · rw [if_pos hv, decide_eq_true hv]; rfl
  · rw [if_neg hv, decide_eq_false hv]; rfl

/-- The rows that are tokens. -/
abbrev tok (r : ℕ) : Prop := AttnMath.rowPos r < 16400

theorem run_fin {q : Vec Ideal S1x1x96x1280 .bf16} {K : Vec Ideal S1x16640x96 .bf16} {VX : Vec Ideal S1x13x128x1280 .bf16}
    {qr : Fin 96 → ℝ} {kr : ℕ → Fin 96 → ℝ} {vr : ℕ → Fin 128 → ℝ} {x : Fin 1280}
    (hq : ∀ d, q (ix4 0 0 d x) = ((qr d : ℝ) : EReal)) (hk : ∀ (r : Fin 16640) d, K (ix3 0 r d) = ((kr r.val d : ℝ) : EReal))
    (hv : ∀ (n : Fin 13) d (a : Fin 1280), VX (ix4 0 n d a) = ((vr (1280 * n.val + a.val) d : ℝ) : EReal)) :
    AttnMath.Run tok (fun r => ∑ d, kr r d * qr d) vr 16640 ((fin q K VX).1 (ix2 0 x)) (fun d => (fin q K VX).2 (ix2 d x)) := by
  have kk : ∀ (n : ℕ) (hn : n < 13) {off : Fin 3 → ℕ} (h) (ho : off = ![0, 1280 * n, 0]) (a : Fin 1280) (d : Fin 96),
      View.ld K (Rect.unit (s := S1x16640x96) off S1x1280x96.size h) (ix3 0 a d) = ((kr (1280 * n + a.val) d : ℝ) : EReal) := by
    intro n hn off h ho a d
    rw [ld_k K h (1280 * n) ho a d (by omega), hk]
  have vv : ∀ (n : ℕ) (hn : n < 13) {off : Fin 4 → ℕ} (h) (ho : off = ![0, n, 0, 0]) (d : Fin 128) (a : Fin 1280),
      View.ld VX (Rect.unit (s := S1x13x128x1280) off S1x1x128x1280.size h) (ix4 0 0 d a) = ((vr (1280 * n + a.val) d : ℝ) : EReal) := by
    intro n hn off h ho d a
    rw [ld_v VX h ⟨n, hn⟩ ho d a, hv]
  have early : ∀ n, n < 11 → ∀ a : Fin 1280, tok (1280 * n + a.val) := fun n hn a => AttnMath.rowPos_early _ (by omega)
  have h1 : ∀ k, k < 8 → AttnMath.Run tok (fun r => ∑ d, kr r d * qr d) vr (1280 * (k + 1)) ((st q K VX (k + 1)).1 (ix2 0 x)) (fun d => (st q K VX (k + 1)).2 (ix2 d x)) := by
    intro k
    induction k with
    | zero =>
      intro _
      have hk0 : 0 < k0_t1_loop.trips := by rw [trips_eq]; omega
      have s : st q K VX (0 + 1) = _ := dif_pos hk0
      rw [s]
      refine AttnMath.Run.first (n := 1280) (s := fun a => k0_pay9 (F := Ideal) q _ (ix2 a x)) (vv := fun a d => _) (fun a => ?_) (fun a d => vv 0 (by omega) _ (off2 ⟨0, hk0⟩) d a)
        0 (early 0 (by omega) 0) ((Pay.level q _ _ x).trans (by rw [show (st q K VX 0).1 = k0_pay6 (F := Ideal) from rfl, Pay.m0])) (fun d => (Pay.accum q _ _ _ _ d x).trans (by
          rw [show (st q K VX 0).1 = k0_pay6 (F := Ideal) from rfl, show (st q K VX 0).2 = k0_pay7 (F := Ideal) from rfl, Pay.m0, Pay.acc0]; rfl))
      beta_reduce
      rw [if_pos (early 0 (by omega) a), Pay.score]
      exact AttnMath.sum_mul_coe _ _ _ _ _ (fun d => kk 0 (by omega) _ (off1 ⟨0, hk0⟩) a d) hq
    | succ k ih =>
      intro hk8
      have hkt : k + 1 < k0_t1_loop.trips := by rw [trips_eq]; omega
      have s : st q K VX (k + 1 + 1) = _ := dif_pos hkt
      rw [s]
      exact run_stepU tok hq (fun a d => kk (k + 1) (by omega) _ (off1 ⟨k + 1, hkt⟩) a d) (fun d a => vv (k + 1) (by omega) _ (off2 ⟨k + 1, hkt⟩) d a)
        (early (k + 1) (by omega)) (ih (by omega))
  have h8 := h1 7 (by omega)
  rw [show (7 + 1 : ℕ) = k0_t1_loop.trips from trips_eq.symm] at h8
  rw [trips_eq] at h8
  unfold fin
  rw [trips_eq]
  exact run_stepM tok (n := 12) hq (fun a d => kk 12 (by omega) _ rfl a d) (fun d a => vv 12 (by omega) _ rfl d a) Pay.maskBit_12 <|
    run_stepM tok (n := 11) hq (fun a d => kk 11 (by omega) _ rfl a d) (fun d a => vv 11 (by omega) _ rfl d a) Pay.maskBit_11 <|
    run_stepU tok (n := 10) hq (fun a d => kk 10 (by omega) _ rfl a d) (fun d a => vv 10 (by omega) _ rfl d a) (early 10 (by omega)) <|
    run_stepU tok (n := 9) hq (fun a d => kk 9 (by omega) _ rfl a d) (fun d a => vv 9 (by omega) _ rfl d a) (early 9 (by omega)) <|
    run_stepU tok (n := 8) hq (fun a d => kk 8 (by omega) _ rfl a d) (fun d a => vv 8 (by omega) _ rfl d a) (early 8 (by omega)) h8

end Column

end Attn.Fwd
-- ==== Proof.AttnArr.lean ====
/- The arrays the attention region leaves, element by element, when their input arrays hold real numbers. -/
module

public import proofs.«01_k».proof.Proof.AttnFwd

@[expose] public section

set_option maxRecDepth 16384

noncomputable section

namespace Attn.Arr

open Idealize.ShloMosaic Idealize.ShloMosaic.TcCoe Idealize.SL.Sem
open Idealize.ShloMosaic.Pipeline (Dat)
open Cert.KernelIdeal Cert.KernelIdeal.Gen
open Attn.Fwd (tok)

variable (V : (c : Dev nD) → (b : Ref sig .tc) → Buf (Elt Ideal) ((c : Thread nD τ).loc b))

theorem idx0 : ∀ t : Fin cfg0.N, win0_0.index t = ![t.val / 13, t.val % 13, 0, 0] ∧ win0_1.index t = ![t.val / 13, 0, 0]
    ∧ win0_2.index t = ![t.val / 13, 0, 0, 0] ∧ win0_3.index t = ![t.val / 13, 0, t.val % 13] ∧ win0_4.index t = ![t.val / 13, t.val % 13, 0, 0] ∧ t.val / 13 < 8 :=
  (by decide +kernel : ∀ t : Fin grid0.N, _)

/-- The score, in powers of two, of key row `r'` for query row `r` in one head. -/
def sc (Q K : ℕ → Fin 96 → ℝ) (r r' : ℕ) : ℝ := ∑ e, K r' e * Q r e

/-- The weighted sum of the value rows. -/
def oR (Q K : ℕ → Fin 96 → ℝ) (VX : ℕ → Fin 128 → ℝ) (d : Fin 128) (r : ℕ) : ℝ :=
  ∑ r' ∈ Finset.range 16640, if tok r' then VX r' d * ((2 : ℝ) ^ sc Q K r r' / AttnMath.mass tok (sc Q K r) 16640) else 0

/-- The logarithm of the mass of a query row, in powers of two. -/
def lR (Q K : ℕ → Fin 96 → ℝ) (r : ℕ) : ℝ := Real.log (AttnMath.mass tok (sc Q K r) 16640) / Real.log 2

/-- The first region's input arrays hold these real numbers. -/
structure In0 (c : Dev nD) (Q K : ℕ → ℕ → Fin 96 → ℝ) (VX : ℕ → ℕ → Fin 128 → ℝ) : Prop where
  q : ∀ (h : Fin 8) (n : Fin 13) (d : Fin 96) (x : Fin 1280), V c main_v37 (ix4 h n d x) = ((Q h.val (1280 * n.val + x.val) d : ℝ) : EReal)
  k : ∀ (h : Fin 8) (r : Fin 16640) (d : Fin 96), V c main_v40 (ix3 h r d) = ((K h.val r.val d : ℝ) : EReal)
  v : ∀ (h : Fin 8) (n : Fin 13) (d : Fin 128) (x : Fin 1280), V c main_v39 (ix4 h n d x) = ((VX h.val (1280 * n.val + x.val) d : ℝ) : EReal)
  one : ∀ h r, tok r → VX h r 64 = 1

variable {V} {c : Dev nD} {Q K : ℕ → ℕ → Fin 96 → ℝ} {VX : ℕ → ℕ → Fin 128 → ℝ}

theorem run0 (H : In0 V c Q K VX) (t : Fin cfg0.N) (x : Fin 1280) :
    AttnMath.Run tok (sc (Q (t.val / 13)) (K (t.val / 13)) (1280 * (t.val % 13) + x.val)) (VX (t.val / 13)) 16640
      ((Fwd.fin (iblk0 V c 0 t) (iblk0 V c 1 t) (iblk0 V c 2 t)).1 (ix2 0 x))
      (fun d => (Fwd.fin (iblk0 V c 0 t) (iblk0 V c 1 t) (iblk0 V c 2 t)).2 (ix2 d x)) := by
  have hh := (idx0 t).2.2.2.2.2
  refine Fwd.run_fin (qr := Q (t.val / 13) (1280 * (t.val % 13) + x.val)) (kr := K (t.val / 13)) (vr := VX (t.val / 13)) (fun d => ?_) (fun r d => ?_) (fun n d a => ?_)
  · refine Eq.trans ?_ (H.q ⟨t.val / 13, hh⟩ ⟨t.val % 13, Nat.mod_lt _ (by decide)⟩ d x)
    blk_ext [iblk0, idx0 t]
  · refine Eq.trans ?_ (H.k ⟨t.val / 13, hh⟩ r d)
    blk_ext [iblk0, idx0 t]
  · refine Eq.trans ?_ (H.v ⟨t.val / 13, hh⟩ n d a)
    blk_ext [iblk0, idx0 t]

theorem arrO (H : In0 V c Q K VX) (h : Fin 8) (d : Fin 64) (r : Fin 16640) :
    (dat0 V c).arrAt 3 cfg0.N (ix3 h d r) = ((oR (Q h.val) (K h.val) (VX h.val) ⟨d.val, by omega⟩ r.val : ℝ) : EReal) := by
  have e : (dat0 V c).arrAt 3 cfg0.N = (fun i : S8x64x16640.Idx =>
      ((oR (Q (i 0).val) (K (i 0).val) (VX (i 0).val) ⟨(i 1).val, by have : (i 1).val < 64 := (i 1).isLt; omega⟩ (i 2).val : ℝ) : EReal)) := by
    refine (dat0 V c).arrAt_eq_of_covers 3 _ (by decide +kernel) fun t hf y => ?_
    blk_simp
    rw [Fwd.after_o]
    obtain ⟨z, d, x, rfl⟩ : ∃ (z : Fin 1) (d : Fin 64) (x : Fin 1280), y = ix3 z d x := ⟨y 0, y 1, y 2, eq_ix3 y⟩
    obtain rfl : z = 0 := Subsingleton.elim _ _
    have e0 : win0_3.index t 0 = t.val / 13 := by rw [(idx0 t).2.2.2.1]; rfl
    have e1 : win0_3.index t 1 = 0 := by rw [(idx0 t).2.2.2.1]; rfl
    have e2 : win0_3.index t 2 = t.val % 13 := by rw [(idx0 t).2.2.2.1]; rfl
    refine (Pay.outO _ d x).trans (((run0 H t x).out (d1 := 64) (H.one _) (r0 := 0) (by decide) (by decide) _).trans ?_)
    simp only [e0, e1, e2, oR, Nat.zero_mul, Nat.zero_add, Nat.mul_comm _ 1280]
    rfl
  rw [e]
  rfl

theorem arrL (H : In0 V c Q K VX) (h : Fin 8) (n : Fin 13) (x : Fin 1280) :
    (dat0 V c).arrAt 4 cfg0.N (ix4 h n 0 x) = ((lR (Q h.val) (K h.val) (1280 * n.val + x.val) : ℝ) : EReal) := by
  have e : (dat0 V c).arrAt 4 cfg0.N = (fun i : S8x13x1x1280.Idx =>
      ((lR (Q (i 0).val) (K (i 0).val) (1280 * (i 1).val + (i 3).val) : ℝ) : EReal)) := by
    refine (dat0 V c).arrAt_eq_of_covers 4 _ (by decide +kernel) fun t hf y => ?_
    blk_simp
    rw [Fwd.after_l]
    obtain ⟨z, z1, z2, x, rfl⟩ : ∃ (z : Fin 1) (z1 : Fin 1) (z2 : Fin 1) (x : Fin 1280), y = ix4 z z1 z2 x := ⟨y 0, y 1, y 2, y 3, eq_ix4 y⟩
    obtain rfl : z = 0 := Subsingleton.elim _ _
    obtain rfl : z1 = 0 := Subsingleton.elim _ _
    obtain rfl : z2 = 0 := Subsingleton.elim _ _
    have e0 : win0_4.index t 0 = t.val / 13 := by rw [(idx0 t).2.2.2.2.1]; rfl
    have e1 : win0_4.index t 1 = t.val % 13 := by rw [(idx0 t).2.2.2.2.1]; rfl
    have e3 : win0_4.index t 3 = 0 := by rw [(idx0 t).2.2.2.2.1]; rfl
    refine (Pay.outL _ _ x).trans (((run0 H t x).lse (d1 := 64) (H.one _) (r0 := 0) (by decide) (by decide)).trans ?_)
    simp only [e0, e1, e3, lR, Nat.zero_mul, Nat.zero_add, Nat.mul_one, Nat.add_zero]
    rfl
  rw [e]
  rfl

end Attn.Arr
-- ==== Proof.AttnBwd.lean ====
/- The backward attention body at one grid point: thirteen chunks of queries against one block of keys. -/
module

public import proofs.«01_k».proof.Proof.Gen.KernelIdeal.Frame
public import proofs.«01_k».proof.Proof.AttnPay
public import proofs.«01_k».proof.Proof.AttnFwd
public import Idealize.ShloMosaic.Lib.Pipeline.ValueKit

@[expose] public section

set_option maxRecDepth 16384

noncomputable section

namespace Attn.Bwd

open Idealize.ShloMosaic Idealize.ShloMosaic.TcCoe Idealize.SL.Sem
open Cert.KernelIdeal Cert.KernelIdeal.Gen
open Attn.Fwd (read_cons readCov_append)

section Steps
variable {F : FTy → Type} [FloatOps F] [Named F]

/-! ## Chunks of a block that holds all thirteen -/

def ch96 {e : EltTy} (X : Vec F S1x13x96x1280 e) (n : Fin 13) : Vec F S1x1x96x1280 e := fun y => X (ix4 0 n (y 2) (y 3))
def ch64 {e : EltTy} (X : Vec F S1x13x64x1280 e) (n : Fin 13) : Vec F S1x1x64x1280 e := fun y => X (ix4 0 n (y 2) (y 3))
def ch1 {e : EltTy} (X : Vec F S1x13x1x1280 e) (n : Fin 13) : Vec F S1x1x1x1280 e := fun y => X (ix4 0 n (y 2) (y 3))

theorem ld96 {e : EltTy} (X : Vec F S1x13x96x1280 e) {off : Fin 4 → ℕ} (h) (n : Fin 13) (ho : off = ![0, n.val, 0, 0]) :
    View.ld X (Rect.unit (s := S1x13x96x1280) off S1x1x96x1280.size h) = ch96 X n := by
  subst ho
  funext y
  unfold View.ld ch96
  refine congrArg _ (funext fun i => Fin.ext ?_)
  have h0 : (y 0).val < 1 := (y 0).isLt
  have h1 : (y 1).val < 1 := (y 1).isLt
  fin_cases i <;> simp [LoadRect.idx, Rect.unit] <;> omega

theorem ld64 {e : EltTy} (X : Vec F S1x13x64x1280 e) {off : Fin 4 → ℕ} (h) (n : Fin 13) (ho : off = ![0, n.val, 0, 0]) :
    View.ld X (Rect.unit (s := S1x13x64x1280) off S1x1x64x1280.size h) = ch64 X n := by
  subst ho
  funext y
  unfold View.ld ch64
  refine congrArg _ (funext fun i => Fin.ext ?_)
  have h0 : (y 0).val < 1 := (y 0).isLt
  have h1 : (y 1).val < 1 := (y 1).isLt
  fin_cases i <;> simp [LoadRect.idx, Rect.unit] <;> omega

theorem ld1 {e : EltTy} (X : Vec F S1x13x1x1280 e) {off : Fin 4 → ℕ} (h) (n : Fin 13) (ho : off = ![0, n.val, 0, 0]) :
    View.ld X (Rect.unit (s := S1x13x1x1280) off S1x1x1x1280.size h) = ch1 X n := by
  subst ho
  funext y
  unfold View.ld ch1
  refine congrArg _ (funext fun i => Fin.ext ?_)
  have h0 : (y 0).val < 1 := (y 0).isLt
  have h1 : (y 1).val < 1 := (y 1).isLt
  fin_cases i <;> simp [LoadRect.idx, Rect.unit] <;> omega

/-- One chunk replaced. -/
def put {e : EltTy} (X : Vec F S1x13x96x1280 e) (n : Fin 13) (w : Vec F S1x1x96x1280 e) : Vec F S1x13x96x1280 e :=
  fun y => if (y 1).val = n.val then w (ix4 0 0 (y 2) (y 3)) else X y

theorem mem_chunk {off : Fin 4 → ℕ} (h) (n : Fin 13) (ho : off = ![0, n.val, 0, 0]) (y : S1x13x96x1280.Idx) :
    y ∈ (Rect.unit (s := S1x13x96x1280) off S1x1x96x1280.size h).set ↔ (y 1).val = n.val := by
  subst ho
  have h0 : (y 0).val < 1 := (y 0).isLt
  have h2 : (y 2).val < 96 := (y 2).isLt
  have h3 : (y 3).val < 1280 := (y 3).isLt
  rw [Rect.mem_set_unit]
  constructor
  · intro hy
    have := hy 1
    simp at this
    omega
  · intro hy i
    fin_cases i <;> simp <;> omega

theorem read_put {sg : RefSig} {κ : Kind} {sp : Space} {e : EltTy} (v : View sg κ sp S1x13x96x1280 e) (f : v.ty.Contents (Elt F))
    {off : Fin 4 → ℕ} (h) (n : Fin 13) (ho : off = ![0, n.val, 0, 0]) (w : S1x1x96x1280.Idx → Elt F e) (L : List (View.Piece (Elt F) S1x13x96x1280 e)) :
    View.read (Elt F) v (v.writes (Elt F) f ((⟨Rect.unit (s := S1x13x96x1280) off S1x1x96x1280.size h, w⟩ : View.Piece (Elt F) S1x13x96x1280 e) :: L))
      = put (View.read (Elt F) v (v.writes (Elt F) f L)) n w := by
  funext y
  by_cases hy : (y 1).val = n.val
  · have hm := (mem_chunk h n ho y).mpr hy
    obtain ⟨x, rfl⟩ : ∃ x, (Rect.unit (s := S1x13x96x1280) off S1x1x96x1280.size h).emb x = y := (Rect.unit (s := S1x13x96x1280) off S1x1x96x1280.size h).exists_idx_of_mem hm
    rw [View.read_writes_cons_emb]
    unfold put
    rw [if_pos hy]
    refine congrArg w (funext fun i => Fin.ext ?_)
    subst ho
    have h0 : (x 0).val < 1 := (x 0).isLt
    have h1 : (x 1).val < 1 := (x 1).isLt
    fin_cases i <;> simp [Rect.unit, Rect.emb, LoadRect.idx] <;> omega
  · have hm : y ∉ Finset.univ.map (Rect.unit (s := S1x13x96x1280) off S1x1x96x1280.size h).emb := by
      rw [Rect.map_emb_univ]; exact fun hh => hy ((mem_chunk h n ho y).mp hh)
    unfold put
    rw [if_neg hy, View.writes_cons, View.read_slice_write_of_not_mem _ _ _ _ hm]

/-! ## One chunk, and the state after the loop -/

/-- What a point reads: queries, keys, keys transposed, values, output gradients, row logarithms, row dots. -/
structure In (F : FTy → Type) where
  q : Vec F S1x13x96x1280 .bf16
  k : Vec F S1x640x96 .bf16
  kt : Vec F S1x96x640 .bf16
  v : Vec F S1x640x64 .bf16
  o : Vec F S1x13x64x1280 .bf16
  l : Vec F S1x13x1x1280 .f32
  δ : Vec F S1x13x1x1280 .f32

abbrev St (F : FTy → Type) := Vec F S1x13x96x1280 .f32 × Vec F S96x640 .f32 × Vec F S64x640 .f32

/-- The score gradients of chunk `n`. -/
def ds (I : In F) (n : Fin 13) : FVec F S640x1280 .bf16 :=
  k1_pay8 (k1_pay13 I.k) (k1_pay15 I.v) (ch96 I.q n) (ch64 I.o n) (ch1 I.l n) (ch1 I.δ n)

def step (I : In F) (n : Fin 13) (s : St F) : St F :=
  (put s.1 n (k1_pay16 I.kt (ds I n) (ch96 s.1 n)),
   k1_pay9 (k1_pay13 I.k) (k1_pay15 I.v) (ch96 I.q n) (ch64 I.o n) (ch1 I.l n) (ch1 I.δ n) s.2.1,
   k1_pay7 (k1_pay13 I.k) (ch96 I.q n) (ch64 I.o n) (ch1 I.l n) s.2.2)

/-- The state before chunk `n`, from the query gradients `g` that the point finds. -/
def st (I : In F) (g : Vec F S1x13x96x1280 .f32) : ℕ → St F
  | 0 => (g, k1_pay11, k1_pay12)
  | n + 1 => if h : n < 13 then step I ⟨n, h⟩ (st I g n) else st I g n

theorem off1 : ∀ k : Fin k1_t1_loop.trips, k1_off1 k = ![0, k.val, 0, 0] := by decide +kernel
theorem off2 : ∀ k : Fin k1_t1_loop.trips, k1_off2 k = ![0, k.val, 0, 0] := by decide +kernel
theorem off3 : ∀ k : Fin k1_t1_loop.trips, k1_off3 k = ![0, k.val, 0, 0] := by decide +kernel
theorem trips_eq : k1_t1_loop.trips = 12 := by decide +kernel

theorem trip (𝒱 : Variants) (c : Dev nD) (bd : Option 𝒱.V) (i) (arg2) (harg2) (arg3) (harg3) (arg4) (harg4) (arg5) (harg5) (arg6) (harg6) (arg7) (harg7) (arg8) (harg8) (arg9) (harg9) (arg10) (harg10) (arg11) (harg11) (arg12) (harg12) (arg13) (harg13) (x1 x2 x3 X2 X6 X7 X8) (k : Fin k1_t1_loop.trips) (f9 f12 f13) (hk : k.val < 13) :
    tripL_k1_t1 (F := F) 𝒱 c bd i arg2 harg2 arg3 harg3 arg4 harg4 arg5 harg5 arg6 harg6 arg7 harg7 arg8 harg8 arg9 harg9 arg10 harg10 arg11 harg11 arg12 harg12 arg13 harg13 x1 x2 x3 X2 X6 X7 X8 k f9 f12 f13
      = let I : In F := ⟨View.read (Elt F) arg2.view X2, x1, x2, x3, View.read (Elt F) arg6.view X6, View.read (Elt F) arg7.view X7, View.read (Elt F) arg8.view X8⟩
        ([⟨Rect.unit (s := S1x13x96x1280) (k1_off1 k) S1x1x96x1280.size (k1_off1_inb k), k1_pay16 x2 (ds I ⟨k.val, hk⟩) (ch96 (View.read (Elt F) arg9.view f9) ⟨k.val, hk⟩)⟩],
         [⟨Rect.unit (s := S96x640) ![0, 0] S96x640.size inb_S96x640_S96x640_0_0, (step I ⟨k.val, hk⟩ (View.read (Elt F) arg9.view f9, View.read (Elt F) arg12.view f12, View.read (Elt F) arg13.view f13)).2.1⟩],
         [⟨Rect.unit (s := S64x640) ![0, 0] S64x640.size inb_S64x640_S64x640_0_0, (step I ⟨k.val, hk⟩ (View.read (Elt F) arg9.view f9, View.read (Elt F) arg12.view f12, View.read (Elt F) arg13.view f13)).2.2⟩]) := by
  dsimp only
  unfold step ds
  dsimp only
  rw [← ld96 _ (k1_off1_inb k) ⟨k.val, hk⟩ (off1 k), ← ld96 _ (k1_off1_inb k) ⟨k.val, hk⟩ (off1 k), ← ld64 _ (k1_off2_inb k) ⟨k.val, hk⟩ (off2 k),
    ← ld1 _ (k1_off3_inb k) ⟨k.val, hk⟩ (off3 k), ← ld1 _ (k1_off3_inb k) ⟨k.val, hk⟩ (off3 k)]
  unfold tripL_k1_t1 trip_k1_t1
  dsimp only
  frame_out
  rfl

theorem loop (𝒱 : Variants) (c : Dev nD) (bd : Option 𝒱.V) (i : grid1.Coords) (arg2 : Memref sig .tc .vmem S1x13x96x1280 .bf16) (harg2 : arg2.IsWhole) (arg3 : Memref sig .tc .vmem S1x640x96 .bf16) (harg3 : arg3.IsWhole) (arg4 : Memref sig .tc .vmem S1x96x640 .bf16) (harg4 : arg4.IsWhole) (arg5 : Memref sig .tc .vmem S1x640x64 .bf16) (harg5 : arg5.IsWhole) (arg6 : Memref sig .tc .vmem S1x13x64x1280 .bf16) (harg6 : arg6.IsWhole) (arg7 : Memref sig .tc .vmem S1x13x1x1280 .f32) (harg7 : arg7.IsWhole) (arg8 : Memref sig .tc .vmem S1x13x1x1280 .f32) (harg8 : arg8.IsWhole) (arg9 : Memref sig .tc .vmem S1x13x96x1280 .f32) (harg9 : arg9.IsWhole) (arg10 : Memref sig .tc .vmem S1x96x640 .f32) (harg10 : arg10.IsWhole) (arg11 : Memref sig .tc .vmem S1x64x640 .f32) (harg11 : arg11.IsWhole) (arg12 : Memref sig .tc .vmem S96x640 .f32) (harg12 : arg12.IsWhole) (arg13 : Memref sig .tc .vmem S64x640 .f32) (harg13 : arg13.IsWhole) (I : In F) (g G9 G12 G13)
    (h9 : View.read (Elt F) arg9.view G9 = g) (h12 : View.read (Elt F) arg12.view G12 = k1_pay11) (h13 : View.read (Elt F) arg13.view G13 = k1_pay12) :
    ∀ k : ℕ, k ≤ k1_t1_loop.trips →
      View.read (Elt F) arg9.view (arg9.view.writes (Elt F) G9 (pb_k1_t1 (F := F) 𝒱 c bd i arg2 harg2 arg3 harg3 arg4 harg4 arg5 harg5 arg6 harg6 arg7 harg7 arg8 harg8 arg9 harg9 arg10 harg10 arg11 harg11 arg12 harg12 arg13 harg13 I.k I.kt I.v (harg2.unread I.q) (harg6.unread I.o) (harg7.unread I.l) (harg8.unread I.δ) G9 G12 G13 k).1) = (st I g k).1
      ∧ View.read (Elt F) arg12.view (arg12.view.writes (Elt F) G12 (pb_k1_t1 (F := F) 𝒱 c bd i arg2 harg2 arg3 harg3 arg4 harg4 arg5 harg5 arg6 harg6 arg7 harg7 arg8 harg8 arg9 harg9 arg10 harg10 arg11 harg11 arg12 harg12 arg13 harg13 I.k I.kt I.v (harg2.unread I.q) (harg6.unread I.o) (harg7.unread I.l) (harg8.unread I.δ) G9 G12 G13 k).2.1) = (st I g k).2.1
      ∧ View.read (Elt F) arg13.view (arg13.view.writes (Elt F) G13 (pb_k1_t1 (F := F) 𝒱 c bd i arg2 harg2 arg3 harg3 arg4 harg4 arg5 harg5 arg6 harg6 arg7 harg7 arg8 harg8 arg9 harg9 arg10 harg10 arg11 harg11 arg12 harg12 arg13 harg13 I.k I.kt I.v (harg2.unread I.q) (harg6.unread I.o) (harg7.unread I.l) (harg8.unread I.δ) G9 G12 G13 k).2.2) = (st I g k).2.2
  | 0, _ => ⟨h9, h12, h13⟩
  | k + 1, hk => by
    have ih := loop 𝒱 c bd i arg2 harg2 arg3 harg3 arg4 harg4 arg5 harg5 arg6 harg6 arg7 harg7 arg8 harg8 arg9 harg9 arg10 harg10 arg11 harg11 arg12 harg12 arg13 harg13 I g G9 G12 G13 h9 h12 h13 k (Nat.le_of_succ_le hk)
    have hk13 : k < 13 := by have := hk; rw [trips_eq] at this; omega
    have e := pb_k1_t1_succ (F := F) 𝒱 c bd i arg2 harg2 arg3 harg3 arg4 harg4 arg5 harg5 arg6 harg6 arg7 harg7 arg8 harg8 arg9 harg9 arg10 harg10 arg11 harg11 arg12 harg12 arg13 harg13 I.k I.kt I.v (harg2.unread I.q) (harg6.unread I.o) (harg7.unread I.l) (harg8.unread I.δ) G9 G12 G13 ⟨k, hk⟩
    rw [trip (hk := hk13)] at e
    have s : st I g (k + 1) = _ := dif_pos hk13
    rw [e, s]
    dsimp only
    simp only [List.cons_append, List.nil_append]
    rw [read_put _ _ _ ⟨k, hk13⟩ (off1 ⟨k, hk⟩), read_cons _ _ _ _ _ (by decide), read_cons _ _ _ _ _ (by decide), ih.1, ih.2.1, ih.2.2,
      harg2.read_unread, harg6.read_unread, harg7.read_unread, harg8.read_unread]
    exact ⟨rfl, rfl, rfl⟩

/-- The trips before `k` write the chunks before `k`. -/
theorem cover (𝒱 : Variants) (c : Dev nD) (bd : Option 𝒱.V) (i : grid1.Coords) (arg2 : Memref sig .tc .vmem S1x13x96x1280 .bf16) (harg2 : arg2.IsWhole) (arg3 : Memref sig .tc .vmem S1x640x96 .bf16) (harg3 : arg3.IsWhole) (arg4 : Memref sig .tc .vmem S1x96x640 .bf16) (harg4 : arg4.IsWhole) (arg5 : Memref sig .tc .vmem S1x640x64 .bf16) (harg5 : arg5.IsWhole) (arg6 : Memref sig .tc .vmem S1x13x64x1280 .bf16) (harg6 : arg6.IsWhole) (arg7 : Memref sig .tc .vmem S1x13x1x1280 .f32) (harg7 : arg7.IsWhole) (arg8 : Memref sig .tc .vmem S1x13x1x1280 .f32) (harg8 : arg8.IsWhole) (arg9 : Memref sig .tc .vmem S1x13x96x1280 .f32) (harg9 : arg9.IsWhole) (arg10 : Memref sig .tc .vmem S1x96x640 .f32) (harg10 : arg10.IsWhole) (arg11 : Memref sig .tc .vmem S1x64x640 .f32) (harg11 : arg11.IsWhole) (arg12 : Memref sig .tc .vmem S96x640 .f32) (harg12 : arg12.IsWhole) (arg13 : Memref sig .tc .vmem S64x640 .f32) (harg13 : arg13.IsWhole) (x1 x2 x3 X2 X6 X7 X8 G9 G12 G13) (y : S1x13x96x1280.Idx) :
    ∀ k : ℕ, k ≤ k1_t1_loop.trips → (y 1).val < k →
      ∃ p ∈ (pb_k1_t1 (F := F) 𝒱 c bd i arg2 harg2 arg3 harg3 arg4 harg4 arg5 harg5 arg6 harg6 arg7 harg7 arg8 harg8 arg9 harg9 arg10 harg10 arg11 harg11 arg12 harg12 arg13 harg13 x1 x2 x3 X2 X6 X7 X8 G9 G12 G13 k).1, y ∈ p.1.set
  | 0, _, h => absurd h (Nat.not_lt_zero _)
  | k + 1, hk, h => by
    have hk13 : k < 13 := by have := hk; rw [trips_eq] at this; omega
    have e := pb_k1_t1_succ (F := F) 𝒱 c bd i arg2 harg2 arg3 harg3 arg4 harg4 arg5 harg5 arg6 harg6 arg7 harg7 arg8 harg8 arg9 harg9 arg10 harg10 arg11 harg11 arg12 harg12 arg13 harg13 x1 x2 x3 X2 X6 X7 X8 G9 G12 G13 ⟨k, hk⟩
    rw [trip (hk := hk13)] at e
    rw [e]
    dsimp only
    simp only [List.cons_append, List.nil_append]
    by_cases hy : (y 1).val = k
    · exact ⟨_, List.mem_cons_self, (mem_chunk (k1_off1_inb ⟨k, hk⟩) ⟨k, hk13⟩ (off1 ⟨k, hk⟩) y).mpr hy⟩
    · obtain ⟨p, hp, hm⟩ := cover 𝒱 c bd i arg2 harg2 arg3 harg3 arg4 harg4 arg5 harg5 arg6 harg6 arg7 harg7 arg8 harg8 arg9 harg9 arg10 harg10 arg11 harg11 arg12 harg12 arg13 harg13 x1 x2 x3 X2 X6 X7 X8 G9 G12 G13 y k (Nat.le_of_succ_le hk) (by omega)
      exact ⟨p, List.mem_cons_of_mem _ hp, hm⟩

/-! ## The whole point -/

/-- What a point leaves, from the query gradients that it finds. -/
def out (I : In F) (g : Vec F S1x13x96x1280 .f32) : Vec F S1x13x96x1280 .f32 × Vec F S1x96x640 .f32 × Vec F S1x64x640 .f32 :=
  ((st I g 13).1, k1_pay2 (st I g 13).2.1, k1_pay3 (st I g 13).2.2)

variable (V : (c : Dev nD) → (b : Ref sig .tc) → Buf (Elt F) ((c : Thread nD τ).loc b))

/-- The point's input blocks. -/
def blk (c : Dev nD) (t : Fin cfg1.N) : In F :=
  ⟨iblk1 V c 0 t, iblk1 V c 1 t, iblk1 V c 2 t, iblk1 V c 3 t, iblk1 V c 4 t, iblk1 V c 5 t, iblk1 V c 6 t⟩

theorem st13 (I : In F) (g : Vec F S1x13x96x1280 .f32) : st I g 13 = step I 12 (st I g k1_t1_loop.trips) := by
  rw [trips_eq]; exact dif_pos (by decide : (12 : ℕ) < 13)

theorem loopQ (c : Dev nD) (i : grid1.Coords) (arg2 : Memref sig .tc .vmem S1x13x96x1280 .bf16) (harg2 : arg2.IsWhole) (arg3 : Memref sig .tc .vmem S1x640x96 .bf16) (harg3 : arg3.IsWhole) (arg4 : Memref sig .tc .vmem S1x96x640 .bf16) (harg4 : arg4.IsWhole) (arg5 : Memref sig .tc .vmem S1x640x64 .bf16) (harg5 : arg5.IsWhole) (arg6 : Memref sig .tc .vmem S1x13x64x1280 .bf16) (harg6 : arg6.IsWhole) (arg7 : Memref sig .tc .vmem S1x13x1x1280 .f32) (harg7 : arg7.IsWhole) (arg8 : Memref sig .tc .vmem S1x13x1x1280 .f32) (harg8 : arg8.IsWhole) (arg9 : Memref sig .tc .vmem S1x13x96x1280 .f32) (harg9 : arg9.IsWhole) (arg10 : Memref sig .tc .vmem S1x96x640 .f32) (harg10 : arg10.IsWhole) (arg11 : Memref sig .tc .vmem S1x64x640 .f32) (harg11 : arg11.IsWhole) (h12) (h13) (I : In F) (g G9) (h9 : View.read (Elt F) arg9.view G9 = g) :
    View.read (Elt F) arg9.view (arg9.view.writes (Elt F) G9 (pb_k1_t1 (F := F) Variants.none c none i arg2 harg2 arg3 harg3 arg4 harg4 arg5 harg5 arg6 harg6 arg7 harg7 arg8 harg8 arg9 harg9 arg10 harg10 arg11 harg11 scM1_0 h12 scM1_1 h13 I.k I.kt I.v (harg2.unread I.q) (harg6.unread I.o) (harg7.unread I.l) (harg8.unread I.δ) G9
        ((View.whole cc1_scratch0).writes (Elt F) (View.whole cc1_scratch0).junk [⟨Rect.unit (s := S96x640) ![0, 0] S96x640.size inb_S96x640_S96x640_0_0, k1_pay11⟩])
        ((View.whole cc1_scratch1).writes (Elt F) (View.whole cc1_scratch1).junk [⟨Rect.unit (s := S64x640) ![0, 0] S64x640.size inb_S64x640_S64x640_0_0, k1_pay12⟩])
        (Scf.trips (0#32) (Scalar.addi 0#32 12#32) 1#32)).1) = (st I g k1_t1_loop.trips).1 :=
  (loop Variants.none c none i arg2 harg2 arg3 harg3 arg4 harg4 arg5 harg5 arg6 harg6 arg7 harg7 arg8 harg8 arg9 harg9 arg10 harg10 arg11 harg11 scM1_0 h12 scM1_1 h13 I g G9 _ _ h9 (read_cons _ _ _ _ _ (by decide)) (read_cons _ _ _ _ _ (by decide)) k1_t1_loop.trips le_rfl).1

theorem loopK (c : Dev nD) (i : grid1.Coords) (arg2 : Memref sig .tc .vmem S1x13x96x1280 .bf16) (harg2 : arg2.IsWhole) (arg3 : Memref sig .tc .vmem S1x640x96 .bf16) (harg3 : arg3.IsWhole) (arg4 : Memref sig .tc .vmem S1x96x640 .bf16) (harg4 : arg4.IsWhole) (arg5 : Memref sig .tc .vmem S1x640x64 .bf16) (harg5 : arg5.IsWhole) (arg6 : Memref sig .tc .vmem S1x13x64x1280 .bf16) (harg6 : arg6.IsWhole) (arg7 : Memref sig .tc .vmem S1x13x1x1280 .f32) (harg7 : arg7.IsWhole) (arg8 : Memref sig .tc .vmem S1x13x1x1280 .f32) (harg8 : arg8.IsWhole) (arg9 : Memref sig .tc .vmem S1x13x96x1280 .f32) (harg9 : arg9.IsWhole) (arg10 : Memref sig .tc .vmem S1x96x640 .f32) (harg10 : arg10.IsWhole) (arg11 : Memref sig .tc .vmem S1x64x640 .f32) (harg11 : arg11.IsWhole) (h12) (h13) (I : In F) (g G9) (h9 : View.read (Elt F) arg9.view G9 = g) :
    (View.whole cc1_scratch0).readCov ((pb_k1_t1 (F := F) Variants.none c none i arg2 harg2 arg3 harg3 arg4 harg4 arg5 harg5 arg6 harg6 arg7 harg7 arg8 harg8 arg9 harg9 arg10 harg10 arg11 harg11 scM1_0 h12 scM1_1 h13 I.k I.kt I.v (harg2.unread I.q) (harg6.unread I.o) (harg7.unread I.l) (harg8.unread I.δ) G9
        ((View.whole cc1_scratch0).writes (Elt F) (View.whole cc1_scratch0).junk [⟨Rect.unit (s := S96x640) ![0, 0] S96x640.size inb_S96x640_S96x640_0_0, k1_pay11⟩])
        ((View.whole cc1_scratch1).writes (Elt F) (View.whole cc1_scratch1).junk [⟨Rect.unit (s := S64x640) ![0, 0] S64x640.size inb_S64x640_S64x640_0_0, k1_pay12⟩])
        (Scf.trips (0#32) (Scalar.addi 0#32 12#32) 1#32)).2.1 ++ [⟨Rect.unit (s := S96x640) ![0, 0] S96x640.size inb_S96x640_S96x640_0_0, k1_pay11⟩])
        (Rect.unit (s := S96x640) ![0, 0] S96x640.size inb_S96x640_S96x640_0_0).toLoadRect = (st I g k1_t1_loop.trips).2.1 := by
  refine (readCov_append (S := S96x640) (View.whole cc1_scratch0) inb_S96x640_S96x640_0_0 _ _ (by decide)).trans ?_
  exact (loop Variants.none c none i arg2 harg2 arg3 harg3 arg4 harg4 arg5 harg5 arg6 harg6 arg7 harg7 arg8 harg8 arg9 harg9 arg10 harg10 arg11 harg11 scM1_0 h12 scM1_1 h13 I g G9 _ _ h9 (read_cons _ _ _ _ _ (by decide)) (read_cons _ _ _ _ _ (by decide)) k1_t1_loop.trips le_rfl).2.1

theorem loopV (c : Dev nD) (i : grid1.Coords) (arg2 : Memref sig .tc .vmem S1x13x96x1280 .bf16) (harg2 : arg2.IsWhole) (arg3 : Memref sig .tc .vmem S1x640x96 .bf16) (harg3 : arg3.IsWhole) (arg4 : Memref sig .tc .vmem S1x96x640 .bf16) (harg4 : arg4.IsWhole) (arg5 : Memref sig .tc .vmem S1x640x64 .bf16) (harg5 : arg5.IsWhole) (arg6 : Memref sig .tc .vmem S1x13x64x1280 .bf16) (harg6 : arg6.IsWhole) (arg7 : Memref sig .tc .vmem S1x13x1x1280 .f32) (harg7 : arg7.IsWhole) (arg8 : Memref sig .tc .vmem S1x13x1x1280 .f32) (harg8 : arg8.IsWhole) (arg9 : Memref sig .tc .vmem S1x13x96x1280 .f32) (harg9 : arg9.IsWhole) (arg10 : Memref sig .tc .vmem S1x96x640 .f32) (harg10 : arg10.IsWhole) (arg11 : Memref sig .tc .vmem S1x64x640 .f32) (harg11 : arg11.IsWhole) (h12) (h13) (I : In F) (g G9) (h9 : View.read (Elt F) arg9.view G9 = g) :
    (View.whole cc1_scratch1).readCov ((pb_k1_t1 (F := F) Variants.none c none i arg2 harg2 arg3 harg3 arg4 harg4 arg5 harg5 arg6 harg6 arg7 harg7 arg8 harg8 arg9 harg9 arg10 harg10 arg11 harg11 scM1_0 h12 scM1_1 h13 I.k I.kt I.v (harg2.unread I.q) (harg6.unread I.o) (harg7.unread I.l) (harg8.unread I.δ) G9
        ((View.whole cc1_scratch0).writes (Elt F) (View.whole cc1_scratch0).junk [⟨Rect.unit (s := S96x640) ![0, 0] S96x640.size inb_S96x640_S96x640_0_0, k1_pay11⟩])
        ((View.whole cc1_scratch1).writes (Elt F) (View.whole cc1_scratch1).junk [⟨Rect.unit (s := S64x640) ![0, 0] S64x640.size inb_S64x640_S64x640_0_0, k1_pay12⟩])
        (Scf.trips (0#32) (Scalar.addi 0#32 12#32) 1#32)).2.2 ++ [⟨Rect.unit (s := S64x640) ![0, 0] S64x640.size inb_S64x640_S64x640_0_0, k1_pay12⟩])
        (Rect.unit (s := S64x640) ![0, 0] S64x640.size inb_S64x640_S64x640_0_0).toLoadRect = (st I g k1_t1_loop.trips).2.2 := by
  refine (readCov_append (S := S64x640) (View.whole cc1_scratch1) inb_S64x640_S64x640_0_0 _ _ (by decide)).trans ?_
  exact (loop Variants.none c none i arg2 harg2 arg3 harg3 arg4 harg4 arg5 harg5 arg6 harg6 arg7 harg7 arg8 harg8 arg9 harg9 arg10 harg10 arg11 harg11 scM1_0 h12 scM1_1 h13 I g G9 _ _ h9 (read_cons _ _ _ _ _ (by decide)) (read_cons _ _ _ _ _ (by decide)) k1_t1_loop.trips le_rfl).2.2

theorem readCov_ld {sg : RefSig} {κ : Kind} {sp : Space} {S : Shape} {e : EltTy} (v : View sg κ sp S e) (L : List (View.Piece (Elt F) S e)) (r : Rect S) :
    v.readCov L r.toLoadRect = View.ld (View.read (Elt F) v (v.writes (Elt F) v.junk L)) r := by
  rw [View.readCov_eq_canon', View.read_writes_junk_eq_canon]

set_option maxHeartbeats 1000000 in
theorem out_A (c : Dev nD) (t : Fin cfg1.N) (h : t.val % 26 = 0) : outsAt1 V c t.val t.isLt = out (blk V c t) k1_pay10 := by
  rw [outsAt1_A V c t h]
  frame_out
  have h9 : View.read (Elt F) (ms1_7 t).view ((ms1_7 t).view.writes (Elt F) (ms1_7 t).view.junk
      [⟨Rect.unit (s := S1x13x96x1280) ![0, 0, 0, 0] S1x13x96x1280.size inb_S1x13x96x1280_S1x13x96x1280_0_0_0_0, k1_pay10⟩]) = k1_pay10 (F := F) :=
    read_cons _ _ _ _ _ (by decide)
  have hQ := loopQ c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (Memref.isWhole_whole _) (Memref.isWhole_whole _) (blk V c t) _ _ h9
  dsimp only [blk] at hQ
  have hK := loopK c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (Memref.isWhole_whole _) (Memref.isWhole_whole _) (blk V c t) _ _ h9
  dsimp only [blk] at hK
  have hV := loopV c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (Memref.isWhole_whole _) (Memref.isWhole_whole _) (blk V c t) _ _ h9
  dsimp only [blk] at hV
  unfold out
  rw [st13]
  refine Prod.ext ?_ (Prod.ext ?_ ?_)
  · dsimp only
    rw [← View.read_writes_junk_eq_canon (ms1_7 t).view, read_put (off := ![0, 12, 0, 0]) _ _ _ 12 rfl, View.writes_append, readCov_ld, View.writes_append, ld96 (off := ![0, 12, 0, 0]) _ _ 12 rfl, ld96 (off := ![0, 12, 0, 0]) _ _ 12 rfl,
      ld64 (off := ![0, 12, 0, 0]) _ _ 12 rfl, ld1 (off := ![0, 12, 0, 0]) _ _ 12 rfl, ld1 (off := ![0, 12, 0, 0]) _ _ 12 rfl]
    rw [hQ]
    try rw [Pay.dq12]
    rfl
  · dsimp only
    rw [ld96 (off := ![0, 12, 0, 0]) _ _ 12 rfl, ld64 (off := ![0, 12, 0, 0]) _ _ 12 rfl, ld1 (off := ![0, 12, 0, 0]) _ _ 12 rfl, ld1 (off := ![0, 12, 0, 0]) _ _ 12 rfl]
    rw [hK]
    try rw [Pay.dk12]
    rfl
  · dsimp only
    rw [ld96 (off := ![0, 12, 0, 0]) _ _ 12 rfl, ld64 (off := ![0, 12, 0, 0]) _ _ 12 rfl, ld1 (off := ![0, 12, 0, 0]) _ _ 12 rfl]
    rw [hV]
    try rw [Pay.dv12]
    rfl

set_option maxHeartbeats 1000000 in
theorem out_B (c : Dev nD) (t : Fin cfg1.N) (h : ¬ t.val % 26 = 0) :
    outsAt1 V c t.val t.isLt = out (blk V c t) (outsAt1 V c (t.val - 1) (Nat.lt_of_le_of_lt (Nat.sub_le _ _) t.isLt)).1 := by
  rw [outsAt1_B V c t h]
  frame_out
  have h9 := (hs1_7 t).read_unread (Val := Elt F) (outsAt1 V c (t.val - 1) (Nat.lt_of_le_of_lt (Nat.sub_le _ _) t.isLt)).1
  have hQ := loopQ c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (Memref.isWhole_whole _) (Memref.isWhole_whole _) (blk V c t) _ _ h9
  dsimp only [blk] at hQ
  have hK := loopK c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (Memref.isWhole_whole _) (Memref.isWhole_whole _) (blk V c t) _ _ h9
  dsimp only [blk] at hK
  have hV := loopV c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (Memref.isWhole_whole _) (Memref.isWhole_whole _) (blk V c t) _ _ h9
  dsimp only [blk] at hV
  unfold out
  rw [st13]
  refine Prod.ext ?_ (Prod.ext ?_ ?_)
  · dsimp only
    rw [← View.read_writes_eq_canon (ms1_7 t).view ((hs1_7 t).unread (outsAt1 V c (t.val - 1) (Nat.lt_of_le_of_lt (Nat.sub_le _ _) t.isLt)).1) _ (fun y => ?_),
      read_put (off := ![0, 12, 0, 0]) _ _ _ 12 rfl, ld96 (off := ![0, 12, 0, 0]) _ _ 12 rfl, ld96 (off := ![0, 12, 0, 0]) _ _ 12 rfl,
      ld64 (off := ![0, 12, 0, 0]) _ _ 12 rfl, ld1 (off := ![0, 12, 0, 0]) _ _ 12 rfl, ld1 (off := ![0, 12, 0, 0]) _ _ 12 rfl]
    · rw [hQ]
      try rw [Pay.dq12]
      rfl
    · by_cases hy : (y 1).val = 12
      · exact ⟨_, List.mem_cons_self, (mem_chunk inb_S1x13x96x1280_S1x1x96x1280_0_12_0_0 12 rfl y).mpr hy⟩
      · have h13 : (y 1).val < 13 := (y 1).isLt
        obtain ⟨p, hp, hm⟩ := cover (F := F) Variants.none c none (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1_0 (Memref.isWhole_whole _) scM1_1 (Memref.isWhole_whole _)
          (iblk1 V c 1 t) (iblk1 V c 2 t) (iblk1 V c 3 t) ((hs1_0 t).unread (iblk1 V c 0 t)) ((hs1_4 t).unread (iblk1 V c 4 t)) ((hs1_5 t).unread (iblk1 V c 5 t)) ((hs1_6 t).unread (iblk1 V c 6 t))
          ((hs1_7 t).unread (outsAt1 V c (t.val - 1) (Nat.lt_of_le_of_lt (Nat.sub_le _ _) t.isLt)).1)
          ((View.whole cc1_scratch0).writes (Elt F) (View.whole cc1_scratch0).junk [⟨Rect.unit (s := S96x640) ![0, 0] S96x640.size inb_S96x640_S96x640_0_0, k1_pay11⟩])
          ((View.whole cc1_scratch1).writes (Elt F) (View.whole cc1_scratch1).junk [⟨Rect.unit (s := S64x640) ![0, 0] S64x640.size inb_S64x640_S64x640_0_0, k1_pay12⟩]) y k1_t1_loop.trips le_rfl (by rw [trips_eq]; omega)
        exact ⟨p, List.mem_cons_of_mem _ hp, hm⟩
  · dsimp only
    rw [ld96 (off := ![0, 12, 0, 0]) _ _ 12 rfl, ld64 (off := ![0, 12, 0, 0]) _ _ 12 rfl, ld1 (off := ![0, 12, 0, 0]) _ _ 12 rfl, ld1 (off := ![0, 12, 0, 0]) _ _ 12 rfl]
    rw [hK]
    try rw [Pay.dk12]
    rfl
  · dsimp only
    rw [ld96 (off := ![0, 12, 0, 0]) _ _ 12 rfl, ld64 (off := ![0, 12, 0, 0]) _ _ 12 rfl, ld1 (off := ![0, 12, 0, 0]) _ _ 12 rfl]
    rw [hV]
    try rw [Pay.dv12]
    rfl

end Steps

end Attn.Bwd
-- ==== Proof.AttnBwdVal.lean ====
/- What one point of the attention gradient leaves, element by element, for blocks of real numbers. -/
module

public import proofs.«01_k».proof.Proof.AttnBwd

@[expose] public section

set_option maxRecDepth 16384

noncomputable section

namespace Attn.Bwd

open Idealize.ShloMosaic Idealize.ShloMosaic.TcCoe Idealize.SL.Sem
open Cert.KernelIdeal Cert.KernelIdeal.Gen

/-- The weight of a key row for the query row `r`. -/
def pr (kr : Fin 96 → ℝ) (qr : ℕ → Fin 96 → ℝ) (lr : ℕ → ℝ) (r : ℕ) : ℝ := (2 : ℝ) ^ (∑ d, kr d * qr r d - lr r)

/-- The gradient of that weight's score. -/
def dsr (kr : Fin 96 → ℝ) (vr : Fin 64 → ℝ) (qr : ℕ → Fin 96 → ℝ) (or : ℕ → Fin 64 → ℝ) (lr δr : ℕ → ℝ) (r : ℕ) : ℝ :=
  pr kr qr lr r * (∑ d, vr d * or r d - δr r)

/-- The blocks of a point hold these real numbers. -/
structure Real (I : In Ideal) (qr : ℕ → Fin 96 → ℝ) (kr : Fin 640 → Fin 96 → ℝ) (vr : Fin 640 → Fin 64 → ℝ) (or : ℕ → Fin 64 → ℝ) (lr δr : ℕ → ℝ) : Prop where
  q : ∀ (n : Fin 13) d (x : Fin 1280), I.q (ix4 0 n d x) = ((qr (1280 * n.val + x.val) d : ℝ) : EReal)
  k : ∀ j d, I.k (ix3 0 j d) = ((kr j d : ℝ) : EReal)
  kt : ∀ d j, I.kt (ix3 0 d j) = ((kr j d : ℝ) : EReal)
  v : ∀ j d, I.v (ix3 0 j d) = ((vr j d : ℝ) : EReal)
  o : ∀ (n : Fin 13) d (x : Fin 1280), I.o (ix4 0 n d x) = ((or (1280 * n.val + x.val) d : ℝ) : EReal)
  l : ∀ (n : Fin 13) (x : Fin 1280), I.l (ix4 0 n 0 x) = ((lr (1280 * n.val + x.val) : ℝ) : EReal)
  δ : ∀ (n : Fin 13) (x : Fin 1280), I.δ (ix4 0 n 0 x) = ((δr (1280 * n.val + x.val) : ℝ) : EReal)

variable {I : In Ideal} {qr : ℕ → Fin 96 → ℝ} {kr : Fin 640 → Fin 96 → ℝ} {vr : Fin 640 → Fin 64 → ℝ} {or : ℕ → Fin 64 → ℝ} {lr δr : ℕ → ℝ}

theorem Real.p (h : Real I qr kr vr or lr δr) (n : Fin 13) (j : Fin 640) (x : Fin 1280) :
    k1_pay6 (F := Ideal) (k1_pay13 (F := Ideal) I.k) (ch96 I.q n) (ch1 I.l n) (ix2 j x) = ((pr (kr j) qr lr (1280 * n.val + x.val) : ℝ) : EReal) := by
  rw [Pay.bp]
  have e : ∑ d : Fin 96, I.k (ix3 0 j d) * ch96 I.q n (ix4 0 0 d x) = ((∑ d : Fin 96, kr j d * qr (1280 * n.val + x.val) d : ℝ) : EReal) :=
    AttnMath.sum_mul_coe _ _ _ _ _ (fun d => h.k j d) (fun d => h.q n d x)
  rw [e, show ch1 I.l n (ix4 0 0 0 x) = _ from h.l n x, AttnMath.exp2_sub]
  rfl

theorem Real.s (h : Real I qr kr vr or lr δr) (n : Fin 13) (j : Fin 640) (x : Fin 1280) :
    ds I n (ix2 j x) = ((dsr (kr j) (vr j) qr or lr δr (1280 * n.val + x.val) : ℝ) : EReal) := by
  unfold ds
  rw [Pay.bds, h.p]
  have e : ∑ d : Fin 64, I.v (ix3 0 j d) * ch64 I.o n (ix4 0 0 d x) = ((∑ d : Fin 64, vr j d * or (1280 * n.val + x.val) d : ℝ) : EReal) :=
    AttnMath.sum_mul_coe _ _ _ _ _ (fun d => h.v j d) (fun d => h.o n d x)
  rw [e, show ch1 I.δ n (ix4 0 0 0 x) = _ from h.δ n x, ← EReal.coe_sub, ← EReal.coe_mul]
  rfl

theorem Real.kv (h : Real I qr kr vr or lr δr) (g : Vec Ideal S1x13x96x1280 .f32) : ∀ N : ℕ, N ≤ 13 →
    (∀ d j, (st I g N).2.1 (ix2 d j) = ((∑ r ∈ Finset.range (1280 * N), qr r d * dsr (kr j) (vr j) qr or lr δr r : ℝ) : EReal))
    ∧ (∀ d j, (st I g N).2.2 (ix2 d j) = ((∑ r ∈ Finset.range (1280 * N), or r d * pr (kr j) qr lr r : ℝ) : EReal))
  | 0, _ => ⟨fun d j => (Pay.dk0 d j).trans (by simp), fun d j => (Pay.dv0 d j).trans (by simp)⟩
  | N + 1, hN => by
    obtain ⟨ih1, ih2⟩ := Real.kv h g N (by omega)
    have s : st I g (N + 1) = step I ⟨N, by omega⟩ (st I g N) := dif_pos (by omega)
    rw [s]
    refine ⟨fun d j => (Pay.bdk _ _ _ _ _ _ _ d j).trans ?_, fun d j => (Pay.bdv _ _ _ _ _ d j).trans ?_⟩
    · rw [AttnMath.sum_chunk, EReal.coe_add, ih1]
      exact congrArg _ (AttnMath.sum_mul_coe _ _ _ _ _ (fun x => h.q ⟨N, by omega⟩ d x) (fun x => h.s ⟨N, by omega⟩ j x))
    · rw [AttnMath.sum_chunk, EReal.coe_add, ih2]
      exact congrArg _ (AttnMath.sum_mul_coe _ _ _ _ _ (fun x => h.o ⟨N, by omega⟩ d x) (fun x => h.p ⟨N, by omega⟩ j x))

theorem Real.qacc (h : Real I qr kr vr or lr δr) (g : Vec Ideal S1x13x96x1280 .f32) (n : Fin 13) (d : Fin 96) (x : Fin 1280) : ∀ N : ℕ, N ≤ 13 →
    (st I g N).1 (ix4 0 n d x) = if n.val < N then g (ix4 0 n d x) + ((∑ j, kr j d * dsr (kr j) (vr j) qr or lr δr (1280 * n.val + x.val) : ℝ) : EReal)
      else g (ix4 0 n d x)
  | 0, _ => by rw [if_neg (Nat.not_lt_zero _)]; rfl
  | N + 1, hN => by
    have ih := Real.qacc h g n d x N (by omega)
    have s : st I g (N + 1) = step I ⟨N, by omega⟩ (st I g N) := dif_pos (by omega)
    rw [s]
    by_cases hn : n.val = N
    · subst hn
      rw [if_pos (Nat.lt_succ_self _)]
      rw [if_neg (Nat.lt_irrefl _)] at ih
      refine (if_pos rfl).trans ((Pay.bdq _ _ _ d x).trans ?_)
      rw [show ch96 (st I g n.val).1 ⟨n.val, _⟩ (ix4 0 0 d x) = _ from ih]
      exact congrArg _ (AttnMath.sum_mul_coe _ _ _ _ _ (fun j => h.kt d j) (fun j => h.s n j x))
    · refine (if_neg hn).trans (ih.trans ?_)
      by_cases hl : n.val < N
      · rw [if_pos hl, if_pos (by omega)]
      · rw [if_neg hl, if_neg (by omega)]

theorem Real.outQ (h : Real I qr kr vr or lr δr) (g : Vec Ideal S1x13x96x1280 .f32) (n : Fin 13) (d : Fin 96) (x : Fin 1280) :
    (out I g).1 (ix4 0 n d x) = g (ix4 0 n d x) + ((∑ j, kr j d * dsr (kr j) (vr j) qr or lr δr (1280 * n.val + x.val) : ℝ) : EReal) :=
  (h.qacc g n d x 13 le_rfl).trans (if_pos n.isLt)

theorem Real.outK (h : Real I qr kr vr or lr δr) (g : Vec Ideal S1x13x96x1280 .f32) (d : Fin 96) (j : Fin 640) :
    (out I g).2.1 (ix3 0 d j) = ((∑ r ∈ Finset.range 16640, qr r d * dsr (kr j) (vr j) qr or lr δr r : ℝ) : EReal) :=
  (Pay.outDk _ d j).trans ((h.kv g 13 le_rfl).1 d j)

theorem Real.outV (h : Real I qr kr vr or lr δr) (g : Vec Ideal S1x13x96x1280 .f32) (d : Fin 64) (j : Fin 640) :
    (out I g).2.2 (ix3 0 d j) = ((∑ r ∈ Finset.range 16640, or r d * pr (kr j) qr lr r : ℝ) : EReal) :=
  (Pay.outDv _ d j).trans ((h.kv g 13 le_rfl).2 d j)

end Attn.Bwd
-- ==== Proof.AttnArr1.lean ====
/- The arrays the attention gradient's region leaves, element by element, when their input arrays hold real numbers. -/
module

public import proofs.«01_k».proof.Proof.AttnBwdVal

@[expose] public section

set_option maxRecDepth 16384

noncomputable section

namespace Attn.Arr

open Idealize.ShloMosaic Idealize.ShloMosaic.TcCoe Idealize.SL.Sem
open Idealize.ShloMosaic.Pipeline (Dat)
open Cert.KernelIdeal Cert.KernelIdeal.Gen
open Attn.Fwd (tok)

variable (V : (c : Dev nD) → (b : Ref sig .tc) → Buf (Elt Ideal) ((c : Thread nD τ).loc b))

theorem idx1 : ∀ t : Fin cfg1.N, win1_0.index t = ![t.val / 26, 0, 0, 0] ∧ win1_1.index t = ![t.val / 26, t.val % 26, 0]
    ∧ win1_2.index t = ![t.val / 26, 0, t.val % 26] ∧ win1_3.index t = ![t.val / 26, t.val % 26, 0] ∧ win1_4.index t = ![t.val / 26, 0, 0, 0]
    ∧ win1_5.index t = ![t.val / 26, 0, 0, 0] ∧ win1_6.index t = ![t.val / 26, 0, 0, 0]
    ∧ win1_7.index t = ![t.val / 26, 0, 0, 0] ∧ win1_8.index t = ![t.val / 26, 0, t.val % 26] ∧ win1_9.index t = ![t.val / 26, 0, t.val % 26] ∧ t.val / 26 < 8 :=
  (by decide +kernel : ∀ t : Fin grid1.N, _)

/-- The second region's input arrays hold these real numbers. -/
structure In1 (c : Dev nD) (Q K : ℕ → ℕ → Fin 96 → ℝ) (Y DO : ℕ → ℕ → Fin 64 → ℝ) (L D : ℕ → ℕ → ℝ) : Prop where
  q : ∀ (h : Fin 8) (n : Fin 13) (d : Fin 96) (x : Fin 1280), V c main_v37 (ix4 h n d x) = ((Q h.val (1280 * n.val + x.val) d : ℝ) : EReal)
  k : ∀ (h : Fin 8) (r : Fin 16640) (d : Fin 96), V c main_v40 (ix3 h r d) = ((K h.val r.val d : ℝ) : EReal)
  kt : ∀ (h : Fin 8) (d : Fin 96) (r : Fin 16640), V c main_v41 (ix3 h d r) = ((K h.val r.val d : ℝ) : EReal)
  v : ∀ (h : Fin 8) (r : Fin 16640) (d : Fin 64), V c main_v42 (ix3 h r d) = ((Y h.val r.val d : ℝ) : EReal)
  o : ∀ (h : Fin 8) (n : Fin 13) (d : Fin 64) (x : Fin 1280), V c main_v58 (ix4 h n d x) = ((DO h.val (1280 * n.val + x.val) d : ℝ) : EReal)
  l : ∀ (h : Fin 8) (n : Fin 13) (x : Fin 1280), V c main_v43_1 (ix4 h n 0 x) = ((L h.val (1280 * n.val + x.val) : ℝ) : EReal)
  δ : ∀ (h : Fin 8) (n : Fin 13) (x : Fin 1280), V c main_v60 (ix4 h n 0 x) = ((D h.val (1280 * n.val + x.val) : ℝ) : EReal)

variable {V} {c : Dev nD} {Q K : ℕ → ℕ → Fin 96 → ℝ} {Y DO : ℕ → ℕ → Fin 64 → ℝ} {L D : ℕ → ℕ → ℝ}

theorem real1_q (H : In1 V c Q K Y DO L D) (t : Fin cfg1.N) (n : Fin 13) (d : Fin 96) (x : Fin 1280) :
    (Bwd.blk V c t).q (ix4 0 n d x) = ((Q (t.val / 26) (1280 * n.val + x.val) d : ℝ) : EReal) := by
  have hh := (idx1 t).2.2.2.2.2.2.2.2.2.2
  have hm : t.val % 26 < 26 := Nat.mod_lt _ (by decide)
  have hi := (idx1 t).1
  refine Eq.trans ?_ (H.q ⟨t.val / 26, hh⟩ n d x)
  dsimp only [Bwd.blk]
  blk_ext [iblk1, hi]

theorem real1_k (H : In1 V c Q K Y DO L D) (t : Fin cfg1.N) (j : Fin 640) (d : Fin 96) :
    (Bwd.blk V c t).k (ix3 0 j d) = ((K (t.val / 26) (t.val % 26 * 640 + j.val) d : ℝ) : EReal) := by
  have hh := (idx1 t).2.2.2.2.2.2.2.2.2.2
  have hm : t.val % 26 < 26 := Nat.mod_lt _ (by decide)
  have hi := (idx1 t).2.1
  refine Eq.trans ?_ (H.k ⟨t.val / 26, hh⟩ ⟨t.val % 26 * 640 + j.val, by omega⟩ d)
  dsimp only [Bwd.blk]
  blk_ext [iblk1, hi]

theorem real1_kt (H : In1 V c Q K Y DO L D) (t : Fin cfg1.N) (d : Fin 96) (j : Fin 640) :
    (Bwd.blk V c t).kt (ix3 0 d j) = ((K (t.val / 26) (t.val % 26 * 640 + j.val) d : ℝ) : EReal) := by
  have hh := (idx1 t).2.2.2.2.2.2.2.2.2.2
  have hm : t.val % 26 < 26 := Nat.mod_lt _ (by decide)
  have hi := (idx1 t).2.2.1
  refine Eq.trans ?_ (H.kt ⟨t.val / 26, hh⟩ d ⟨t.val % 26 * 640 + j.val, by omega⟩)
  dsimp only [Bwd.blk]
  blk_ext [iblk1, hi]

theorem real1_v (H : In1 V c Q K Y DO L D) (t : Fin cfg1.N) (j : Fin 640) (d : Fin 64) :
    (Bwd.blk V c t).v (ix3 0 j d) = ((Y (t.val / 26) (t.val % 26 * 640 + j.val) d : ℝ) : EReal) := by
  have hh := (idx1 t).2.2.2.2.2.2.2.2.2.2
  have hm : t.val % 26 < 26 := Nat.mod_lt _ (by decide)
  have hi := (idx1 t).2.2.2.1
  refine Eq.trans ?_ (H.v ⟨t.val / 26, hh⟩ ⟨t.val % 26 * 640 + j.val, by omega⟩ d)
  dsimp only [Bwd.blk]
  blk_ext [iblk1, hi]

theorem real1_o (H : In1 V c Q K Y DO L D) (t : Fin cfg1.N) (n : Fin 13) (d : Fin 64) (x : Fin 1280) :
    (Bwd.blk V c t).o (ix4 0 n d x) = ((DO (t.val / 26) (1280 * n.val + x.val) d : ℝ) : EReal) := by
  have hh := (idx1 t).2.2.2.2.2.2.2.2.2.2
  have hm : t.val % 26 < 26 := Nat.mod_lt _ (by decide)
  have hi := (idx1 t).2.2.2.2.1
  refine Eq.trans ?_ (H.o ⟨t.val / 26, hh⟩ n d x)
  dsimp only [Bwd.blk]
  blk_ext [iblk1, hi]

theorem real1_l (H : In1 V c Q K Y DO L D) (t : Fin cfg1.N) (n : Fin 13) (x : Fin 1280) :
    (Bwd.blk V c t).l (ix4 0 n 0 x) = ((L (t.val / 26) (1280 * n.val + x.val) : ℝ) : EReal) := by
  have hh := (idx1 t).2.2.2.2.2.2.2.2.2.2
  have hm : t.val % 26 < 26 := Nat.mod_lt _ (by decide)
  have hi := (idx1 t).2.2.2.2.2.1
  refine Eq.trans ?_ (H.l ⟨t.val / 26, hh⟩ n x)
  dsimp only [Bwd.blk]
  blk_ext [iblk1, hi]

theorem real1_δ (H : In1 V c Q K Y DO L D) (t : Fin cfg1.N) (n : Fin 13) (x : Fin 1280) :
    (Bwd.blk V c t).δ (ix4 0 n 0 x) = ((D (t.val / 26) (1280 * n.val + x.val) : ℝ) : EReal) := by
  have hh := (idx1 t).2.2.2.2.2.2.2.2.2.2
  have hm : t.val % 26 < 26 := Nat.mod_lt _ (by decide)
  have hi := (idx1 t).2.2.2.2.2.2.1
  refine Eq.trans ?_ (H.δ ⟨t.val / 26, hh⟩ n x)
  dsimp only [Bwd.blk]
  blk_ext [iblk1, hi]

theorem real1 (H : In1 V c Q K Y DO L D) (t : Fin cfg1.N) :
    Bwd.Real (Bwd.blk V c t) (Q (t.val / 26)) (fun j => K (t.val / 26) (t.val % 26 * 640 + j.val)) (fun j => Y (t.val / 26) (t.val % 26 * 640 + j.val))
      (DO (t.val / 26)) (L (t.val / 26)) (D (t.val / 26)) :=
  ⟨real1_q H t, real1_k H t, real1_kt H t, real1_v H t, real1_o H t, real1_l H t, real1_δ H t⟩

theorem outs_some (t : Fin cfg1.N) : ∃ g, outsAt1 V c t.val t.isLt = Bwd.out (Bwd.blk V c t) g := by
  by_cases h : t.val % 26 = 0
  · exact ⟨_, Bwd.out_A V c t h⟩
  · exact ⟨_, Bwd.out_B V c t h⟩

/-- The gradient of the score of key row `r` for query row `r'`, in one head. -/
abbrev dS (Q K : ℕ → Fin 96 → ℝ) (Y DO : ℕ → Fin 64 → ℝ) (L D : ℕ → ℝ) (r r' : ℕ) : ℝ := Bwd.dsr (K r) (Y r) Q DO L D r'

theorem arrK (H : In1 V c Q K Y DO L D) (h : Fin 8) (d : Fin 96) (r : Fin 16640) :
    (dat1 V c).arrAt 8 cfg1.N (ix3 h d r)
      = ((∑ r' ∈ Finset.range 16640, Q h.val r' d * dS (Q h.val) (K h.val) (Y h.val) (DO h.val) (L h.val) (D h.val) r.val r' : ℝ) : EReal) := by
  have e : (dat1 V c).arrAt 8 cfg1.N = (fun i : S8x96x16640.Idx =>
      ((∑ r' ∈ Finset.range 16640, Q (i 0).val r' ⟨(i 1).val, (i 1).isLt⟩ * dS (Q (i 0).val) (K (i 0).val) (Y (i 0).val) (DO (i 0).val) (L (i 0).val) (D (i 0).val) (i 2).val r' : ℝ) : EReal)) := by
    refine (dat1 V c).arrAt_eq_of_covers 8 _ (by decide +kernel) fun t hf y => ?_
    blk_simp
    rw [after1_8]
    obtain ⟨g, eg⟩ := outs_some (V := V) (c := c) t
    rw [eg]
    obtain ⟨z, d, j, rfl⟩ : ∃ (z : Fin 1) (d : Fin 96) (j : Fin 640), y = ix3 z d j := ⟨y 0, y 1, y 2, eq_ix3 y⟩
    obtain rfl : z = 0 := Subsingleton.elim _ _
    have e0 : win1_8.index t 0 = t.val / 26 := by rw [(idx1 t).2.2.2.2.2.2.2.2.1]; rfl
    have e1 : win1_8.index t 1 = 0 := by rw [(idx1 t).2.2.2.2.2.2.2.2.1]; rfl
    have e2 : win1_8.index t 2 = t.val % 26 := by rw [(idx1 t).2.2.2.2.2.2.2.2.1]; rfl
    refine ((real1 H t).outK g d j).trans ?_
    simp only [e0, e1, e2, Nat.zero_mul, Nat.zero_add]
    rfl
  rw [e]
  rfl

theorem arrV (H : In1 V c Q K Y DO L D) (h : Fin 8) (d : Fin 64) (r : Fin 16640) :
    (dat1 V c).arrAt 9 cfg1.N (ix3 h d r)
      = ((∑ r' ∈ Finset.range 16640, DO h.val r' d * Bwd.pr (K h.val r.val) (Q h.val) (L h.val) r' : ℝ) : EReal) := by
  have e : (dat1 V c).arrAt 9 cfg1.N = (fun i : S8x64x16640.Idx =>
      ((∑ r' ∈ Finset.range 16640, DO (i 0).val r' ⟨(i 1).val, (i 1).isLt⟩ * Bwd.pr (K (i 0).val (i 2).val) (Q (i 0).val) (L (i 0).val) r' : ℝ) : EReal)) := by
    refine (dat1 V c).arrAt_eq_of_covers 9 _ (by decide +kernel) fun t hf y => ?_
    blk_simp
    rw [after1_9]
    obtain ⟨g, eg⟩ := outs_some (V := V) (c := c) t
    rw [eg]
    obtain ⟨z, d, j, rfl⟩ : ∃ (z : Fin 1) (d : Fin 64) (j : Fin 640), y = ix3 z d j := ⟨y 0, y 1, y 2, eq_ix3 y⟩
    obtain rfl : z = 0 := Subsingleton.elim _ _
    have e0 : win1_9.index t 0 = t.val / 26 := by rw [(idx1 t).2.2.2.2.2.2.2.2.2.1]; rfl
    have e1 : win1_9.index t 1 = 0 := by rw [(idx1 t).2.2.2.2.2.2.2.2.2.1]; rfl
    have e2 : win1_9.index t 2 = t.val % 26 := by rw [(idx1 t).2.2.2.2.2.2.2.2.2.1]; rfl
    refine ((real1 H t).outV g d j).trans ?_
    simp only [e0, e1, e2, Nat.zero_mul, Nat.zero_add]
    rfl
  rw [e]
  rfl

theorem sum_runs (f : ℕ → ℝ) (J : ℕ) : ∑ r ∈ Finset.range (640 * J), f r = ∑ s : Fin J, ∑ j : Fin 640, f (s.val * 640 + j.val) := by
  rw [Finset.sum_fin_eq_sum_range]
  induction J with
  | zero => simp
  | succ J ih =>
    rw [AttnMath.sum_chunk, ih, Finset.sum_range_succ, dif_pos (Nat.lt_succ_self J)]
    refine congrArg₂ _ (Finset.sum_congr rfl fun s hs => ?_) ?_
    · have := Finset.mem_range.mp hs
      rw [dif_pos this, dif_pos (by omega)]
    · simp only [Nat.mul_comm J]

theorem arrQ (H : In1 V c Q K Y DO L D) (h : Fin 8) (n : Fin 13) (d : Fin 96) (x : Fin 1280) :
    (dat1 V c).arrAt 7 cfg1.N (ix4 h n d x)
      = ((∑ r ∈ Finset.range 16640, K h.val r d * dS (Q h.val) (K h.val) (Y h.val) (DO h.val) (L h.val) (D h.val) r (1280 * n.val + x.val) : ℝ) : EReal) := by
  have e : (dat1 V c).arrAt 7 cfg1.N = (fun i : S8x13x96x1280.Idx =>
      ((∑ r ∈ Finset.range 16640, K (i 0).val r ⟨(i 2).val, (i 2).isLt⟩ * dS (Q (i 0).val) (K (i 0).val) (Y (i 0).val) (DO (i 0).val) (L (i 0).val) (D (i 0).val) r (1280 * (i 1).val + (i 3).val) : ℝ) : EReal)) := by
    refine (dat1 V c).arrAt_eq_of_covers 7 _ (by decide +kernel) fun t hf y => ?_
    blk_simp
    rw [after1_7]
    obtain ⟨z, n, d, x, rfl⟩ : ∃ (z : Fin 1) (n : Fin 13) (d : Fin 96) (x : Fin 1280), y = ix4 z n d x := ⟨y 0, y 1, y 2, y 3, eq_ix4 y⟩
    obtain rfl : z = 0 := Subsingleton.elim _ _
    have e0 : win1_7.index t 0 = t.val / 26 := by rw [(idx1 t).2.2.2.2.2.2.2.1]; rfl
    have e1 : win1_7.index t 1 = 0 := by rw [(idx1 t).2.2.2.2.2.2.2.1]; rfl
    have e2 : win1_7.index t 2 = 0 := by rw [(idx1 t).2.2.2.2.2.2.2.1]; rfl
    have e3 : win1_7.index t 3 = 0 := by rw [(idx1 t).2.2.2.2.2.2.2.1]; rfl
    have hr := (flush1_7 t).mp hf
    have acc := Pipeline.eq_sum_fin_of_reset_step_apply_of_flush (M := EReal) (ι := Unit)
      (fun k hk _ => (outsAt1 V c k hk).1 (ix4 0 n d x)) 26 (fun _ => 0)
      (fun p _ => ((∑ j : Fin 640, K (p.val / 26) (p.val % 26 * 640 + j.val) d
        * dS (Q (p.val / 26)) (K (p.val / 26)) (Y (p.val / 26)) (DO (p.val / 26)) (L (p.val / 26)) (D (p.val / 26)) (p.val % 26 * 640 + j.val) (1280 * n.val + x.val) : ℝ) : EReal))
      (fun p hp _ => by
        rw [Bwd.out_A V c p hp]
        refine ((real1 H p).outQ _ n d x).trans ?_
        rw [Pay.dq0])
      (fun p hp _ => by
        rw [Bwd.out_B V c p hp]
        exact (real1 H p).outQ _ n d x) t hr ()
    refine acc.trans ?_
    simp only [e0, e1, e2, e3, Nat.zero_mul, Nat.zero_add]
    rw [zero_add, ← AttnMath.coe_sum]
    refine congrArg _ (Eq.trans ?_ (sum_runs _ 26).symm)
    refine Finset.sum_congr rfl fun s _ => ?_
    have a1 : (26 * (t.val / 26) + s.val) / 26 = t.val / 26 := by omega
    have a2 : (26 * (t.val / 26) + s.val) % 26 = s.val := by omega
    simp only [a1, a2]
    rfl
  rw [e]
  rfl

end Attn.Arr
-- ==== Proof.AttnTarget.lean ====
/- The real functions one head of attention and its gradient compute, and the two regions' sums as these functions. -/
module

public import proofs.«01_k».proof.Proof.AttnArr
public import proofs.«01_k».proof.Proof.AttnArr1

@[expose] public section

noncomputable section

namespace Attn.Target

open scoped BigOperators
open AttnMath Attn.Arr

/-- The values of one head laid out over the rows, zero on the padded ones. -/
def lay {n : ℕ} (f : Fin 16400 → Fin n → ℝ) (r : ℕ) (d : Fin n) : ℝ := if hp : rowPos r < 16400 then f ⟨rowPos r, hp⟩ d else 0

theorem lay_pos {n : ℕ} (f : Fin 16400 → Fin n → ℝ) (p : Fin 16400) (d : Fin n) : lay f (posRow p.val) d = f p d := by
  have e := rowPos_posRow p.val (by omega)
  unfold lay; rw [dif_pos (by rw [e]; exact p.2)]; congr 1; exact Fin.ext e

theorem lay_pad {n : ℕ} (f : Fin 16400 → Fin n → ℝ) (r : ℕ) (d : Fin n) (h : ¬ rowPos r < 16400) : lay f r d = 0 := dif_neg h

/-- A sum over the rows of a function that vanishes on the padded ones. -/
theorem sum_rows (g : ℕ → ℝ) (f : Fin 16400 → ℝ) (h1 : ∀ p : Fin 16400, g (posRow p.val) = f p) (h0 : ∀ r, ¬ rowPos r < 16400 → g r = 0) :
    ∑ r ∈ Finset.range 16640, g r = ∑ p : Fin 16400, f p := by
  rw [← sum_spread]
  refine Finset.sum_congr rfl fun r hr => ?_
  unfold spread
  by_cases hp : rowPos r < 16400
  · rw [dif_pos hp, ← h1]; congr 1; exact (posRow_rowPos r (Finset.mem_range.mp hr)).symm
  · rw [dif_neg hp, h0 r hp]

variable (q k : Fin 16400 → Fin 96 → ℝ) (v g : Fin 16400 → Fin 64 → ℝ)

/-- The score of query `i` and key `j`. -/
def S (i j : Fin 16400) : ℝ := (∑ d, q i d * k j d) * (1 / Real.sqrt 96)
/-- The sum of a query's weights. -/
def Z (i : Fin 16400) : ℝ := ∑ j, Real.exp (S q k i j)
/-- The normalized weight. -/
def P (i j : Fin 16400) : ℝ := Real.exp (S q k i j) / Z q k i
/-- The attention output. -/
def O (i : Fin 16400) (d : Fin 64) : ℝ := ∑ j, P q k i j * v j d
/-- The gradient of a normalized weight. -/
def dP (i j : Fin 16400) : ℝ := ∑ d, g i d * v j d
/-- The product of a query's output and its cotangent. -/
def δ (i : Fin 16400) : ℝ := ∑ d, g i d * O q k v i d
/-- The gradient of a score. -/
def DS (i j : Fin 16400) : ℝ := P q k i j * (dP v g i j - δ q k v g i)
/-- The gradient of the values. -/
def DV (j : Fin 16400) (d : Fin 64) : ℝ := ∑ i, g i d * P q k i j
/-- The gradient of the keys. -/
def DK (j : Fin 16400) (d : Fin 96) : ℝ := ∑ i, DS q k v g i j * (1 / Real.sqrt 96) * q i d
/-- The gradient of the queries. -/
def DQ (i : Fin 16400) (d : Fin 96) : ℝ := ∑ j, DS q k v g i j * (1 / Real.sqrt 96) * k j d

theorem Z_pos (i : Fin 16400) : 0 < Z q k i :=
  Finset.sum_pos (fun j _ => Real.exp_pos _) ⟨⟨0, by norm_num⟩, Finset.mem_univ _⟩

/-- The product of output and cotangent, from the weights. -/
theorem δ_eq (i : Fin 16400) : δ q k v g i = ∑ j, dP v g i j * P q k i j := by
  unfold δ O dP
  simp only [Finset.mul_sum, Finset.sum_mul]
  rw [Finset.sum_comm]
  refine Finset.sum_congr rfl fun j _ => Finset.sum_congr rfl fun d _ => ?_
  ring

/-- The query rows of a head, scaled. -/
def rq (r : ℕ) (d : Fin 96) : ℝ := lay q r d * (1 / (Real.log 2 * Real.sqrt 96))
/-- The value rows of a head with the column of ones. -/
def rx (r : ℕ) (d : Fin 128) : ℝ := if hd : d.val < 64 then lay v r ⟨d.val, hd⟩ else if d.val = 64 then 1 else 0

theorem rq_pad (r : ℕ) (d : Fin 96) (h : ¬ rowPos r < 16400) : rq q r d = 0 := by
  unfold rq; rw [lay_pad q r d h, zero_mul]

theorem tok_iff (r : ℕ) : Fwd.tok r ↔ rowPos r < 16400 := by
  unfold Fwd.tok rowPos; exact Iff.rfl

theorem tok_pos (p : Fin 16400) : Fwd.tok (posRow p.val) := by
  rw [tok_iff, rowPos_posRow _ (by omega)]; exact p.2

theorem sc_eq (i j : Fin 16400) : sc (rq q) (lay k) (posRow i.val) (posRow j.val) = S q k i j / Real.log 2 := by
  have h1 : Real.log 2 ≠ 0 := (Real.log_pos (by norm_num)).ne'
  have h2 : Real.sqrt 96 ≠ 0 := (Real.sqrt_pos.mpr (by norm_num)).ne'
  unfold sc S rq
  rw [Finset.sum_mul, Finset.sum_div]
  refine Finset.sum_congr rfl fun d _ => ?_
  rw [lay_pos, lay_pos]; field_simp

theorem w_eq (i j : Fin 16400) : (2 : ℝ) ^ sc (rq q) (lay k) (posRow i.val) (posRow j.val) = Real.exp (S q k i j) := by
  rw [sc_eq, two_rpow]

theorem mass_eq (i : Fin 16400) : mass Fwd.tok (sc (rq q) (lay k) (posRow i.val)) 16640 = Z q k i := by
  unfold mass Z
  refine sum_rows _ _ (fun p => ?_) (fun r hr => ?_)
  · rw [if_pos (tok_pos p), w_eq]
  · rw [if_neg (fun h => hr ((tok_iff r).mp h))]

theorem o_eq (i : Fin 16400) (d : Fin 64) (hd : d.val < 128) : oR (rq q) (lay k) (rx v) ⟨d.val, hd⟩ (posRow i.val) = O q k v i d := by
  unfold oR O P
  refine sum_rows _ _ (fun p => ?_) (fun r hr => ?_)
  · rw [if_pos (tok_pos p), w_eq, mass_eq, mul_comm]; congr 1
    unfold rx; rw [dif_pos d.2, lay_pos]
  · rw [if_neg (fun h => hr ((tok_iff r).mp h))]

/-- The logarithms of the rows' masses. -/
abbrev rl (r : ℕ) : ℝ := lR (rq q) (lay k) r

theorem pr_eq (i j : Fin 16400) : Bwd.pr (lay k (posRow j.val)) (rq q) (rl q k) (posRow i.val) = P q k i j := by
  have e : (∑ d, lay k (posRow j.val) d * rq q (posRow i.val) d) = sc (rq q) (lay k) (posRow i.val) (posRow j.val) := rfl
  unfold Bwd.pr rl lR P
  rw [e, mass_eq, Real.rpow_sub (by norm_num), two_rpow, Real.exp_log (Z_pos q k i), w_eq]

/-- The products of output and cotangent, by row. -/
def rδ (r : ℕ) : ℝ := ∑ d : Fin 64, lay g r d * oR (rq q) (lay k) (rx v) ⟨d.val, by omega⟩ r

theorem rδ_eq (i : Fin 16400) : rδ q k v g (posRow i.val) = δ q k v g i := by
  unfold rδ δ
  refine Finset.sum_congr rfl fun d _ => ?_
  rw [lay_pos, o_eq]

theorem ds_eq (i j : Fin 16400) : dS (rq q) (lay k) (lay v) (lay g) (rl q k) (rδ q k v g) (posRow j.val) (posRow i.val) = DS q k v g i j := by
  unfold dS Bwd.dsr DS
  rw [pr_eq, rδ_eq]; congr 2
  unfold dP
  refine Finset.sum_congr rfl fun d _ => ?_
  rw [lay_pos, lay_pos, mul_comm]

theorem dk_eq (j : Fin 16400) (d : Fin 96) :
    (∑ r' ∈ Finset.range 16640, rq q r' d * dS (rq q) (lay k) (lay v) (lay g) (rl q k) (rδ q k v g) (posRow j.val) r') * Real.log 2 = DK q k v g j d := by
  have h1 : Real.log 2 ≠ 0 := (Real.log_pos (by norm_num)).ne'
  have h2 : Real.sqrt 96 ≠ 0 := (Real.sqrt_pos.mpr (by norm_num)).ne'
  rw [sum_rows _ (fun i => rq q (posRow i.val) d * DS q k v g i j) (fun p => by rw [ds_eq]) (fun r hr => by rw [rq_pad q r d hr, zero_mul]), Finset.sum_mul]
  unfold DK
  refine Finset.sum_congr rfl fun i _ => ?_
  unfold rq; rw [lay_pos]; field_simp

theorem dv_eq (j : Fin 16400) (d : Fin 64) :
    (∑ r' ∈ Finset.range 16640, lay g r' d * Bwd.pr (lay k (posRow j.val)) (rq q) (rl q k) r') = DV q k g j d := by
  unfold DV
  exact sum_rows _ _ (fun p => by rw [pr_eq, lay_pos]) (fun r hr => by rw [lay_pad g r d hr, zero_mul])

theorem dq_eq (i : Fin 16400) (d : Fin 96) :
    (∑ r ∈ Finset.range 16640, lay k r d * dS (rq q) (lay k) (lay v) (lay g) (rl q k) (rδ q k v g) r (posRow i.val)) * (1 / Real.sqrt 96) = DQ q k v g i d := by
  rw [sum_rows _ (fun j => k j d * DS q k v g i j) (fun p => by rw [ds_eq, lay_pos]) (fun r hr => by rw [lay_pad k r d hr, zero_mul]), Finset.sum_mul]
  unfold DQ
  refine Finset.sum_congr rfl fun j _ => ?_
  ring

end Attn.Target
-- ==== Proof.AttnKer.lean ====
/- What the kernel's program leaves in its result buffers, element by element, when its arguments are real numbers. -/
module

public import proofs.«01_k».proof.Proof.AttnHost1
public import proofs.«01_k».proof.Proof.AttnTarget

@[expose] public section

set_option maxRecDepth 16384

noncomputable section

namespace Attn.Ker

open Idealize.ShloMosaic Idealize.ShloMosaic.TcCoe Idealize.SL.Sem
open Cert.KernelIdeal Cert.KernelIdeal.Gen Attn.Host Attn.Target
open scoped BigOperators

variable (m : (ℓ : Loc nD τ sig) → Buf (Elt Ideal) ℓ) (ρ : Dev nD → PrngReg) (c : Dev nD)
variable (q k : Fin 8 → Fin 16400 → Fin 96 → ℝ) (v g : Fin 8 → Fin 16400 → Fin 64 → ℝ)

/-- The device's arguments are these real numbers. -/
structure Args : Prop where
  q : ∀ h p d, A0 m c h p d = ((q h p d : ℝ) : EReal)
  k : ∀ h p d, A1 m c h p d = ((k h p d : ℝ) : EReal)
  v : ∀ h p d, A2 m c h p d = ((v h p d : ℝ) : EReal)
  g : ∀ h p d, A3 m c h p d = ((g h p d : ℝ) : EReal)

/-- The head with this number. -/
def hd (h : ℕ) : Fin 8 := ⟨h % 8, by omega⟩
theorem hd_val (h : Fin 8) : hd h.val = h := Fin.ext (Nat.mod_eq_of_lt h.2)

variable {m c q k v g}

/-- An argument's rows, as the host lines lay them out. -/
theorem lay_coe {n : ℕ} (A : Fin 8 → Fin 16400 → Fin n → EReal) (f : Fin 8 → Fin 16400 → Fin n → ℝ) (H : ∀ h p d, A h p d = ((f h p d : ℝ) : EReal))
    (h : Fin 8) (r : ℕ) (d : Fin n) :
    (if hp : AttnMath.rowPos r < 16400 then A h ⟨AttnMath.rowPos r, hp⟩ d else (0 : EReal)) = ((lay (f h) r d : ℝ) : EReal) := by
  unfold lay
  by_cases hp : AttnMath.rowPos r < 16400
  · rw [dif_pos hp, dif_pos hp, H]
  · rw [dif_neg hp, dif_neg hp, EReal.coe_zero]

theorem in0 (H : Args m c q k v g) :
    Arr.In0 (V1 m ρ) c (fun h => rq (q (hd h))) (fun h => lay (k (hd h))) (fun h => rx (v (hd h))) where
  q h n d x := by
    try dsimp only
    rw [hd_val]
    refine (at37 m ρ c h n d x).trans ((rowsQ m ρ c _ h d).trans ?_)
    unfold rq
    rw [EReal.coe_mul, ← lay_coe (A0 m c) q H.q]
  k h r d := by
    try dsimp only
    rw [hd_val]
    exact (at40 m ρ c h r d).trans ((rowsK m ρ c r h d).trans (lay_coe (A1 m c) k H.k h r.val d))
  v h n d x := by
    try dsimp only
    rw [hd_val]
    refine (at39 m ρ c h n d x).trans ((rowsX m ρ c _ h d).trans ?_)
    unfold rx
    by_cases hd : d.val < 64
    · rw [dif_pos hd, dif_pos hd]; exact lay_coe (A2 m c) v H.v h _ _
    · rw [dif_neg hd, dif_neg hd]; split <;> simp
  one h r _ := by
    try dsimp only
    unfold rx
    rw [dif_neg (by decide), if_pos (by decide)]

theorem o_arr (H : Args m c q k v g) (h : Fin 8) (d : Fin 64) (r : Fin 16640) :
    W2 m ρ c (Proc.devRef .tc main_v43_0) (ix3 h d r) = ((Arr.oR (rq (q h)) (lay (k h)) (rx (v h)) ⟨d.val, by omega⟩ r.val : ℝ) : EReal) := by
  refine (congrFun (W2_arr m ρ c 3) (ix3 h d r)).trans ((Arr.arrO (in0 ρ H) h d r).trans ?_)
  dsimp only; rw [hd_val]

theorem r52 (H : Args m c q k v g) (h : Fin 8) (d : Fin 64) (r : Fin 16640) :
    (R52 m ρ c (ix2 r ⟨h.val * 64 + d.val, by omega⟩) : EReal) = ((lay (g h) r.val d : ℝ) : EReal) :=
  (rows52 m ρ c r h d).trans (lay_coe (A3 m c) g H.g h r.val d)

theorem r45 (H : Args m c q k v g) (h : Fin 8) (d : Fin 64) (r : Fin 16640) :
    (R45 m ρ c (ix2 r ⟨h.val * 64 + d.val, by omega⟩) : EReal)
      = ((Arr.oR (rq (q h)) (lay (k h)) (rx (v h)) ⟨d.val, by omega⟩ r.val : ℝ) : EReal) :=
  (rows45 m ρ c r h d).trans (o_arr ρ H h d r)

theorem δ_arr (H : Args m c q k v g) (h : Fin 8) (r : Fin 16640) :
    W3 m ρ c (Proc.devRef .tc main_v55) (ix2 r h) = ((rδ (q h) (k h) (v h) (g h) r.val : ℝ) : EReal) := by
  refine (at55 m ρ c r h).trans ?_
  unfold rδ
  rw [zero_add]
  exact AttnMath.sum_mul_coe _ _ _ _ _ (fun d => r52 ρ H h d r) (fun d => r45 ρ H h d r)

/-- A buffer neither the first region nor the host lines after it write. -/
theorem kept (b : Ref sig .tc) (h1 : b ∉ hostOps1_W) (h0 : ∀ w : Fin cfg0.W, Pipeline.arrRef spec0 w = b → (cfg0.win w).isOut = false) :
    W3 m ρ c (Proc.devRef .tc b) = W1 m ρ c (Proc.devRef .tc b) :=
  (W3_of m ρ c b h1).trans (W2_of m ρ c b h0)

theorem in1 (H : Args m c q k v g) :
    Arr.In1 (V3 m ρ) c (fun h => rq (q (hd h))) (fun h => lay (k (hd h))) (fun h => lay (v (hd h))) (fun h => lay (g (hd h)))
      (fun h => rl (q (hd h)) (k (hd h))) (fun h => rδ (q (hd h)) (k (hd h)) (v (hd h)) (g (hd h))) where
  q h n d x := (congrFun (kept ρ main_v37 (by decide) (by decide)) _).trans ((in0 ρ H).q h n d x)
  k h r d := (congrFun (kept ρ main_v40 (by decide) (by decide)) _).trans ((in0 ρ H).k h r d)
  kt h d r := by
    try dsimp only
    rw [hd_val]
    exact (congrFun (kept ρ main_v41 (by decide) (by decide)) _).trans ((at41 m ρ c h d r).trans ((rowsK m ρ c r h d).trans (lay_coe (A1 m c) k H.k h r.val d)))
  v h r d := by
    try dsimp only
    rw [hd_val]
    exact (congrFun (kept ρ main_v42 (by decide) (by decide)) _).trans ((at42 m ρ c h r d).trans ((rowsV m ρ c r h d).trans (lay_coe (A2 m c) v H.v h r.val d)))
  o h n d x := by
    try dsimp only
    rw [hd_val]
    exact (at58 m ρ c h n d x).trans (r52 ρ H h d ⟨1280 * n.val + x.val, by omega⟩)
  l h n x :=
    (congrFun (W3_of m ρ c main_v43_1 (by decide)) _).trans ((congrFun (W2_arr m ρ c 4) (ix4 h n 0 x)).trans (Arr.arrL (in0 ρ H) h n x))
  δ h n x := by
    try dsimp only
    rw [hd_val]
    exact (at60 m ρ c h n x).trans (δ_arr ρ H h ⟨1280 * n.val + x.val, by omega⟩)

/-- The output. -/
theorem resO (H : Args m c q k v g) (h : Fin 8) (p : Fin 16400) (d : Fin 64) :
    W5 m ρ c (Proc.devRef .tc main_v78) (ix3 h p d) = ((O (q h) (k h) (v h) p d : ℝ) : EReal) := by
  refine (out78 m ρ c h p d).trans ((congrFun (W4_of m ρ c main_v45 (by decide)) _).trans ((r45 ρ H h d _).trans ?_))
  rw [o_eq]

/-- The gradient of the values. -/
theorem resV (H : Args m c q k v g) (h : Fin 8) (p : Fin 16400) (d : Fin 64) :
    W5 m ρ c (Proc.devRef .tc main_v96) (ix3 h p d) = ((DV (q h) (k h) (g h) p d : ℝ) : EReal) := by
  refine (out96 m ρ c h p d).trans ((congrFun (W4_arr m ρ c 9) _).trans ((Arr.arrV (in1 ρ H) h d _).trans ?_))
  dsimp only; rw [hd_val, dv_eq]

theorem at0 : W1 m ρ c (Proc.devRef .tc main_v0) ix0 = ((Real.log 2 : ℝ) : EReal) := by
  have e : W1 m ρ c (Proc.devRef .tc main_v0) ix0 = Ideal.log (Ideal.ofBits .f32 1073741824#32) := by
    unfold W1
    after_reads_at
  rw [e, two_word, Ideal.log_coe, if_neg (by norm_num)]

theorem at1 : W1 m ρ c (Proc.devRef .tc main_v1) ix0 = ((Real.sqrt 96 : ℝ) : EReal) := by
  have e : W1 m ρ c (Proc.devRef .tc main_v1) ix0 = Ideal.sqrt (Ideal.ofBits .f32 1119879168#32) := by
    unfold W1
    after_reads_at
  rw [e, ninetysix_word, Ideal.sqrt_coe, if_neg (by norm_num)]

/-- A buffer neither region nor the host lines between them write. -/
theorem kept4 (b : Ref sig .tc) (h1 : b ∉ hostOps1_W) (h0 : ∀ w : Fin cfg0.W, Pipeline.arrRef spec0 w = b → (cfg0.win w).isOut = false)
    (h2 : ∀ w : Fin cfg1.W, Pipeline.arrRef spec1 w = b → (cfg1.win w).isOut = false) :
    W4 m ρ c (Proc.devRef .tc b) = W1 m ρ c (Proc.devRef .tc b) :=
  (W4_of m ρ c b h2).trans (kept ρ b h1 h0)

/-- The gradient of the keys. -/
theorem resK (H : Args m c q k v g) (h : Fin 8) (p : Fin 16400) (d : Fin 96) :
    W5 m ρ c (Proc.devRef .tc main_v90) (ix3 h p d) = ((DK (q h) (k h) (v h) (g h) p d : ℝ) : EReal) := by
  refine (out90 m ρ c h p d).trans ?_
  refine (congrArg₂ (fun a b : EReal => a * b) ((congrFun (W4_arr m ρ c 8) _).trans (Arr.arrK (in1 ρ H) h d _))
    ((congrFun (kept4 ρ main_v0 (by decide) (by decide) (by decide)) _).trans (at0 ρ))).trans ?_
  dsimp only; rw [hd_val, ← EReal.coe_mul, dk_eq]

/-- The gradient of the queries. -/
theorem resQ (H : Args m c q k v g) (h : Fin 8) (p : Fin 16400) (d : Fin 96) :
    W5 m ρ c (Proc.devRef .tc main_v84) (ix3 h p d) = ((DQ (q h) (k h) (v h) (g h) p d : ℝ) : EReal) := by
  refine (out84 m ρ c h p d).trans ?_
  refine (congrArg₂ (fun a b : EReal => a * Ideal.div 1 b) ((congrFun (W4_arr m ρ c 7) _).trans (Arr.arrQ (in1 ρ H) h _ d _))
    ((congrFun (kept4 ρ main_v1 (by decide) (by decide) (by decide)) _).trans (at1 ρ))).trans ?_
  dsimp only; rw [hd_val, Nat.div_add_mod, ← EReal.coe_one, AttnMath.div_coe _ _ (Real.sqrt_pos.mpr (by norm_num)).ne', ← EReal.coe_mul, dq_eq]

end Attn.Ker
-- ==== Proof.AttnRef.lean ====
/- What the reference's results are, element by element, when its arguments are real numbers. -/
module

public import proofs.«01_k».proof.Proof.Gen.ReferenceIdeal.Read
public import proofs.«01_k».proof.Proof.AttnTarget
public import Idealize.ShloMosaic.PureOps.IdealRules

@[expose] public section

noncomputable section

namespace Attn.Ref

open Idealize.ShloMosaic Idealize.ShloMosaic.TcCoe
open Cert.ReferenceIdeal Cert.ReferenceIdeal.Gen Cert.ReferenceIdeal.Read
open scoped BigOperators

/-- A score-shaped, query-shaped or value-shaped array of the reference. -/
abbrev X96 := (⟨S8x16400x96, .f32⟩ : BufTy).Contents (Elt Ideal)
abbrev X64 := (⟨S8x16400x64, .f32⟩ : BufTy).Contents (Elt Ideal)

theorem one_word : Ideal.ofBits .f32 0x3F800000#32 = ((1 : ℝ) : EReal) := by
  simp [Ideal.ofBits, Ideal.ieee]
  rw [← EReal.coe_mul]; norm_num
theorem zero_word : Ideal.ofBits .f32 0x00000000#32 = ((0 : ℝ) : EReal) := by
  simp [Ideal.ofBits, Ideal.ieee]
theorem bot_word : Ideal.ofBits .f32 0xFF800000#32 = (⊥ : EReal) := by
  simp [Ideal.ofBits, Ideal.ieee]
theorem word96 : Ideal.ofBits .f32 0x42C00000#32 = ((96 : ℝ) : EReal) := by
  simp [Ideal.ofBits, Ideal.ieee]
  rw [← EReal.coe_mul]; norm_num

theorem v1_eq (i : S_.Idx) : val_main_v1 (F := Ideal) i = ((1 / Real.sqrt 96 : ℝ) : EReal) := by
  have e : val_main_v1 (F := Ideal) i = Ideal.div (Ideal.ofBits .f32 0x3F800000#32) (Ideal.sqrt (Ideal.ofBits .f32 0x42C00000#32)) := rfl
  rw [e, one_word, word96, Ideal.sqrt_coe, if_neg (by norm_num), AttnMath.div_coe]
  exact (Real.sqrt_pos.mpr (by norm_num)).ne'

variable (x0 x1 : X96) (x2 x3 : X64) (q k : Fin 8 → Fin 16400 → Fin 96 → ℝ) (v g : Fin 8 → Fin 16400 → Fin 64 → ℝ)

/-- The arguments are these real numbers. -/
structure Args : Prop where
  q : ∀ h p d, x0 (ix3 h p d) = ((q h p d : ℝ) : EReal)
  k : ∀ h p d, x1 (ix3 h p d) = ((k h p d : ℝ) : EReal)
  v : ∀ h p d, x2 (ix3 h p d) = ((v h p d : ℝ) : EReal)
  g : ∀ h p d, x3 (ix3 h p d) = ((g h p d : ℝ) : EReal)

variable {x0 x1 x2 x3 q k v g}

theorem v4_eq (H : Args x0 x1 x2 x3 q k v g) (h : Fin 8) (i j : Fin 16400) :
    val_main_v4 (F := Ideal) x0 x1 (ix3 h i j) = ((Target.S (q h) (k h) i j : ℝ) : EReal) := by
  have e : val_main_v2 (F := Ideal) x0 x1 (ix3 h i j) = ((∑ d, q h i d * k h j d : ℝ) : EReal) := by
    rw [val_main_v2_apply]
    refine AttnMath.sum_mul_coe _ _ _ _ _ (fun d => ?_) (fun d => ?_)
    · rw [← H.q]; congr 1; funext a; fin_cases a <;> rfl
    · rw [← H.k]; congr 1; funext a; fin_cases a <;> rfl
  have e3 : val_main_v3 (F := Ideal) (ix3 h i j) = ((1 / Real.sqrt 96 : ℝ) : EReal) := by
    rw [val_main_v3_apply, v1_eq]
  rw [val_main_v4_apply, e, e3]
  exact (EReal.coe_mul _ _).symm

/-- The largest score of a query, as a real number. -/
def M (x0 x1 : X96) (h : Fin 8) (i : Fin 16400) : ℝ := EReal.toReal (val_main_v12 (F := Ideal) x0 x1 (ix2 h i))

theorem v5_eq (H : Args x0 x1 x2 x3 q k v g) (h : Fin 8) (i : Fin 16400) :
    val_main_v5 (F := Ideal) x0 x1 (ix2 h i) = Finset.univ.fold max (⊥ : EReal) (fun j : Fin 16400 => ((Target.S (q h) (k h) i j : ℝ) : EReal)) := by
  have e : val_main_v5 (F := Ideal) x0 x1 (ix2 h i)
      = Finset.univ.fold max (Ideal.ofBits .f32 0xFF800000#32) (fun j : Fin 16400 => val_main_v4 (F := Ideal) x0 x1 (ix3 h i j)) := by
    unfold val_main_v5
    generalize val_main_v4 (F := Ideal) x0 x1 = y
    unfold val_main_cst_1
    pointwise
  rw [e, bot_word]
  exact Finset.fold_congr fun j _ => v4_eq H h i j

theorem v12_eq (H : Args x0 x1 x2 x3 q k v g) (h : Fin 8) (i : Fin 16400) :
    val_main_v12 (F := Ideal) x0 x1 (ix2 h i) = ((M x0 x1 h i : ℝ) : EReal) := by
  have e : val_main_v12 (F := Ideal) x0 x1 (ix2 h i)
      = max (⊥ : EReal) (Finset.univ.fold max (⊥ : EReal) (fun j : Fin 16400 => ((Target.S (q h) (k h) i j : ℝ) : EReal))) := by
    rw [val_main_v12_apply, v5_eq H, val_main_v11_apply]
    show max (Ideal.ofBits .f32 0xFF800000#32) _ = _
    rw [bot_word]
  refine (EReal.coe_toReal ?_ ?_).symm
  · rw [e]; refine ne_of_lt (max_lt bot_lt_top ?_)
    rw [Finset.fold_max_lt]; exact ⟨bot_lt_top, fun _ _ => EReal.coe_lt_top _⟩
  · rw [e]
    refine ne_of_gt (lt_of_lt_of_le (EReal.bot_lt_coe (Target.S (q h) (k h) i ⟨0, by norm_num⟩)) (le_trans ?_ (le_max_right _ _)))
    rw [Finset.le_fold_max]; exact .inr ⟨⟨0, by norm_num⟩, Finset.mem_univ _, le_rfl⟩

/-- The weight the reference takes, relative to the largest score. -/
def E (x0 x1 : X96) (q k : Fin 8 → Fin 16400 → Fin 96 → ℝ) (h : Fin 8) (i j : Fin 16400) : ℝ := Real.exp (Target.S (q h) (k h) i j - M x0 x1 h i)
/-- The sum of those weights. -/
def Y (x0 x1 : X96) (q k : Fin 8 → Fin 16400 → Fin 96 → ℝ) (h : Fin 8) (i : Fin 16400) : ℝ := ∑ j, E x0 x1 q k h i j

theorem Y_pos (h : Fin 8) (i : Fin 16400) : 0 < Y x0 x1 q k h i :=
  Finset.sum_pos (fun j _ => Real.exp_pos _) ⟨⟨0, by norm_num⟩, Finset.mem_univ _⟩

theorem E_eq (h : Fin 8) (i j : Fin 16400) : E x0 x1 q k h i j = Real.exp (Target.S (q h) (k h) i j) * Real.exp (-M x0 x1 h i) := by
  unfold E; rw [sub_eq_add_neg, Real.exp_add]

theorem Y_eq (h : Fin 8) (i : Fin 16400) : Y x0 x1 q k h i = Target.Z (q h) (k h) i * Real.exp (-M x0 x1 h i) := by
  unfold Y Target.Z; rw [Finset.sum_mul]; exact Finset.sum_congr rfl fun j _ => E_eq h i j

theorem P_eq (h : Fin 8) (i j : Fin 16400) : E x0 x1 q k h i j / Y x0 x1 q k h i = Target.P (q h) (k h) i j := by
  rw [E_eq, Y_eq]; unfold Target.P; exact mul_div_mul_right _ _ (Real.exp_pos _).ne'

theorem v25_eq (H : Args x0 x1 x2 x3 q k v g) (h : Fin 8) (i j : Fin 16400) :
    val_main_v25 (F := Ideal) x0 x1 (ix3 h i j) = ((E x0 x1 q k h i j : ℝ) : EReal) := by
  have e : val_main_v23 (F := Ideal) x0 x1 (ix3 h i j) = ((M x0 x1 h i : ℝ) : EReal) := by
    rw [val_main_v23_apply, val_main_v22_apply, ← v12_eq H]; congr 1; funext a; fin_cases a <;> rfl
  rw [val_main_v25_apply, val_main_v24_apply, v4_eq H, e]
  show Ideal.exp (((Target.S (q h) (k h) i j : ℝ) : EReal) - ((M x0 x1 h i : ℝ) : EReal)) = _
  rw [← EReal.coe_sub, Ideal.exp_coe]; rfl

theorem v26_eq (H : Args x0 x1 x2 x3 q k v g) (h : Fin 8) (i : Fin 16400) :
    val_main_v26 (F := Ideal) x0 x1 (ix2 h i) = ((Y x0 x1 q k h i : ℝ) : EReal) := by
  rw [val_main_v26_apply]
  unfold Y
  rw [AttnMath.coe_sum]
  show Ideal.ofBits .f32 0x00000000#32 + _ = _
  rw [zero_word, EReal.coe_zero, zero_add]
  refine Finset.sum_congr rfl fun j _ => ?_
  rw [← v25_eq H]; congr 1; funext a; fin_cases a <;> rfl

theorem v27_eq (H : Args x0 x1 x2 x3 q k v g) (h : Fin 8) (i : Fin 16400) :
    val_main_v27 (F := Ideal) x0 x1 (ix3 h i 0) = ((Y x0 x1 q k h i : ℝ) : EReal) := by
  rw [val_main_v27_apply, ← v26_eq H]; congr 1; funext a; fin_cases a <;> rfl

theorem v29_eq (H : Args x0 x1 x2 x3 q k v g) (h : Fin 8) (i j : Fin 16400) :
    val_main_v29 (F := Ideal) x0 x1 (ix3 h i j) = ((Target.P (q h) (k h) i j : ℝ) : EReal) := by
  have e : val_main_v28 (F := Ideal) x0 x1 (ix3 h i j) = ((Y x0 x1 q k h i : ℝ) : EReal) := by
    rw [val_main_v28_apply, ← v27_eq H]; congr 1; funext a; fin_cases a <;> rfl
  rw [val_main_v29_apply, v25_eq H, e, ← P_eq (x0 := x0) (x1 := x1)]
  exact AttnMath.div_coe _ _ (Y_pos h i).ne'

/-- The output. -/
theorem v33_eq (H : Args x0 x1 x2 x3 q k v g) (h : Fin 8) (i : Fin 16400) (d : Fin 64) :
    val_main_v33 (F := Ideal) x0 x1 x2 (ix3 h i d) = ((Target.O (q h) (k h) (v h) i d : ℝ) : EReal) := by
  rw [val_main_v33_apply]
  refine AttnMath.sum_mul_coe _ _ _ _ _ (fun j => ?_) (fun j => ?_)
  · rw [← v29_eq H]; congr 1; funext a; fin_cases a <;> rfl
  · rw [← H.v]; congr 1; funext a; fin_cases a <;> rfl

/-- The gradient of the values. -/
theorem v35_eq (H : Args x0 x1 x2 x3 q k v g) (h : Fin 8) (j : Fin 16400) (d : Fin 64) :
    val_main_v35 (F := Ideal) x0 x1 x3 (ix3 h j d) = ((Target.DV (q h) (k h) (g h) j d : ℝ) : EReal) := by
  rw [val_main_v35_apply, val_main_v34_apply]
  refine AttnMath.sum_mul_coe _ _ _ _ _ (fun i => ?_) (fun i => ?_)
  · rw [← H.g]; congr 1; funext a; fin_cases a <;> rfl
  · rw [← v29_eq H]; congr 1; funext a; fin_cases a <;> rfl

theorem v36_eq (H : Args x0 x1 x2 x3 q k v g) (h : Fin 8) (i j : Fin 16400) :
    val_main_v36 (F := Ideal) x2 x3 (ix3 h i j) = ((Target.dP (v h) (g h) i j : ℝ) : EReal) := by
  rw [val_main_v36_apply]
  refine AttnMath.sum_mul_coe _ _ _ _ _ (fun d => ?_) (fun d => ?_)
  · rw [← H.g]; congr 1; funext a; fin_cases a <;> rfl
  · rw [← H.v]; congr 1; funext a; fin_cases a <;> rfl

theorem v32_eq (H : Args x0 x1 x2 x3 q k v g) (h : Fin 8) (i : Fin 16400) :
    val_main_v32 (F := Ideal) x0 x1 (ix3 h i 0) = ((1 / (Y x0 x1 q k h i * Y x0 x1 q k h i) : ℝ) : EReal) := by
  rw [val_main_v32_apply, val_main_v30_apply, v27_eq H, val_main_v31_apply]
  show Ideal.div (Ideal.ofBits .f32 0x3F800000#32) (((Y x0 x1 q k h i : ℝ) : EReal) * ((Y x0 x1 q k h i : ℝ) : EReal)) = _
  rw [one_word, ← EReal.coe_mul]
  exact AttnMath.div_coe _ _ (mul_pos (Y_pos h i) (Y_pos h i)).ne'

theorem v39_eq (H : Args x0 x1 x2 x3 q k v g) (h : Fin 8) (i j : Fin 16400) :
    val_main_v39 (F := Ideal) x0 x1 x2 x3 (ix3 h i j)
      = ((Target.dP (v h) (g h) i j * (1 / (Y x0 x1 q k h i * Y x0 x1 q k h i)) * E x0 x1 q k h i j : ℝ) : EReal) := by
  have e : val_main_v37 (F := Ideal) x0 x1 (ix3 h i j) = ((1 / (Y x0 x1 q k h i * Y x0 x1 q k h i) : ℝ) : EReal) := by
    rw [val_main_v37_apply, ← v32_eq H]; congr 1; funext a; fin_cases a <;> rfl
  rw [val_main_v39_apply, val_main_v38_apply, v36_eq H, e, v25_eq H]
  show ((_ : ℝ) : EReal) * ((_ : ℝ) : EReal) * ((_ : ℝ) : EReal) = _
  rw [← EReal.coe_mul, ← EReal.coe_mul]

/-- The part of the score's gradient that the normalization contributes, before its sign. -/
def N (x0 x1 : X96) (q k : Fin 8 → Fin 16400 → Fin 96 → ℝ) (v g : Fin 8 → Fin 16400 → Fin 64 → ℝ) (h : Fin 8) (i : Fin 16400) : ℝ :=
  ∑ j, Target.dP (v h) (g h) i j * (1 / (Y x0 x1 q k h i * Y x0 x1 q k h i)) * E x0 x1 q k h i j

theorem v42_eq (H : Args x0 x1 x2 x3 q k v g) (h : Fin 8) (i : Fin 16400) :
    val_main_v42 (F := Ideal) x0 x1 x2 x3 (ix3 h i 0) = ((-N x0 x1 q k v g h i : ℝ) : EReal) := by
  have e : val_main_v41 (F := Ideal) x0 x1 x2 x3 (ix3 h i 0) = ((N x0 x1 q k v g h i : ℝ) : EReal) := by
    have ei : idx_main_v41 (ix3 h i 0) = ix2 h i := by
      funext a; apply Fin.ext; have := h.2; have := i.2; fin_cases a <;> simp [idx_main_v41] <;> omega
    rw [val_main_v41_apply, ei, val_main_v40_apply]
    unfold N
    rw [AttnMath.coe_sum]
    show Ideal.ofBits .f32 0x00000000#32 + _ = _
    rw [zero_word, EReal.coe_zero, zero_add]
    refine Finset.sum_congr rfl fun j _ => ?_
    rw [← v39_eq H]; congr 1; funext a; fin_cases a <;> rfl
  rw [val_main_v42_apply, e]
  exact (EReal.coe_neg _).symm

theorem v46_eq (H : Args x0 x1 x2 x3 q k v g) (h : Fin 8) (i j : Fin 16400) :
    val_main_v46 (F := Ideal) x0 x1 x2 x3 (ix3 h i j) = ((-N x0 x1 q k v g h i : ℝ) : EReal) := by
  rw [val_main_v46_apply, val_main_v45_apply, Fin.sum_univ_one]
  show Ideal.ofBits .f32 0x00000000#32 + _ = _
  rw [zero_word, EReal.coe_zero, zero_add, ← v42_eq H]; congr 1; funext a; fin_cases a <;> rfl

theorem ds_eq (h : Fin 8) (i j : Fin 16400) :
    (Target.dP (v h) (g h) i j / Y x0 x1 q k h i + -N x0 x1 q k v g h i) * E x0 x1 q k h i j = Target.DS (q h) (k h) (v h) (g h) i j := by
  have hY := (Y_pos (x0 := x0) (x1 := x1) (q := q) (k := k) h i).ne'
  have hN : N x0 x1 q k v g h i = Target.δ (q h) (k h) (v h) (g h) i / Y x0 x1 q k h i := by
    unfold N; rw [Target.δ_eq, Finset.sum_div]
    refine Finset.sum_congr rfl fun j _ => ?_
    rw [← P_eq (x0 := x0) (x1 := x1)]; field_simp
  unfold Target.DS
  rw [hN, ← P_eq (x0 := x0) (x1 := x1)]; field_simp; ring

theorem v50_eq (H : Args x0 x1 x2 x3 q k v g) (h : Fin 8) (i j : Fin 16400) :
    val_main_v50 (F := Ideal) x0 x1 x2 x3 (ix3 h i j) = ((Target.DS (q h) (k h) (v h) (g h) i j * (1 / Real.sqrt 96) : ℝ) : EReal) := by
  have e : val_main_v43 (F := Ideal) x0 x1 (ix3 h i j) = ((Y x0 x1 q k h i : ℝ) : EReal) := by
    rw [val_main_v43_apply, ← v27_eq H]; congr 1; funext a; fin_cases a <;> rfl
  have e9 : val_main_v49 (F := Ideal) (ix3 h i j) = ((1 / Real.sqrt 96 : ℝ) : EReal) := by
    rw [val_main_v49_apply, v1_eq]
  have e4 : val_main_v44 (F := Ideal) x0 x1 x2 x3 (ix3 h i j) = ((Target.dP (v h) (g h) i j / Y x0 x1 q k h i : ℝ) : EReal) := by
    rw [val_main_v44_apply, v36_eq H, e]; exact AttnMath.div_coe _ _ (Y_pos h i).ne'
  rw [val_main_v50_apply, val_main_v48_apply, val_main_v47_apply, e4, v46_eq H, v25_eq H, e9, ← ds_eq (x0 := x0) (x1 := x1)]
  show (((_ : ℝ) : EReal) + ((_ : ℝ) : EReal)) * ((_ : ℝ) : EReal) * ((_ : ℝ) : EReal) = _
  rw [← EReal.coe_add, ← EReal.coe_mul, ← EReal.coe_mul]

/-- The gradient of the keys. -/
theorem v51_eq (H : Args x0 x1 x2 x3 q k v g) (h : Fin 8) (j : Fin 16400) (d : Fin 96) :
    val_main_v51 (F := Ideal) x0 x1 x2 x3 (ix3 h j d) = ((Target.DK (q h) (k h) (v h) (g h) j d : ℝ) : EReal) := by
  rw [val_main_v51_apply]
  refine AttnMath.sum_mul_coe _ _ _ _ _ (fun i => ?_) (fun i => ?_)
  · rw [← v50_eq H]; congr 1; funext a; fin_cases a <;> rfl
  · rw [← H.q]; congr 1; funext a; fin_cases a <;> rfl

/-- The gradient of the queries. -/
theorem v52_eq (H : Args x0 x1 x2 x3 q k v g) (h : Fin 8) (i : Fin 16400) (d : Fin 96) :
    val_main_v52 (F := Ideal) x0 x1 x2 x3 (ix3 h i d) = ((Target.DQ (q h) (k h) (v h) (g h) i d : ℝ) : EReal) := by
  rw [val_main_v52_apply]
  refine AttnMath.sum_mul_coe _ _ _ _ _ (fun j => ?_) (fun j => ?_)
  · rw [← v50_eq H]; congr 1; funext a; fin_cases a <;> rfl
  · rw [← H.k]; congr 1; funext a; fin_cases a <;> rfl

end Attn.Ref
-- ==== Proof.AttnClaim.lean ====
/- Kernel and reference leave the same arrays: the finite arguments are real numbers, and both sides compute the same real functions of them. -/
module

public import proofs.«01_k».proof.Defs
public import proofs.«01_k».proof.Proof.AttnKer
public import proofs.«01_k».proof.Proof.AttnRef
public import proofs.«01_k».proof.Proof.Gen.Kernel
public import proofs.«01_k».proof.Proof.Gen.KernelIdeal
public import proofs.«01_k».proof.Proof.Gen.ReferenceIdeal

@[expose] public section

set_option maxRecDepth 16384

noncomputable section

namespace Attn

open Idealize.ShloMosaic Idealize.ShloMosaic.TcCoe Idealize.SL.Sem
open Cert.KernelIdeal

/-- The shape conditions of the precondition's operations. -/
theorem preFacts : Cert.Pre_finite.Facts where
  bcast_S_S8x16400x96 := by decide
  bcast_S_S8x16400x64 := by decide

theorem top_word : Ideal.ofBits .f32 0x7F800000#32 = (⊤ : EReal) := by
  simp [Ideal.ofBits, Ideal.ieee]

/-- A value whose magnitude is below infinity is a real number. -/
theorem real_of_lt (x : EReal) (h : BitVec.ofBool (decide (max x (-x) < Ideal.ofBits .f32 0x7F800000#32)) = 1#1) : ∃ r : ℝ, x = (r : EReal) := by
  have h1 : max x (-x) < ⊤ := by
    by_contra hc
    rw [top_word, decide_eq_false hc] at h
    exact absurd h (by decide)
  refine ⟨x.toReal, (EReal.coe_toReal ?_ ?_).symm⟩
  · rintro rfl; simp at h1
  · rintro rfl; simp at h1

variable (m : (ℓ : Loc nD τ sig) → Buf (Elt Ideal) ℓ) (ρ : Dev nD → PrngReg)

/-- Under the precondition a device's arguments are real numbers. -/
theorem reals (H : Cert.Pre_KernelIdeal_finite (hPre_finite := preFacts) m) (c : Dev nD) : ∃ q k v g, Ker.Args m c q k v g := by
  obtain ⟨h0, h1, h2, h3⟩ := H c
  have e0 : ∀ h p d, ∃ r : ℝ, Host.A0 m c h p d = (r : EReal) := fun h p d => real_of_lt _ (congrFun h0 (ix3 h p d))
  have e1 : ∀ h p d, ∃ r : ℝ, Host.A1 m c h p d = (r : EReal) := fun h p d => real_of_lt _ (congrFun h1 (ix3 h p d))
  have e2 : ∀ h p d, ∃ r : ℝ, Host.A2 m c h p d = (r : EReal) := fun h p d => real_of_lt _ (congrFun h2 (ix3 h p d))
  have e3 : ∀ h p d, ∃ r : ℝ, Host.A3 m c h p d = (r : EReal) := fun h p d => real_of_lt _ (congrFun h3 (ix3 h p d))
  choose q hq using e0
  choose k hk using e1
  choose v hv using e2
  choose g hg using e3
  exact ⟨q, k, v, g, hq, hk, hv, hg⟩

/-- The reference's four results are the contents the kernel's result buffers end with. -/
theorem meet (H : Cert.Pre_KernelIdeal_finite (hPre_finite := preFacts) m) (c : Dev nD) :
    Cert.ReferenceIdeal.Read.val_main_v33 (F := Ideal) (m ((c : Thread nD τ).loc main_arg0)) (m ((c : Thread nD τ).loc main_arg1)) (m ((c : Thread nD τ).loc main_arg2))
        = Gen.W5 m ρ c (Proc.devRef .tc main_v78)
    ∧ Cert.ReferenceIdeal.Read.val_main_v52 (F := Ideal) (m ((c : Thread nD τ).loc main_arg0)) (m ((c : Thread nD τ).loc main_arg1)) (m ((c : Thread nD τ).loc main_arg2)) (m ((c : Thread nD τ).loc main_arg3))
        = Gen.W5 m ρ c (Proc.devRef .tc main_v84)
    ∧ Cert.ReferenceIdeal.Read.val_main_v51 (F := Ideal) (m ((c : Thread nD τ).loc main_arg0)) (m ((c : Thread nD τ).loc main_arg1)) (m ((c : Thread nD τ).loc main_arg2)) (m ((c : Thread nD τ).loc main_arg3))
        = Gen.W5 m ρ c (Proc.devRef .tc main_v90)
    ∧ Cert.ReferenceIdeal.Read.val_main_v35 (F := Ideal) (m ((c : Thread nD τ).loc main_arg0)) (m ((c : Thread nD τ).loc main_arg1)) (m ((c : Thread nD τ).loc main_arg3))
        = Gen.W5 m ρ c (Proc.devRef .tc main_v96) := by
  obtain ⟨q, k, v, g, A⟩ := reals m H c
  have R : Ref.Args (m ((c : Thread nD τ).loc main_arg0)) (m ((c : Thread nD τ).loc main_arg1)) (m ((c : Thread nD τ).loc main_arg2)) (m ((c : Thread nD τ).loc main_arg3)) q k v g :=
    ⟨A.q, A.k, A.v, A.g⟩
  refine ⟨?_, ?_, ?_, ?_⟩
  · funext y; rw [eq_ix3 y]
    exact (Ref.v33_eq R (y 0) (y 1) (y 2)).trans (Ker.resO ρ A (y 0) (y 1) (y 2)).symm
  · funext y; rw [eq_ix3 y]
    exact (Ref.v52_eq R (y 0) (y 1) (y 2)).trans (Ker.resQ ρ A (y 0) (y 1) (y 2)).symm
  · funext y; rw [eq_ix3 y]
    exact (Ref.v51_eq R (y 0) (y 1) (y 2)).trans (Ker.resK ρ A (y 0) (y 1) (y 2)).symm
  · funext y; rw [eq_ix3 y]
    exact (Ref.v35_eq R (y 0) (y 1) (y 2)).trans (Ker.resV ρ A (y 0) (y 1) (y 2)).symm

end Attn
-- ==== Proof.AdamClaim.lean ====
/- The optimiser call: the sum of the eight devices' gradients and one step of AdamW, against the same on whole arrays. -/
module

public import proofs.«01_k».proof.Defs
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import Idealize.ShloMosaic.Lib.Pointwise
public import Idealize.ShloMosaic.Lib.Pipeline.ValueKit

@[expose] public section

set_option maxRecDepth 16384

noncomputable section

namespace Adam

open Idealize.ShloMosaic Idealize.ShloMosaic.TcCoe Idealize.SL.Sem
open Idealize.ShloMosaic.Pipeline (Dat)
open Cert.Kernel2Ideal Cert.Kernel2Ideal.Gen

/-- The new first moment of an entry, from its old one and the summed gradient. -/
def mom (m g : EReal) : EReal := Ideal.ofBits .f32 0x3F666666#32 * m + Ideal.ofBits .f32 0x3DCCCCCD#32 * g

/-- The new second moment of an entry. -/
def vel (v g : EReal) : EReal := Ideal.ofBits .f32 0x3F7FBE77#32 * v + Ideal.ofBits .f32 0x3A83126F#32 * (g * g)

/-- The change of an entry, from its weight and the two new moments. -/
def upd (w m v : EReal) : EReal :=
  Ideal.ofBits .f32 0xBA83126F#32
    * (Ideal.div (Ideal.div m (Ideal.ofBits .f32 0x3F26BD02#32)) (Ideal.sqrt (Ideal.div v (Ideal.ofBits .f32 0x3C231ACC#32)) + Ideal.ofBits .f32 0x322BCC77#32)
      + Ideal.ofBits .f32 0x3C23D70A#32 * w)

section Block
variable (x0 : Vec Ideal S8x512x128 .f32) (x1 x2 x3 : Vec Ideal S512x128 .f32) (a : Fin 512) (b : Fin 128)

/-- One device's part of the block of eight. -/
theorem part (k : Fin 8) {off : Fin 3 → ℕ} (h) (ho : off = ![k.val, 0, 0]) :
    (View.ld (Val := Elt Ideal) x0 (Rect.unit (s := S8x512x128) off S1x512x128.size h) : Vec Ideal S1x512x128 .f32)
      = fun y => x0 (ix3 k (y 1) (y 2)) := by
  subst ho
  funext y
  unfold View.ld
  refine congrArg _ (funext fun i => Fin.ext ?_)
  have h0 : (y 0).val < 1 := (y 0).isLt
  fin_cases i <;> simp [LoadRect.idx, Rect.unit] <;> omega

/-- A whole block of rows. -/
theorem rows (x : Vec Ideal S512x128 .f32) :
    (View.ld (Val := Elt Ideal) x r0_8 : Vec Ideal S512x128 .f32) = fun y => x (ix2 (y 0) (y 1)) := by
  funext y
  unfold View.ld
  refine congrArg _ (funext fun i => Fin.ext ?_)
  fin_cases i <;> simp [LoadRect.idx, Rect.unit]

theorem block_g : out0_4 (F := Ideal) x0 x1 x2 x3 (ix2 a b) = ∑ k : Fin 8, x0 (ix3 k a b) := by
  rw [Fin.sum_univ_eight]
  unfold_out out0_4
  refine (Value.canon4_eq _ _ _ _ _ _ _ _ _).trans ?_
  rw [part x0 0 inb_S8x512x128_S1x512x128_0_0_0 rfl, part x0 1 inb_S8x512x128_S1x512x128_1_0_0 rfl, part x0 2 inb_S8x512x128_S1x512x128_2_0_0 rfl, part x0 3 inb_S8x512x128_S1x512x128_3_0_0 rfl, part x0 4 inb_S8x512x128_S1x512x128_4_0_0 rfl, part x0 5 inb_S8x512x128_S1x512x128_5_0_0 rfl, part x0 6 inb_S8x512x128_S1x512x128_6_0_0 rfl, part x0 7 inb_S8x512x128_S1x512x128_7_0_0 rfl]
  rfl

theorem block_m : out0_6 (F := Ideal) x0 x1 x2 x3 (ix2 a b) = mom (x2 (ix2 a b)) (∑ k : Fin 8, x0 (ix3 k a b)) := by
  rw [Fin.sum_univ_eight]
  unfold_out out0_6
  refine (Value.canon6_eq _ _ _ _ _ _ _ _ _ _).trans ?_
  rw [part x0 0 inb_S8x512x128_S1x512x128_0_0_0 rfl, part x0 1 inb_S8x512x128_S1x512x128_1_0_0 rfl, part x0 2 inb_S8x512x128_S1x512x128_2_0_0 rfl, part x0 3 inb_S8x512x128_S1x512x128_3_0_0 rfl, part x0 4 inb_S8x512x128_S1x512x128_4_0_0 rfl, part x0 5 inb_S8x512x128_S1x512x128_5_0_0 rfl, part x0 6 inb_S8x512x128_S1x512x128_6_0_0 rfl, part x0 7 inb_S8x512x128_S1x512x128_7_0_0 rfl, rows]
  rfl

theorem block_v : out0_7 (F := Ideal) x0 x1 x2 x3 (ix2 a b) = vel (x3 (ix2 a b)) (∑ k : Fin 8, x0 (ix3 k a b)) := by
  rw [Fin.sum_univ_eight]
  unfold_out out0_7
  refine (Value.canon7_eq _ _ _ _ _ _ _ _ _ _).trans ?_
  rw [part x0 0 inb_S8x512x128_S1x512x128_0_0_0 rfl, part x0 1 inb_S8x512x128_S1x512x128_1_0_0 rfl, part x0 2 inb_S8x512x128_S1x512x128_2_0_0 rfl, part x0 3 inb_S8x512x128_S1x512x128_3_0_0 rfl, part x0 4 inb_S8x512x128_S1x512x128_4_0_0 rfl, part x0 5 inb_S8x512x128_S1x512x128_5_0_0 rfl, part x0 6 inb_S8x512x128_S1x512x128_6_0_0 rfl, part x0 7 inb_S8x512x128_S1x512x128_7_0_0 rfl, rows]
  rfl

theorem block_d : out0_5 (F := Ideal) x0 x1 x2 x3 (ix2 a b)
    = upd (x1 (ix2 a b)) (mom (x2 (ix2 a b)) (∑ k : Fin 8, x0 (ix3 k a b))) (vel (x3 (ix2 a b)) (∑ k : Fin 8, x0 (ix3 k a b))) := by
  rw [Fin.sum_univ_eight]
  unfold_out out0_5
  refine (Value.canon5_eq _ _ _ _ _ _ _ _ _ _ _ _).trans ?_
  rw [part x0 0 inb_S8x512x128_S1x512x128_0_0_0 rfl, part x0 1 inb_S8x512x128_S1x512x128_1_0_0 rfl, part x0 2 inb_S8x512x128_S1x512x128_2_0_0 rfl, part x0 3 inb_S8x512x128_S1x512x128_3_0_0 rfl, part x0 4 inb_S8x512x128_S1x512x128_4_0_0 rfl, part x0 5 inb_S8x512x128_S1x512x128_5_0_0 rfl, part x0 6 inb_S8x512x128_S1x512x128_6_0_0 rfl, part x0 7 inb_S8x512x128_S1x512x128_7_0_0 rfl, rows x1, rows x2, rows x3]
  rfl

end Block

/-! ## Whole arrays -/

/-- The summed gradient, entry by entry. -/
def sumG (R : Vec Ideal S8x6144x128 .f32) (r : Fin 6144) (l : Fin 128) : EReal := ∑ k : Fin 8, R (ix3 k r l)

section Ref
open Cert.Reference2Ideal.Read
variable (R : Vec Ideal S8x6144x128 .f32) (w mo ve : Vec Ideal S6144x128 .f32) (r : Fin 6144) (l : Fin 128)

theorem ref_g : val_main_v0 (F := Ideal) R (ix2 r l) = sumG R r l := by
  rw [val_main_v0_apply, val_main_cst_apply]
  refine (congrArg₂ (· + ·) Ideal.ofBits_zero_f32 rfl).trans ((zero_add _).trans (Finset.sum_congr rfl fun k _ => congrArg R (eq_ix3 _)))

theorem ref_m : val_main_v5 (F := Ideal) R mo (ix2 r l) = mom (mo (ix2 r l)) (sumG R r l) := by
  rw [val_main_v5_apply, val_main_v4_apply, val_main_v2_apply, val_main_v1_apply, val_main_v3_apply, ref_g]
  rfl

theorem ref_v : val_main_v11 (F := Ideal) R ve (ix2 r l) = vel (ve (ix2 r l)) (sumG R r l) := by
  rw [val_main_v11_apply, val_main_v10_apply, val_main_v7_apply, val_main_v6_apply, val_main_v9_apply, val_main_v8_apply, ref_g]
  rfl

theorem ref_d : val_main_v24 (F := Ideal) R w mo ve (ix2 r l)
    = upd (w (ix2 r l)) (mom (mo (ix2 r l)) (sumG R r l)) (vel (ve (ix2 r l)) (sumG R r l)) := by
  rw [← ref_m, ← ref_v]
  simp only [val_main_v24_apply, val_main_v23_apply, val_main_v22_apply, val_main_v21_apply, val_main_v20_apply, val_main_v19_apply,
    val_main_v18_apply, val_main_v17_apply, val_main_v16_apply, val_main_v15_apply, val_main_v14_apply, val_main_v13_apply, val_main_v12_apply]
  rfl

end Ref

section Arrays
variable (m : (ℓ : Loc nD τ sig) → Buf (Elt Ideal) ℓ) (c : Dev nD)

/-- The four arguments. -/
def aR : Vec Ideal S8x6144x128 .f32 := m ((c : Thread nD τ).loc main_arg0)
def aW : Vec Ideal S6144x128 .f32 := m ((c : Thread nD τ).loc main_arg1)
def aM : Vec Ideal S6144x128 .f32 := m ((c : Thread nD τ).loc main_arg2)
def aV : Vec Ideal S6144x128 .f32 := m ((c : Thread nD τ).loc main_arg3)

theorem idx0 : ∀ t : Fin cfg0.N, win0_0.index t = ![0, t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] ∧ t.val < 12 :=
  (by decide +kernel : ∀ t : Fin grid0.N, _)

/-- The row of the array that row `a` of the block at point `t` is. -/
def row (t : Fin cfg0.N) (a : Fin 512) : Fin 6144 := ⟨t.val * 512 + a.val, by have := (idx0 t).2.2.2.2.2.2.2.2; omega⟩

theorem blkR (t : Fin cfg0.N) (k : Fin 8) (a : Fin 512) (b : Fin 128) : (iblk m c 0 t : Vec Ideal S8x512x128 .f32) (ix3 k a b) = aR m c (ix3 k (row t a) b) := by
  unfold aR row
  blk_ext [iblk, idx0 t]

theorem blkW (t : Fin cfg0.N) (a : Fin 512) (b : Fin 128) : (iblk m c 1 t : Vec Ideal S512x128 .f32) (ix2 a b) = aW m c (ix2 (row t a) b) := by
  unfold aW row
  blk_ext [iblk, idx0 t]

theorem blkM (t : Fin cfg0.N) (a : Fin 512) (b : Fin 128) : (iblk m c 2 t : Vec Ideal S512x128 .f32) (ix2 a b) = aM m c (ix2 (row t a) b) := by
  unfold aM row
  blk_ext [iblk, idx0 t]

theorem blkV (t : Fin cfg0.N) (a : Fin 512) (b : Fin 128) : (iblk m c 3 t : Vec Ideal S512x128 .f32) (ix2 a b) = aV m c (ix2 (row t a) b) := by
  unfold aV row
  blk_ext [iblk, idx0 t]

/-- The block of the eight parts at point `t`. -/
def iR (t : Fin cfg0.N) : Vec Ideal S8x512x128 .f32 := iblk m c 0 t

theorem sum_blk (t : Fin cfg0.N) (a : Fin 512) (b : Fin 128) :
    ∑ k : Fin 8, iR m c t (ix3 k a b) = sumG (aR m c) (row t a) b :=
  Finset.sum_congr rfl fun k _ => blkR m c t k a b

theorem arr_g : (dats m 0 c).arrAt 4 cfg0.N = Cert.Reference2Ideal.Read.val_main_v0 (F := Ideal) (aR m c) := by
  refine (dats m 0 c).arrAt_eq_of_covers 4 _ (by decide +kernel) fun t hf y => ?_
  blk_simp
  rw [after0_4]
  obtain ⟨a, b, rfl⟩ : ∃ (a : Fin 512) (b : Fin 128), y = ix2 a b := ⟨y 0, y 1, eq_ix2 y⟩
  refine (block_g (iR m c t) _ _ _ a b).trans ?_
  rw [sum_blk, ← ref_g]
  refine congrArg _ ?_
  have e0 : win0_4.index t 0 = t.val := by rw [(idx0 t).2.2.2.2.1]; rfl
  have e1 : win0_4.index t 1 = 0 := by rw [(idx0 t).2.2.2.2.1]; rfl
  blk_ext [row, e0, e1]

theorem arr_m : (dats m 0 c).arrAt 6 cfg0.N = Cert.Reference2Ideal.Read.val_main_v5 (F := Ideal) (aR m c) (aM m c) := by
  refine (dats m 0 c).arrAt_eq_of_covers 6 _ (by decide +kernel) fun t hf y => ?_
  blk_simp
  rw [after0_6]
  obtain ⟨a, b, rfl⟩ : ∃ (a : Fin 512) (b : Fin 128), y = ix2 a b := ⟨y 0, y 1, eq_ix2 y⟩
  refine (block_m (iR m c t) _ _ _ a b).trans ?_
  rw [sum_blk, blkM, ← ref_m]
  refine congrArg _ ?_
  have e0 : win0_6.index t 0 = t.val := by rw [(idx0 t).2.2.2.2.2.2.1]; rfl
  have e1 : win0_6.index t 1 = 0 := by rw [(idx0 t).2.2.2.2.2.2.1]; rfl
  blk_ext [row, e0, e1]

theorem arr_v : (dats m 0 c).arrAt 7 cfg0.N = Cert.Reference2Ideal.Read.val_main_v11 (F := Ideal) (aR m c) (aV m c) := by
  refine (dats m 0 c).arrAt_eq_of_covers 7 _ (by decide +kernel) fun t hf y => ?_
  blk_simp
  rw [after0_7]
  obtain ⟨a, b, rfl⟩ : ∃ (a : Fin 512) (b : Fin 128), y = ix2 a b := ⟨y 0, y 1, eq_ix2 y⟩
  refine (block_v (iR m c t) _ _ _ a b).trans ?_
  rw [sum_blk, blkV, ← ref_v]
  refine congrArg _ ?_
  have e0 : win0_7.index t 0 = t.val := by rw [(idx0 t).2.2.2.2.2.2.2.1]; rfl
  have e1 : win0_7.index t 1 = 0 := by rw [(idx0 t).2.2.2.2.2.2.2.1]; rfl
  blk_ext [row, e0, e1]

theorem arr_d : (dats m 0 c).arrAt 5 cfg0.N = Cert.Reference2Ideal.Read.val_main_v24 (F := Ideal) (aR m c) (aW m c) (aM m c) (aV m c) := by
  refine (dats m 0 c).arrAt_eq_of_covers 5 _ (by decide +kernel) fun t hf y => ?_
  blk_simp
  rw [after0_5]
  obtain ⟨a, b, rfl⟩ : ∃ (a : Fin 512) (b : Fin 128), y = ix2 a b := ⟨y 0, y 1, eq_ix2 y⟩
  refine (block_d (iR m c t) _ _ _ a b).trans ?_
  rw [sum_blk, blkW, blkM, blkV, ← ref_d]
  refine congrArg _ ?_
  have e0 : win0_5.index t 0 = t.val := by rw [(idx0 t).2.2.2.2.2.1]; rfl
  have e1 : win0_5.index t 1 = 0 := by rw [(idx0 t).2.2.2.2.2.1]; rfl
  blk_ext [row, e0, e1]

end Arrays

end Adam
-- ==== Proof.ProjMath.lean ====
/- The gradient of the root-mean-square norm, in the two forms the programs take it, over the extended reals. -/
module

public import Idealize.ShloMosaic.Lib.Pointwise
public import Mathlib.Tactic.FieldSimp
public import Mathlib.Tactic.Ring
public import Idealize.ShloMosaic.PureOps.Ideal

@[expose] public section

noncomputable section

namespace ProjMath

open Idealize.ShloMosaic
open scoped BigOperators

/-- The length of a row, as the programs write it. -/
def len : EReal := Ideal.ofBits .f32 0x44800000#32
/-- The number added to the mean square. -/
def eps : EReal := Ideal.ofBits .f32 0x358637BD#32
/-- Minus one half. -/
def mhalf : EReal := Ideal.ofBits .f32 0xBF000000#32

theorem len_eq : len = ((1024 : ℝ) : EReal) := by
  unfold len
  simp [Ideal.ofBits, Ideal.ieee]
  rw [← EReal.coe_mul]; norm_num
theorem mhalf_eq : mhalf = ((-(1 / 2) : ℝ) : EReal) := by
  unfold mhalf
  simp [Ideal.ofBits, Ideal.ieee]
  rw [← EReal.coe_mul]; norm_num
theorem eps_eq : ∃ t : ℝ, 0 < t ∧ eps = (t : EReal) := by
  unfold eps
  simp [Ideal.ofBits, Ideal.ieee]
  refine ⟨_, ?_, (EReal.coe_mul _ _).symm⟩
  positivity

/-- The mean square of a row, plus the small number. -/
def sq (x : Fin 1024 → EReal) : EReal := Ideal.div (∑ k, x k * x k) len + eps
/-- The factor the norm scales a row by. -/
def rr (x : Fin 1024 → EReal) : EReal := Ideal.rsqrt (sq x)
/-- The kernel's gradient of the row's input. -/
def kdx (x g : Fin 1024 → EReal) (d : EReal) (e : Fin 1024) : EReal :=
  d + rr x * (g e - x e * rr x * Ideal.div (∑ k, g k * (x k * rr x)) len)
/-- The part of the reference's gradient that comes through the factor. -/
def q (x g : Fin 1024 → EReal) : EReal := Ideal.div ((∑ k, x k * g k) * (mhalf * Ideal.div (rr x) (sq x))) len
/-- The reference's gradient of the row's input. -/
def rdx (x g : Fin 1024 → EReal) (d : EReal) (e : Fin 1024) : EReal :=
  d + g e * rr x + x e * q x g + q x g * x e

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem scale_sum (r : ℝ) (hr : 0 ≤ r) {ι : Type} (s : Finset ι) (f : ι → EReal) : ∑ i ∈ s, (r : EReal) * f i = (r : EReal) * ∑ i ∈ s, f i := by
  classical
  induction s using Finset.induction_on with
  | empty => simp
  | insert a s ha ih =>
    rw [Finset.sum_insert ha, Finset.sum_insert ha, ih]
    exact (EReal.left_distrib_of_nonneg_of_ne_top (by exact_mod_cast hr) (EReal.coe_ne_top _) _ _).symm

theorem div_real (x : EReal) (y : ℝ) (h : y ≠ 0) : Ideal.div x (y : EReal) = x * ((y⁻¹ : ℝ) : EReal) := by
  rw [Ideal.div_coe h, one_div]

theorem zero_div' (y : ℝ) (h : y ≠ 0) : Ideal.div 0 (y : EReal) = 0 := by rw [div_real _ _ h, zero_mul]

theorem sq_nonneg (x : EReal) : 0 ≤ x * x := by
  rcases le_total 0 x with h | h
  · exact mul_nonneg h h
  · have := mul_nonneg (EReal.neg_nonneg.mpr h) (EReal.neg_nonneg.mpr h); rwa [neg_mul_neg] at this

theorem inf_case (x : Fin 1024 → EReal) (k : Fin 1024) (h : x k * x k = ⊤) : sq x = ⊤ := by
  have hs : (∑ k, x k * x k) = ⊤ := by
    refine top_le_iff.mp ?_
    rw [← h]
    exact Finset.single_le_sum (f := fun k => x k * x k) (fun i _ => sq_nonneg (x i)) (Finset.mem_univ k)
  obtain ⟨t, ht, he⟩ := eps_eq
  unfold sq
  rw [hs, len_eq, div_real _ _ (by norm_num), EReal.top_mul_coe_of_pos (by norm_num), he]
  exact EReal.top_add_coe t

/-- The two forms of the gradient agree on every row, infinite entries included. -/
theorem kdx_eq (x g : Fin 1024 → EReal) (d : EReal) (e : Fin 1024) : kdx x g d e = rdx x g d e := by
  by_cases hinf : ∃ k, x k * x k = ⊤
  · obtain ⟨k, hk⟩ := hinf
    have hr : rr x = 0 := by unfold rr; rw [inf_case x k hk]; rfl
    have hd : Ideal.div (0 : EReal) ⊤ = 0 := by
      unfold Ideal.div; rw [if_neg (by simp), zero_mul]
    have hq : q x g = 0 := by
      unfold q; rw [hr, inf_case x k hk, hd, mul_zero, mul_zero, len_eq, zero_div' _ (by norm_num)]
    unfold kdx rdx
    rw [hq, hr]
    simp
  · have hx : ∀ k, ∃ a : ℝ, x k = (a : EReal) := fun k => by
      refine ⟨(x k).toReal, (EReal.coe_toReal ?_ ?_).symm⟩
      · intro h; exact hinf ⟨k, by rw [h]; rfl⟩
      · intro h; exact hinf ⟨k, by rw [h]; rfl⟩
    choose a ha using hx
    obtain ⟨t, ht, het⟩ := eps_eq
    obtain ⟨s, hs, hse⟩ : ∃ s : ℝ, 0 < s ∧ sq x = (s : EReal) := by
      refine ⟨(∑ k, a k * a k) * (1024 : ℝ)⁻¹ + t, add_pos_of_nonneg_of_pos (mul_nonneg (Finset.sum_nonneg fun k _ => mul_self_nonneg _) (by norm_num)) ht, ?_⟩
      unfold sq
      rw [len_eq, div_real _ _ (by norm_num), het, EReal.coe_add, EReal.coe_mul, coe_sum]
      simp only [ha, EReal.coe_mul]
    obtain ⟨r, hr, hrr, hre⟩ : ∃ r : ℝ, 0 < r ∧ r * r = s⁻¹ ∧ rr x = (r : EReal) := by
      refine ⟨(Real.sqrt s)⁻¹, inv_pos.mpr (Real.sqrt_pos.mpr hs), ?_, ?_⟩
      · rw [← mul_inv, Real.mul_self_sqrt hs.le]
      · unfold rr; rw [hse, Ideal.rsqrt_coe, if_neg (not_lt.mpr hs.le), if_neg hs.ne']
    set T : EReal := ∑ k, x k * g k with hT
    have hm : (∑ k, g k * (x k * rr x)) = (r : EReal) * T := by
      rw [hT, ← scale_sum r hr.le]
      refine Finset.sum_congr rfl fun k _ => ?_
      rw [hre, mul_comm (g k), mul_comm (x k) (r : EReal), mul_assoc]
    have hq : q x g = ((-(1 / 2) * (r * s⁻¹) * (1024 : ℝ)⁻¹ : ℝ) : EReal) * T := by
      unfold q
      rw [← hT, hre, hse, div_real _ _ hs.ne', len_eq, div_real _ _ (by norm_num), mhalf_eq, EReal.coe_mul, EReal.coe_mul, EReal.coe_mul,
        mul_comm T, mul_assoc, mul_comm T, ← mul_assoc]
    unfold kdx rdx
    rw [hm, hq, hre, ha e, len_eq, div_real _ _ (by norm_num)]
    have h1 : ((a e : ℝ) : EReal) * (r : EReal) * ((r : EReal) * T * (((1024 : ℝ)⁻¹ : ℝ) : EReal)) = ((a e * r * (r * (1024 : ℝ)⁻¹) : ℝ) : EReal) * T := by
      rw [mul_comm ((r : EReal) * T), ← mul_assoc, ← mul_assoc, ← EReal.coe_mul, ← EReal.coe_mul, ← EReal.coe_mul]
      congr 2; ring
    rw [h1, sub_eq_add_neg, EReal.left_distrib_of_nonneg_of_ne_top (by exact_mod_cast hr.le) (EReal.coe_ne_top _)]
    set β : ℝ := a e * (-(1 / 2) * (r * s⁻¹) * (1024 : ℝ)⁻¹) with hβ
    have h2 : ((a e : ℝ) : EReal) * (((-(1 / 2) * (r * s⁻¹) * (1024 : ℝ)⁻¹ : ℝ) : EReal) * T) = (β : EReal) * T := by
      rw [← mul_assoc, ← EReal.coe_mul]
    rw [mul_comm _ ((a e : ℝ) : EReal), h2]
    have h3 : (r : EReal) * -(((a e * r * (r * (1024 : ℝ)⁻¹) : ℝ) : EReal) * T) = ((β + β : ℝ) : EReal) * T := by
      rw [← neg_mul, ← mul_assoc, ← EReal.coe_neg, ← EReal.coe_mul]
      congr 2
      rw [hβ, ← hrr]; ring
    have h4 : ((β + β : ℝ) : EReal) * T = (β : EReal) * T + (β : EReal) * T := by
      have h5 : ((β + β : ℝ) : EReal) = ((1 : ℝ) + (1 : ℝ) : EReal) * (β : EReal) := by
        rw [← EReal.coe_add, ← EReal.coe_mul]; congr 1; ring
      rw [h5, mul_assoc, EReal.right_distrib_of_nonneg (by norm_num) (by norm_num), EReal.coe_one, one_mul]
    rw [h3, h4, mul_comm (g e), add_assoc, add_assoc]

end ProjMath
-- ==== Proof.ProjPay.lean ====
/- What the body of the projection's gradient stores, element by element, at the extended reals. -/
module

public import proofs.«01_k».proof.Proof.Gen.Kernel3Ideal.Skeleton
public import proofs.«01_k».proof.Proof.ProjMath
public import Idealize.ShloMosaic.Lib.Pipeline.Value
public import Idealize.ShloMosaic.PureOps.IdealRules

@[expose] public section

set_option maxRecDepth 16384

noncomputable section

namespace Proj

open Idealize.ShloMosaic Idealize.SL.Sem
open scoped BigOperators

/-- Where the kernel puts column `b` of the projection: the thirty-two columns of the rotary keys go last. -/
def col (b : Fin 1952) : Fin 2048 :=
  ⟨if b.val < 384 then b.val else if b.val < 416 then b.val + 1536 else b.val - 32, by have := b.isLt; split <;> [omega; split <;> omega]⟩

/-- The six parts of a row of the projection's gradient, side by side. -/
def join (ql : Fin 256 → EReal) (kl : Fin 128 → EReal) (kr : Fin 32 → EReal) (ag du sg : Fin 512 → EReal) (b : Fin 1952) : EReal :=
  if h0 : b.val < 256 then ql ⟨b.val, h0⟩
  else if h1 : b.val < 384 then kl ⟨b.val - 256, by omega⟩
  else if h2 : b.val < 416 then kr ⟨b.val - 384, by omega⟩
  else if h3 : b.val < 928 then ag ⟨b.val - 416, by omega⟩
  else if h4 : b.val < 1440 then du ⟨b.val - 928, by omega⟩
  else sg ⟨b.val - 1440, by have := b.isLt; omega⟩

/-- The columns the kernel uses are the first 1952. -/
theorem col_inj : Function.Injective col := by
  intro a b h
  have h' := congrArg Fin.val h
  simp only [col] at h'
  have := a.isLt; have := b.isLt
  refine Fin.ext ?_
  split at h' <;> split at h' <;> (try split at h') <;> (try split at h') <;> omega

theorem col_range (j : Fin 2048) (h : j ∉ Set.range col) : 1952 ≤ j.val := by
  by_contra hc
  refine h ?_
  by_cases h1 : j.val < 384
  · refine ⟨⟨j.val, by omega⟩, Fin.ext ?_⟩
    simp only [col]; rw [if_pos h1]
  · by_cases h2 : j.val < 1920
    · refine ⟨⟨j.val + 32, by omega⟩, Fin.ext ?_⟩
      simp only [col]; rw [if_neg (by omega), if_neg (by omega)]; omega
    · refine ⟨⟨j.val - 1536, by omega⟩, Fin.ext ?_⟩
      simp only [col]; rw [if_neg (by omega), if_pos (by omega)]; omega

/-- A sum over the kernel's columns whose padding terms vanish is the sum over the projection's columns. -/
theorem sum_col (f : Fin 2048 → EReal) (h : ∀ j : Fin 2048, 1952 ≤ j.val → f j = 0) : ∑ j, f j = ∑ b, f (col b) :=
  (Fintype.sum_of_injective col col_inj (fun b => f (col b)) f (fun j hj => h j (col_range j hj)) (fun _ => rfl)).symm

section Body
open Cert.Kernel3Ideal Cert.Kernel3Ideal.Gen

variable (v0 v1 : Vec Ideal S256x512 .f32) (v3 : Vec Ideal S1x512 .f32) (v4 : Vec Ideal S256x512 .f32) (v8 : Vec Ideal S256x256 .f32)
  (v9 : Vec Ideal S256x128 .f32) (v10 v11 : Vec Ideal S256x512 .f32) (v12 : Vec Ideal S256x32 .f32)

/-- Row `a` of the block's projection gradient. -/
def rowP (a : Fin 256) : Fin 1952 → EReal :=
  join (fun d => v8 (ix2 a d)) (fun d => v9 (ix2 a d)) (fun d => v12 (ix2 a d)) (fun d => v10 (ix2 a d))
    (fun d => v0 (ix2 a d) + v1 (ix2 a d) + v3 (ix2 0 d) * v4 (ix2 a d)) (fun d => v11 (ix2 a d))

theorem parts_col (a : Fin 256) (b : Fin 1952) :
    k0_pay1 (F := Ideal) v0 v1 v3 v4 v8 v9 v10 v11 v12 (ix2 a (col b)) = rowP v0 v1 v3 v4 v8 v9 v10 v11 v12 a b := by
  have hb := b.isLt
  unfold k0_pay1 rowP join
  dsimp only
  by_cases h0 : b.val < 256
  · rw [dif_pos h0]
    refine concatenate_apply_piece (t := S256x2048) 1 _ _ _ 0 ?_ S256x256 v8 ?_ rfl 0 ?_ (ix2 a ⟨b.val, h0⟩) (fun d hd => ?_) ?_
    · simp
    · rfl
    · rfl
    · fin_cases d <;> [rfl; exact absurd rfl hd]
    · show 0 + b.val = (col b).val
      simp only [col]; rw [if_pos (by omega)]; omega
  rw [dif_neg h0]
  by_cases h1 : b.val < 384
  · rw [dif_pos h1]
    refine concatenate_apply_piece (t := S256x2048) 1 _ _ _ 1 ?_ S256x128 v9 ?_ rfl 256 ?_ (ix2 a ⟨b.val - 256, by omega⟩) (fun d hd => ?_) ?_
    · simp
    · rfl
    · rfl
    · fin_cases d <;> [rfl; exact absurd rfl hd]
    · show 256 + (b.val - 256) = (col b).val
      simp only [col]; rw [if_pos (by omega)]; omega
  rw [dif_neg h1]
  by_cases h2 : b.val < 416
  · rw [dif_pos h2]
    refine concatenate_apply_piece (t := S256x2048) 1 _ _ _ 5 ?_ S256x32 v12 ?_ rfl 1920 ?_ (ix2 a ⟨b.val - 384, by omega⟩) (fun d hd => ?_) ?_
    · simp
    · rfl
    · rfl
    · fin_cases d <;> [rfl; exact absurd rfl hd]
    · show 1920 + (b.val - 384) = (col b).val
      simp only [col]; rw [if_neg (by omega), if_pos (by omega)]; omega
  rw [dif_neg h2]
  by_cases h3 : b.val < 928
  · rw [dif_pos h3]
    refine concatenate_apply_piece (t := S256x2048) 1 _ _ _ 2 ?_ S256x512 v10 ?_ rfl 384 ?_ (ix2 a ⟨b.val - 416, by omega⟩) (fun d hd => ?_) ?_
    · simp
    · rfl
    · rfl
    · fin_cases d <;> [rfl; exact absurd rfl hd]
    · show 384 + (b.val - 416) = (col b).val
      simp only [col]; rw [if_neg (by omega), if_neg (by omega)]; omega
  rw [dif_neg h3]
  by_cases h4 : b.val < 1440
  · rw [dif_pos h4]
    refine (concatenate_apply_piece (t := S256x2048) 1 _ _ _ 3 ?_ S256x512 (addf (addf v0 v1) (mulf (broadcastTo S256x512 v3 broadcasts_S1x512_S256x512) v4)) ?_ rfl 896 ?_ (ix2 a ⟨b.val - 928, by omega⟩) (fun d hd => ?_) ?_).trans ?_
    · simp
    · rfl
    · rfl
    · fin_cases d <;> [rfl; exact absurd rfl hd]
    · show 896 + (b.val - 928) = (col b).val
      simp only [col]; rw [if_neg (by omega), if_neg (by omega)]; omega
    · pointwise
  · rw [dif_neg h4]
    refine concatenate_apply_piece (t := S256x2048) 1 _ _ _ 4 ?_ S256x512 v11 ?_ rfl 1408 ?_ (ix2 a ⟨b.val - 1440, by omega⟩) (fun d hd => ?_) ?_
    · simp
    · rfl
    · rfl
    · fin_cases d <;> [rfl; exact absurd rfl hd]
    · show 1408 + (b.val - 1440) = (col b).val
      simp only [col]; rw [if_neg (by omega), if_neg (by omega)]; omega

theorem parts_pad (a : Fin 256) (j : Fin 2048) (hj : 1952 ≤ j.val) :
    k0_pay1 (F := Ideal) v0 v1 v3 v4 v8 v9 v10 v11 v12 (ix2 a j) = 0 := by
  have hb := j.isLt
  unfold k0_pay1
  refine (concatenate_apply_piece (t := S256x2048) 1 _ _ _ 6 ?_ S256x96 (broadcast S256x96 (FloatOps.ofBits (F := Ideal) .f32 0x00000000#32)) ?_ rfl 1952 ?_ (ix2 a ⟨j.val - 1952, by omega⟩) (fun d hd => ?_) ?_).trans ?_
  · simp
  · rfl
  · rfl
  · fin_cases d <;> [rfl; exact absurd rfl hd]
  · show 1952 + (j.val - 1952) = j.val
    omega
  · exact Ideal.ofBits_zero_f32

variable (v14 : FVec Ideal S256x2048 .f32) (x : Vec Ideal S256x1024 .f32) (s : FVec Ideal S256x1 .f32) (pw : Vec Ideal S1x1024 .f32)
  (w : Vec Ideal S1024x2048 .bf16) (dout : Vec Ideal S256x1024 .f32)

theorem scale_row (a : Fin 256) : k0_pay2 (F := Ideal) x (ix2 a 0) = ProjMath.rr (fun e => x (ix2 a e)) := by
  unfold ProjMath.rr ProjMath.sq ProjMath.len ProjMath.eps
  pointwise [k0_pay2]

theorem outer (e : Fin 1024) (j : Fin 2048) : k0_pay3 (F := Ideal) v0 v1 v3 v4 v8 v9 v10 v11 v12 x pw (ix2 e j)
    = ∑ k : Fin 256, x (ix2 k e) * k0_pay2 (F := Ideal) x (ix2 k 0) * pw (ix2 0 e) * k0_pay1 (F := Ideal) v0 v1 v3 v4 v8 v9 v10 v11 v12 (ix2 k j) := by
  generalize hP : k0_pay1 (F := Ideal) v0 v1 v3 v4 v8 v9 v10 v11 v12 = P
  generalize hR : k0_pay2 (F := Ideal) x = R
  pointwise [k0_pay3, hP, hR]

theorem back (a : Fin 256) (e : Fin 1024) : k0_pay5 (F := Ideal) v14 w (ix2 a e) = ∑ j : Fin 2048, v14 (ix2 a j) * w (ix2 e j) := by
  pointwise [k0_pay5]

theorem gain (e : Fin 1024) : k0_pay7 (F := Ideal) v14 x s w (ix2 0 e)
    = ∑ k : Fin 256, k0_pay5 (F := Ideal) v14 w (ix2 k e) * (x (ix2 k e) * s (ix2 k 0)) := by
  generalize hB : k0_pay5 (F := Ideal) v14 w = B
  pointwise [k0_pay7, k0_pay6, hB]

theorem inner (a : Fin 256) (e : Fin 1024) : k0_pay9 (F := Ideal) v14 x s pw w dout (ix2 a e)
    = dout (ix2 a e) + s (ix2 a 0) * (k0_pay5 (F := Ideal) v14 w (ix2 a e) * pw (ix2 0 e)
        - x (ix2 a e) * s (ix2 a 0) * Ideal.div (∑ k : Fin 1024, k0_pay5 (F := Ideal) v14 w (ix2 a k) * pw (ix2 0 k) * (x (ix2 a k) * s (ix2 a 0))) ProjMath.len) := by
  unfold ProjMath.len
  generalize hB : k0_pay5 (F := Ideal) v14 w = B
  pointwise [k0_pay9, k0_pay6, hB]

end Body

end Proj
-- ==== Proof.ProjRef.lean ====
/- What the reference's results of the projection's gradient are, element by element. -/
module

public import proofs.«01_k».proof.Proof.Gen.Reference3Ideal.Read
public import proofs.«01_k».proof.Proof.ProjPay

@[expose] public section

set_option maxRecDepth 16384

noncomputable section

namespace Proj

open Idealize.ShloMosaic Idealize.ShloMosaic.TcCoe
open scoped BigOperators

/-- The thirteen arguments, by what they are. -/
structure Args where
  ql : Fin 16640 → Fin 256 → EReal
  kl : Fin 16640 → Fin 128 → EReal
  kr : Fin 16640 → Fin 32 → EReal
  ag : Fin 16640 → Fin 512 → EReal
  uf : Fin 16640 → Fin 512 → EReal
  ub : Fin 16640 → Fin 512 → EReal
  yp : Fin 16640 → Fin 512 → EReal
  sg : Fin 16640 → Fin 512 → EReal
  h : Fin 16640 → Fin 1024 → EReal
  dout : Fin 16640 → Fin 1024 → EReal
  pw : Fin 1024 → EReal
  w : Fin 1024 → Fin 1952 → EReal
  dv : Fin 512 → EReal

namespace Args
variable (A : Args)

/-- Row `r` of the gradient of the projection's result. -/
def row (r : Fin 16640) : Fin 1952 → EReal :=
  join (A.ql r) (A.kl r) (A.kr r) (A.ag r) (fun d => A.uf r d + A.ub r d + A.dv d * A.yp r d) (A.sg r)
/-- The gradient of the norm's result. -/
def dy (r : Fin 16640) (e : Fin 1024) : EReal := ∑ b, A.row r b * A.w e b
/-- The scaled row, before the gain. -/
def xh (r : Fin 16640) (e : Fin 1024) : EReal := A.h r e * ProjMath.rr (A.h r)
/-- The gradient of the projection's weights. -/
def dw (e : Fin 1024) (b : Fin 1952) : EReal := ∑ r, A.xh r e * A.pw e * A.row r b
/-- The gradient of the norm's gain. -/
def dpw (e : Fin 1024) : EReal := ∑ r, A.dy r e * A.xh r e
/-- The gradient of the input. -/
def dh (r : Fin 16640) (e : Fin 1024) : EReal := ProjMath.kdx (A.h r) (fun k => A.dy r k * A.pw k) (A.dout r e) e

end Args

namespace Ref
open Cert.Reference3Ideal Cert.Reference3Ideal.Gen Cert.Reference3Ideal.Read

variable (x0 : Vec Ideal S16640x256 .f32) (x1 : Vec Ideal S16640x128 .f32) (x2 : Vec Ideal S16640x32 .f32)
  (x3 x4 x5 x6 x7 : Vec Ideal S16640x512 .f32) (x8 x9 : Vec Ideal S16640x1024 .f32) (x10 : Vec Ideal S1x1024 .f32)
  (x11 : Vec Ideal S1024x1952 .f32) (x12 : Vec Ideal S1x512 .f32)

/-- The arrays' elements. -/
def args : Args where
  ql r d := x0 (ix2 r d)
  kl r d := x1 (ix2 r d)
  kr r d := x2 (ix2 r d)
  ag r d := x3 (ix2 r d)
  uf r d := x4 (ix2 r d)
  ub r d := x5 (ix2 r d)
  yp r d := x6 (ix2 r d)
  sg r d := x7 (ix2 r d)
  h r d := x8 (ix2 r d)
  dout r d := x9 (ix2 r d)
  pw d := x10 (ix2 0 d)
  w e b := x11 (ix2 e b)
  dv d := x12 (ix2 0 d)

local notation "𝔸" => args x0 x1 x2 x3 x4 x5 x6 x7 x8 x9 x10 x11 x12

theorem v6_eq (r : Fin 16640) : val_main_v6 (F := Ideal) x8 (ix2 r 0) = ProjMath.sq ((𝔸).h r) := by
  rw [val_main_v6_apply, val_main_v4_apply, val_main_v2_apply, val_main_v1_apply, val_main_v3_apply, val_main_v5_apply]
  unfold ProjMath.sq
  refine congrArg (fun z => Ideal.div z ProjMath.len + ProjMath.eps) ?_
  refine (congrArg₂ (· + ·) Ideal.ofBits_zero_f32 rfl).trans ((zero_add _).trans (Finset.sum_congr rfl fun k _ => ?_))
  rw [val_main_v0_apply]
  exact congrArg (fun i => x8 i * x8 i) (eq_ix2 _)

theorem v7_eq (r : Fin 16640) : val_main_v7 (F := Ideal) x8 (ix2 r 0) = ProjMath.rr ((𝔸).h r) := by
  rw [val_main_v7_apply, v6_eq x0 x1 x2 x3 x4 x5 x6 x7 x8 x9 x10 x11 x12]; rfl

theorem v12_eq (r : Fin 16640) (e : Fin 1024) : val_main_v12 (F := Ideal) x8 (ix2 r e) = (𝔸).xh r e := by
  rw [val_main_v12_apply, val_main_v11_apply]
  exact congrArg (x8 (ix2 r e) * ·) ((congrArg _ (eq_ix2 _)).trans (v7_eq x0 x1 x2 x3 x4 x5 x6 x7 x8 x9 x10 x11 x12 r))

theorem v14_eq (r : Fin 16640) (e : Fin 1024) : val_main_v14 (F := Ideal) x8 x10 (ix2 r e) = (𝔸).xh r e * (𝔸).pw e := by
  rw [val_main_v14_apply, val_main_v13_apply, v12_eq x0 x1 x2 x3 x4 x5 x6 x7 x8 x9 x10 x11 x12]
  exact congrArg (_ * ·) (congrArg x10 (eq_ix2 _))

theorem v28_eq (r : Fin 16640) (b : Fin 1952) : val_main_v28 (F := Ideal) x0 x1 x2 x3 x4 x5 x6 x7 x12 (ix2 r b) = (𝔸).row r b := by
  have hb := b.isLt
  unfold Args.row join val_main_v28
  by_cases h0 : b.val < 256
  · rw [dif_pos h0]
    refine concatenate_apply_piece (t := S16640x1952) 1 _ _ _ 0 ?_ S16640x256 x0 ?_ rfl 0 ?_ (ix2 r ⟨b.val, h0⟩) (fun d hd => ?_) ?_
    · simp
    · rfl
    · rfl
    · fin_cases d <;> [rfl; exact absurd rfl hd]
    · show 0 + b.val = b.val; omega
  rw [dif_neg h0]
  by_cases h1 : b.val < 384
  · rw [dif_pos h1]
    refine concatenate_apply_piece (t := S16640x1952) 1 _ _ _ 1 ?_ S16640x128 x1 ?_ rfl 256 ?_ (ix2 r ⟨b.val - 256, by omega⟩) (fun d hd => ?_) ?_
    · simp
    · rfl
    · rfl
    · fin_cases d <;> [rfl; exact absurd rfl hd]
    · show 256 + (b.val - 256) = b.val; omega
  rw [dif_neg h1]
  by_cases h2 : b.val < 416
  · rw [dif_pos h2]
    refine concatenate_apply_piece (t := S16640x1952) 1 _ _ _ 2 ?_ S16640x32 x2 ?_ rfl 384 ?_ (ix2 r ⟨b.val - 384, by omega⟩) (fun d hd => ?_) ?_
    · simp
    · rfl
    · rfl
    · fin_cases d <;> [rfl; exact absurd rfl hd]
    · show 384 + (b.val - 384) = b.val; omega
  rw [dif_neg h2]
  by_cases h3 : b.val < 928
  · rw [dif_pos h3]
    refine concatenate_apply_piece (t := S16640x1952) 1 _ _ _ 3 ?_ S16640x512 x3 ?_ rfl 416 ?_ (ix2 r ⟨b.val - 416, by omega⟩) (fun d hd => ?_) ?_
    · simp
    · rfl
    · rfl
    · fin_cases d <;> [rfl; exact absurd rfl hd]
    · show 416 + (b.val - 416) = b.val; omega
  rw [dif_neg h3]
  by_cases h4 : b.val < 1440
  · rw [dif_pos h4]
    refine (concatenate_apply_piece (t := S16640x1952) 1 _ _ _ 4 ?_ S16640x512 (val_main_v27 (F := Ideal) x4 x5 x6 x12) ?_ rfl 928 ?_ (ix2 r ⟨b.val - 928, by omega⟩) (fun d hd => ?_) ?_).trans ?_
    · simp
    · rfl
    · rfl
    · fin_cases d <;> [rfl; exact absurd rfl hd]
    · show 928 + (b.val - 928) = b.val; omega
    · rw [val_main_v27_apply, val_main_v24_apply, val_main_v26_apply, val_main_v25_apply]
      exact congrArg (fun i => x4 _ + x5 _ + x12 i * x6 _) (eq_ix2 _)
  · rw [dif_neg h4]
    refine concatenate_apply_piece (t := S16640x1952) 1 _ _ _ 5 ?_ S16640x512 x7 ?_ rfl 1440 ?_ (ix2 r ⟨b.val - 1440, by omega⟩) (fun d hd => ?_) ?_
    · simp
    · rfl
    · rfl
    · fin_cases d <;> [rfl; exact absurd rfl hd]
    · show 1440 + (b.val - 1440) = b.val; omega

theorem v30_eq (e : Fin 1024) (b : Fin 1952) : val_main_v30 (F := Ideal) x0 x1 x2 x3 x4 x5 x6 x7 x8 x10 x12 (ix2 e b) = (𝔸).dw e b := by
  rw [val_main_v30_apply, val_main_v29_apply]
  refine Finset.sum_congr rfl fun r _ => ?_
  refine (congrArg₂ (· * ·) ((congrArg _ (eq_ix2 _)).trans (v28_eq x0 x1 x2 x3 x4 x5 x6 x7 x8 x9 x10 x11 x12 r b))
    ((congrArg _ (eq_ix2 _)).trans (v14_eq x0 x1 x2 x3 x4 x5 x6 x7 x8 x9 x10 x11 x12 r e))).trans ?_
  exact mul_comm _ _

theorem v31_eq (r : Fin 16640) (e : Fin 1024) : val_main_v31 (F := Ideal) x0 x1 x2 x3 x4 x5 x6 x7 x11 x12 (ix2 r e) = (𝔸).dy r e := by
  rw [val_main_v31_apply]
  refine Finset.sum_congr rfl fun b _ => ?_
  exact congrArg₂ (· * ·) ((congrArg _ (eq_ix2 _)).trans (v28_eq x0 x1 x2 x3 x4 x5 x6 x7 x8 x9 x10 x11 x12 r b)) (congrArg x11 (eq_ix2 _))

/-- A sum with a zero start. -/
theorem from_zero {z s t : EReal} (hz : z = 0) (hs : s = t) : z + s = t := by rw [hz, hs, zero_add]

theorem v32_eq (r : Fin 16640) (e : Fin 1024) : val_main_v32 (F := Ideal) x0 x1 x2 x3 x4 x5 x6 x7 x8 x11 x12 (ix2 r e) = (𝔸).dy r e * (𝔸).xh r e := by
  rw [val_main_v32_apply, v12_eq x0 x1 x2 x3 x4 x5 x6 x7 x8 x9 x10 x11 x12, v31_eq x0 x1 x2 x3 x4 x5 x6 x7 x8 x9 x10 x11 x12]
  exact mul_comm _ _

theorem v34_eq (e : Fin 1024) : val_main_v34 (F := Ideal) x0 x1 x2 x3 x4 x5 x6 x7 x8 x11 x12 (ix2 0 e) = (𝔸).dpw e := by
  rw [val_main_v34_apply, val_main_v33_apply]
  unfold Args.dpw
  refine from_zero Ideal.ofBits_zero_f32 (Finset.sum_congr rfl fun r _ => ?_)
  rw [← v32_eq]
  refine congrArg _ (funext fun a => ?_)
  fin_cases a
  · rfl
  · exact Fin.ext (by show 0 * 1024 + e.val = e.val; omega)

theorem v36_eq (r : Fin 16640) (e : Fin 1024) : val_main_v36 (F := Ideal) x0 x1 x2 x3 x4 x5 x6 x7 x10 x11 x12 (ix2 r e) = (𝔸).dy r e * (𝔸).pw e := by
  rw [val_main_v36_apply, val_main_v35_apply, v31_eq x0 x1 x2 x3 x4 x5 x6 x7 x8 x9 x10 x11 x12]
  exact congrArg (_ * ·) (congrArg x10 (eq_ix2 _))

theorem v38_eq (r : Fin 16640) : val_main_v38 (F := Ideal) x0 x1 x2 x3 x4 x5 x6 x7 x8 x10 x11 x12 (ix1 r)
    = ∑ k, (𝔸).h r k * ((𝔸).dy r k * (𝔸).pw k) := by
  rw [val_main_v38_apply]
  refine (congrArg₂ (· + ·) Ideal.ofBits_zero_f32 rfl).trans ((zero_add _).trans (Finset.sum_congr rfl fun k _ => ?_))
  rw [val_main_v37_apply]
  exact congrArg₂ (· * ·) (congrArg x8 (eq_ix2 _)) ((congrArg _ (eq_ix2 _)).trans (v36_eq x0 x1 x2 x3 x4 x5 x6 x7 x8 x9 x10 x11 x12 r k))

theorem v46_eq (r : Fin 16640) : val_main_v46 (F := Ideal) x0 x1 x2 x3 x4 x5 x6 x7 x8 x10 x11 x12 (ix1 r)
    = ProjMath.q ((𝔸).h r) (fun k => (𝔸).dy r k * (𝔸).pw k) := by
  have h39 : val_main_v39 (F := Ideal) x0 x1 x2 x3 x4 x5 x6 x7 x8 x10 x11 x12 (ix2 r 0) = ∑ k, (𝔸).h r k * ((𝔸).dy r k * (𝔸).pw k) := by
    rw [val_main_v39_apply, ← v38_eq]
    refine congrArg _ (funext fun a => ?_)
    fin_cases a
    exact Fin.ext (by show r.val * 1 + 0 = r.val; omega)
  have h45 : val_main_v45 (F := Ideal) x0 x1 x2 x3 x4 x5 x6 x7 x8 x10 x11 x12 (ix2 r 0) = ProjMath.q ((𝔸).h r) (fun k => (𝔸).dy r k * (𝔸).pw k) := by
    rw [val_main_v45_apply, val_main_v43_apply, val_main_v44_apply, val_main_v10_apply, val_main_v9_apply, val_main_v8_apply,
      v7_eq x0 x1 x2 x3 x4 x5 x6 x7 x8 x9 x10 x11 x12, v6_eq x0 x1 x2 x3 x4 x5 x6 x7 x8 x9 x10 x11 x12, h39]
    rfl
  rw [val_main_v46_apply]
  refine from_zero Ideal.ofBits_zero_f32 ((Fin.sum_univ_one _).trans ?_)
  rw [← h45]
  exact congrArg _ (eq_ix2 _)

theorem v51_eq (r : Fin 16640) (e : Fin 1024) : val_main_v51 (F := Ideal) x0 x1 x2 x3 x4 x5 x6 x7 x8 x9 x10 x11 x12 (ix2 r e) = (𝔸).dh r e := by
  have hq : val_main_v47 (F := Ideal) x0 x1 x2 x3 x4 x5 x6 x7 x8 x10 x11 x12 (ix2 r e) = ProjMath.q ((𝔸).h r) (fun k => (𝔸).dy r k * (𝔸).pw k) := by
    rw [val_main_v47_apply]
    exact (congrArg _ (eq_ix1 _)).trans (v46_eq x0 x1 x2 x3 x4 x5 x6 x7 x8 x9 x10 x11 x12 r)
  have h40 : val_main_v40 (F := Ideal) x8 (ix2 r e) = ProjMath.rr ((𝔸).h r) := by
    rw [val_main_v40_apply]
    exact (congrArg _ (eq_ix2 _)).trans (v7_eq x0 x1 x2 x3 x4 x5 x6 x7 x8 x9 x10 x11 x12 r)
  unfold Args.dh
  rw [ProjMath.kdx_eq, val_main_v51_apply, val_main_v49_apply, val_main_v50_apply, val_main_v42_apply, val_main_v48_apply, val_main_v41_apply, hq, h40,
    v36_eq x0 x1 x2 x3 x4 x5 x6 x7 x8 x9 x10 x11 x12]
  rfl

end Ref

end Proj
-- ==== Proof.ProjHost.lean ====
/- What the host lines around the projection's gradient leave, element by element. -/
module

public import proofs.«01_k».proof.Proof.Gen.Kernel3Ideal.Frame
public import proofs.«01_k».proof.Proof.ProjPay
public import Idealize.ShloMosaic.Lib.StableHlo.ReadAt
public import Idealize.ShloMosaic.PureOps.IdealRules

@[expose] public section

set_option maxRecDepth 16384

noncomputable section

namespace Proj

open Idealize.ShloMosaic Idealize.ShloMosaic.TcCoe Idealize.SL.Sem
open Cert.Kernel3Ideal Cert.Kernel3Ideal.Gen

variable (m : (ℓ : Loc nD τ sig) → Buf (Elt Ideal) ℓ) (c : Dev nD)

/-- The weights' columns, in the kernel's order. -/
theorem weights (e : Fin 1024) (b : Fin 1952) :
    (V m c main_v6 (ix2 e (col b)) : EReal) = (m ((c : Thread nD τ).loc main_arg11) (ix2 e b) : EReal) := by
  have hb := b.isLt
  unfold V V0
  by_cases h0 : b.val < 384
  · have hc : col b = ⟨b.val, by omega⟩ := Fin.ext (by simp only [col]; rw [if_pos h0])
    rw [hc]
    after_reads_at
    after_reads_at
    refine (dif_pos (by omega)).trans ?_
    after_reads_at
  · by_cases h1 : b.val < 416
    · have hc : col b = ⟨b.val + 1536, by omega⟩ := Fin.ext (by simp only [col]; rw [if_neg h0, if_pos h1])
      rw [hc]
      after_reads_at
      after_reads_at
      refine (dif_pos (by omega)).trans ((dif_neg (by omega)).trans ((dif_neg (by omega)).trans ?_))
      after_reads_at
      exact congrArg (fun i => (m ((c : Thread nD τ).loc main_arg11) (ix2 e i) : EReal)) (Fin.ext (by dsimp only; omega))
    · have hc : col b = ⟨b.val - 32, by omega⟩ := Fin.ext (by simp only [col]; rw [if_neg h0, if_neg h1])
      rw [hc]
      after_reads_at
      after_reads_at
      refine (dif_pos (by omega)).trans ((dif_neg (by omega)).trans ((dif_pos (by omega)).trans ?_))
      after_reads_at
      exact congrArg (fun i => (m ((c : Thread nD τ).loc main_arg11) (ix2 e i) : EReal)) (Fin.ext (by dsimp only; omega))

/-- The second result's columns, in the projection's order. -/
theorem columns (dats : (p : Fin 1) → (c : Dev nD) → Pipeline.Dat τ (Elt Ideal) Unit ℕ (UR sig nD τ) ℕ (cfgs p) c) (e : Fin 1024) (b : Fin 1952) :
    (Pipeline.afterTail₀ cfgs dats 0 (V0 m) [hostOps1] c main_v12 (ix2 e b) : EReal) = ((dats 0 c).arrAt 14 cfg0.N (ix2 e (col b)) : EReal) := by
  have hb := b.isLt
  have hA : Pipeline.withArrays (cfgs 0).spec c (V0 m c) (fun w => (dats 0 c).arrAt w (cfgs 0).N) (Proc.tc.devRef main_v7_1) = (dats 0 c).arrAt 14 cfg0.N :=
    Pipeline.withArrays_arr_shared (cfgs 0).spec c (V0 m c) _ (fun w w' hne he => absurd he (by revert w w'; decide)) 14
  unfold Pipeline.afterTail₀
  by_cases h0 : b.val < 384
  · have hc : col b = ⟨b.val, by omega⟩ := Fin.ext (by simp only [col]; rw [if_pos h0])
    rw [hc]
    after_reads_at
    refine (dif_pos (by omega)).trans ?_
    after_reads_at
    exact congrFun hA _
  · by_cases h1 : b.val < 416
    · have hc : col b = ⟨b.val + 1536, by omega⟩ := Fin.ext (by simp only [col]; rw [if_neg h0, if_pos h1])
      rw [hc]
      after_reads_at
      refine (dif_neg (by omega)).trans ((dif_pos (by omega)).trans ?_)
      after_reads_at
      exact (congrFun hA _).trans (congrArg (fun i => ((dats 0 c).arrAt 14 cfg0.N (ix2 e i) : EReal)) (Fin.ext (by dsimp only; omega)))
    · have hc : col b = ⟨b.val - 32, by omega⟩ := Fin.ext (by simp only [col]; rw [if_neg h0, if_neg h1])
      rw [hc]
      after_reads_at
      refine (dif_neg (by omega)).trans ((dif_neg (by omega)).trans ?_)
      after_reads_at
      exact (congrFun hA _).trans (congrArg (fun i => ((dats 0 c).arrAt 14 cfg0.N (ix2 e i) : EReal)) (Fin.ext (by dsimp only; omega)))

end Proj
-- ==== Proof.ProjArr.lean ====
/- What the projection's gradient leaves in its three result arrays, point by point and whole. -/
module

public import proofs.«01_k».proof.Proof.Gen.Kernel3Ideal.Frame
public import proofs.«01_k».proof.Proof.ProjPay
public import proofs.«01_k».proof.Proof.ProjRef
public import proofs.«01_k».proof.Proof.ProjHost
public import Idealize.ShloMosaic.Lib.Pointwise
public import Idealize.ShloMosaic.Lib.Pipeline.ValueKit

@[expose] public section

set_option maxRecDepth 16384

noncomputable section

namespace Proj

open Idealize.ShloMosaic Idealize.ShloMosaic.TcCoe Idealize.SL.Sem
open Idealize.ShloMosaic.Pipeline (Dat)
open Cert.Kernel3Ideal Cert.Kernel3Ideal.Gen
open scoped BigOperators

/-- Running totals that start at the first term and take each next term on the right are the sums so far. -/
theorem running {N : ℕ} (f g : (n : ℕ) → n < N → EReal) (h0 : ∀ h, f 0 h = g 0 h)
    (hs : ∀ n h, f (n + 1) h = f n (Nat.lt_of_succ_lt h) + g (n + 1) h) :
    ∀ n (h : n < N), f n h = ∑ k : Fin (n + 1), g k.val (lt_of_le_of_lt (Nat.le_of_lt_succ k.isLt) h)
  | 0, h => by rw [h0, Fin.sum_univ_one]; rfl
  | n + 1, h => by
    rw [hs, running f g h0 hs n]
    exact (Fin.sum_univ_castSucc (n := n + 1) (fun k => g k.val (lt_of_le_of_lt (Nat.le_of_lt_succ k.isLt) h))).symm

/-- The row of the whole array that row `a` of block `t` is. -/
def rowOf (t : Fin 65) (a : Fin 256) : Fin 16640 := ⟨t.val * 256 + a.val, by omega⟩

/-- A sum over blocks and rows of blocks is the sum over all rows. -/
theorem sum_rows (f : Fin 16640 → EReal) : ∑ t : Fin 65, ∑ a : Fin 256, f (rowOf t a) = ∑ r, f r := by
  rw [← Fintype.sum_prod_type']
  refine Fintype.sum_equiv (finProdFinEquiv (m := 65) (n := 256)) _ (fun r : Fin 16640 => f r) fun p => congrArg f (Fin.ext ?_)
  show p.1.val * 256 + p.2.val = p.2.val + 256 * p.1.val
  omega

variable (m : (ℓ : Loc nD τ sig) → Buf (Elt Ideal) ℓ) (c : Dev nD)

/-- The arguments. -/
def a0 : Vec Ideal S16640x256 .f32 := m ((c : Thread nD τ).loc main_arg0)
def a1 : Vec Ideal S16640x128 .f32 := m ((c : Thread nD τ).loc main_arg1)
def a2 : Vec Ideal S16640x32 .f32 := m ((c : Thread nD τ).loc main_arg2)
def a3 : Vec Ideal S16640x512 .f32 := m ((c : Thread nD τ).loc main_arg3)
def a4 : Vec Ideal S16640x512 .f32 := m ((c : Thread nD τ).loc main_arg4)
def a5 : Vec Ideal S16640x512 .f32 := m ((c : Thread nD τ).loc main_arg5)
def a6 : Vec Ideal S16640x512 .f32 := m ((c : Thread nD τ).loc main_arg6)
def a7 : Vec Ideal S16640x512 .f32 := m ((c : Thread nD τ).loc main_arg7)
def a8 : Vec Ideal S16640x1024 .f32 := m ((c : Thread nD τ).loc main_arg8)
def a9 : Vec Ideal S16640x1024 .f32 := m ((c : Thread nD τ).loc main_arg9)
def a10 : Vec Ideal S1x1024 .f32 := m ((c : Thread nD τ).loc main_arg10)
def a11 : Vec Ideal S1024x1952 .f32 := m ((c : Thread nD τ).loc main_arg11)
def a12 : Vec Ideal S1x512 .f32 := m ((c : Thread nD τ).loc main_arg12)

/-- The arguments' elements. -/
def kargs : Args :=
  Ref.args (a0 m c) (a1 m c) (a2 m c) (a3 m c) (a4 m c) (a5 m c) (a6 m c) (a7 m c) (a8 m c) (a9 m c) (a10 m c) (a11 m c) (a12 m c)

section Blocks
variable (t : Fin cfg0.N)
/-- The blocks at a point. -/
def i0 : Vec Ideal S256x256 .f32 := iblk m c 0 t
def i1 : Vec Ideal S256x128 .f32 := iblk m c 1 t
def i2 : Vec Ideal S256x512 .f32 := iblk m c 2 t
def i3 : Vec Ideal S256x512 .f32 := iblk m c 3 t
def i4 : Vec Ideal S256x512 .f32 := iblk m c 4 t
def i5 : Vec Ideal S256x512 .f32 := iblk m c 5 t
def i6 : Vec Ideal S256x512 .f32 := iblk m c 6 t
def i7 : Vec Ideal S256x32 .f32 := iblk m c 7 t
def i8 : Vec Ideal S256x1024 .f32 := iblk m c 8 t
def i9 : Vec Ideal S256x1024 .f32 := iblk m c 9 t
def i10 : Vec Ideal S1x1024 .f32 := iblk m c 10 t
def i11 : Vec Ideal S1024x2048 .bf16 := iblk m c 11 t
def i12 : Vec Ideal S1x512 .f32 := iblk m c 12 t

/-- The gathered gradient of the block, and its norm's scales. -/
def bP : FVec Ideal S256x2048 .f32 := k0_pay1 (i3 m c t) (i4 m c t) (i12 m c t) (i5 m c t) (i0 m c t) (i1 m c t) (i2 m c t) (i6 m c t) (i7 m c t)
def bS : FVec Ideal S256x1 .f32 := k0_pay2 (i8 m c t)
/-- What the point adds to the three results. -/
def o13 : Vec Ideal S256x1024 .f32 := k0_pay9 (bP m c t) (i8 m c t) (bS m c t) (i10 m c t) (i11 m c t) (i9 m c t)
def o14 : Vec Ideal S1024x2048 .f32 := k0_pay3 (i3 m c t) (i4 m c t) (i12 m c t) (i5 m c t) (i0 m c t) (i1 m c t) (i2 m c t) (i6 m c t) (i7 m c t) (i8 m c t) (i10 m c t)
def o15 : Vec Ideal S1x1024 .f32 := k0_pay7 (bP m c t) (i8 m c t) (bS m c t) (i11 m c t)

theorem out_A (h : t.val % 65 = 0) (h' : ¬ 1 ≤ t.val) : outsAt0 m c t.val t.isLt = (o13 m c t, o14 m c t, o15 m c t) := by
  rw [outsAt0_A m c t h h' h h']
  frame_out
  rfl

theorem out_B (h : ¬ t.val % 65 = 0) (h' : 1 ≤ t.val) : outsAt0 m c t.val t.isLt
    = (o13 m c t, k0_pay4 (o14 m c t) (outsAt0 m c (t.val - 1) (Nat.lt_of_le_of_lt (Nat.sub_le _ _) t.isLt)).2.1,
        k0_pay8 (bP m c t) (i8 m c t) (bS m c t) (i11 m c t) (outsAt0 m c (t.val - 1) (Nat.lt_of_le_of_lt (Nat.sub_le _ _) t.isLt)).2.2) := by
  rw [outsAt0_B m c t h h' h h']
  frame_out
  rfl

theorem add14 (p q : Vec Ideal S1024x2048 .f32) (i : S1024x2048.Idx) : k0_pay4 (F := Ideal) p q i = q i + p i := by
  unfold k0_pay4; rw [shapeCast_self]; rfl

theorem add15 (p : FVec Ideal S256x2048 .f32) (x : Vec Ideal S256x1024 .f32) (s : FVec Ideal S256x1 .f32) (w : Vec Ideal S1024x2048 .bf16)
    (q : Vec Ideal S1x1024 .f32) (i : S1x1024.Idx) : k0_pay8 (F := Ideal) p x s w q i = q i + k0_pay7 (F := Ideal) p x s w i := by
  unfold k0_pay8; rw [shapeCast_self]; rfl

end Blocks

theorem points : cfg0.N = 65 := N_0

/-- The first result's block at each point. -/
theorem outs13 (t : Fin cfg0.N) : (outsAt0 m c t.val t.isLt).1 = o13 m c t := by
  have h65 := lt_of_lt_of_eq t.isLt points
  by_cases h : t.val = 0
  · rw [out_A m c t (by omega) (by omega)]
  · rw [out_B m c t (by omega) (by omega)]

/-- The second result's block after each point. -/
theorem outs14 (i : S1024x2048.Idx) (n : ℕ) (hn : n < cfg0.N) :
    (outsAt0 m c n hn).2.1 i = ∑ k : Fin (n + 1), o14 m c ⟨k.val, lt_of_le_of_lt (Nat.le_of_lt_succ k.isLt) hn⟩ i := by
  refine running (fun n h => (outsAt0 m c n h).2.1 i) (fun n h => o14 m c ⟨n, h⟩ i) (fun h => ?_) (fun n h => ?_) n hn
  · rw [out_A m c ⟨0, h⟩ rfl (by simp)]
  · have h65 := lt_of_lt_of_eq h points
    rw [out_B m c ⟨n + 1, h⟩ (by show ¬ (n + 1) % 65 = 0; omega) (by show 1 ≤ n + 1; omega)]
    exact add14 _ _ i

/-- The third result's block after each point. -/
theorem outs15 (i : S1x1024.Idx) (n : ℕ) (hn : n < cfg0.N) :
    (outsAt0 m c n hn).2.2 i = ∑ k : Fin (n + 1), o15 m c ⟨k.val, lt_of_le_of_lt (Nat.le_of_lt_succ k.isLt) hn⟩ i := by
  refine running (fun n h => (outsAt0 m c n h).2.2 i) (fun n h => o15 m c ⟨n, h⟩ i) (fun h => ?_) (fun n h => ?_) n hn
  · rw [out_A m c ⟨0, h⟩ rfl (by simp)]
  · have h65 := lt_of_lt_of_eq h points
    rw [out_B m c ⟨n + 1, h⟩ (by show ¬ (n + 1) % 65 = 0; omega) (by show 1 ≤ n + 1; omega)]
    exact add15 _ _ _ _ _ i

/-! ## The blocks' elements, out of the arrays -/

theorem idxs : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] ∧ win0_8.index t = ![t.val, 0] ∧ win0_9.index t = ![t.val, 0] ∧ win0_10.index t = ![0, 0]
    ∧ win0_11.index t = ![0, 0] ∧ win0_12.index t = ![0, 0] ∧ win0_13.index t = ![t.val, 0] ∧ win0_14.index t = ![0, 0]
    ∧ win0_15.index t = ![0, 0] :=
  (by decide +kernel : ∀ t : Fin grid0.N, _)

/-- The row of the array that row `a` of the block at point `t` is. -/
def rowAt (t : Fin cfg0.N) (a : Fin 256) : Fin 16640 := ⟨t.val * 256 + a.val, by have := lt_of_lt_of_eq t.isLt points; omega⟩

section Elements
variable (t : Fin cfg0.N) (a : Fin 256)

theorem e0 (b : Fin 256) : i0 m c t (ix2 a b) = a0 m c (ix2 (rowAt t a) b) := by
  unfold a0; rw [← V_main_arg0 m c]; unfold i0 rowAt; blk_ext [iblk, idxs t]
theorem e1 (b : Fin 128) : i1 m c t (ix2 a b) = a1 m c (ix2 (rowAt t a) b) := by
  unfold a1; rw [← V_main_arg1 m c]; unfold i1 rowAt; blk_ext [iblk, idxs t]
theorem e2 (b : Fin 512) : i2 m c t (ix2 a b) = a3 m c (ix2 (rowAt t a) b) := by
  unfold a3; rw [← V_main_arg3 m c]; unfold i2 rowAt; blk_ext [iblk, idxs t]
theorem e3 (b : Fin 512) : i3 m c t (ix2 a b) = a4 m c (ix2 (rowAt t a) b) := by
  unfold a4; rw [← V_main_arg4 m c]; unfold i3 rowAt; blk_ext [iblk, idxs t]
theorem e4 (b : Fin 512) : i4 m c t (ix2 a b) = a5 m c (ix2 (rowAt t a) b) := by
  unfold a5; rw [← V_main_arg5 m c]; unfold i4 rowAt; blk_ext [iblk, idxs t]
theorem e5 (b : Fin 512) : i5 m c t (ix2 a b) = a6 m c (ix2 (rowAt t a) b) := by
  unfold a6; rw [← V_main_arg6 m c]; unfold i5 rowAt; blk_ext [iblk, idxs t]
theorem e6 (b : Fin 512) : i6 m c t (ix2 a b) = a7 m c (ix2 (rowAt t a) b) := by
  unfold a7; rw [← V_main_arg7 m c]; unfold i6 rowAt; blk_ext [iblk, idxs t]
theorem e7 (b : Fin 32) : i7 m c t (ix2 a b) = a2 m c (ix2 (rowAt t a) b) := by
  unfold a2; rw [← V_main_arg2 m c]; unfold i7 rowAt; blk_ext [iblk, idxs t]
theorem e8 (b : Fin 1024) : i8 m c t (ix2 a b) = a8 m c (ix2 (rowAt t a) b) := by
  unfold a8; rw [← V_main_arg8 m c]; unfold i8 rowAt; blk_ext [iblk, idxs t]
theorem e9 (b : Fin 1024) : i9 m c t (ix2 a b) = a9 m c (ix2 (rowAt t a) b) := by
  unfold a9; rw [← V_main_arg9 m c]; unfold i9 rowAt; blk_ext [iblk, idxs t]
theorem e10 (b : Fin 1024) : i10 m c t (ix2 0 b) = a10 m c (ix2 0 b) := by
  unfold a10; rw [← V_main_arg10 m c]; unfold i10; blk_ext [iblk, idxs t]
theorem e11 (e : Fin 1024) (j : Fin 2048) : i11 m c t (ix2 e j) = (V m c main_v6 : Vec Ideal S1024x2048 .bf16) (ix2 e j) := by
  unfold i11; blk_ext [iblk, idxs t]
theorem e12 (b : Fin 512) : i12 m c t (ix2 0 b) = a12 m c (ix2 0 b) := by
  unfold a12; rw [← V_main_arg12 m c]; unfold i12; blk_ext [iblk, idxs t]

/-! ## What a point adds, in terms of the arguments -/

theorem gathered (b : Fin 1952) : bP m c t (ix2 a (col b)) = (kargs m c).row (rowAt t a) b := by
  unfold bP
  rw [parts_col]
  unfold rowP Args.row
  simp only [e0, e1, e2, e3, e4, e5, e6, e7, e12]
  rfl

theorem scales : bS m c t (ix2 a 0) = ProjMath.rr ((kargs m c).h (rowAt t a)) := by
  unfold bS
  rw [scale_row]
  simp only [e8]
  rfl

theorem weights' (e : Fin 1024) (b : Fin 1952) : i11 m c t (ix2 e (col b)) = (kargs m c).w e b := by
  rw [e11]
  exact weights m c e b

theorem backs (e : Fin 1024) : k0_pay5 (F := Ideal) (bP m c t) (i11 m c t) (ix2 a e) = (kargs m c).dy (rowAt t a) e := by
  rw [back]
  unfold Args.dy
  rw [sum_col]
  · refine Finset.sum_congr rfl fun b _ => ?_
    rw [gathered, weights']
  · intro j hj
    unfold bP
    rw [parts_pad _ _ _ _ _ _ _ _ _ _ _ hj, zero_mul]

theorem add_13 (e : Fin 1024) : o13 m c t (ix2 a e) = (kargs m c).dh (rowAt t a) e := by
  unfold o13 Args.dh ProjMath.kdx
  rw [inner]
  simp only [backs, scales, e8, e9, e10]
  rfl

theorem add_14 (e : Fin 1024) (b : Fin 1952) : o14 m c t (ix2 e (col b))
    = ∑ k : Fin 256, (kargs m c).xh (rowAt t k) e * (kargs m c).pw e * (kargs m c).row (rowAt t k) b := by
  unfold o14
  rw [outer]
  refine Finset.sum_congr rfl fun k _ => ?_
  have h1 := scales m c t k
  have h2 := gathered m c t k b
  unfold bS at h1
  unfold bP at h2
  rw [h1, h2, e8, e10]
  rfl

theorem add_15 (e : Fin 1024) : o15 m c t (ix2 0 e) = ∑ k : Fin 256, (kargs m c).dy (rowAt t k) e * (kargs m c).xh (rowAt t k) e := by
  unfold o15
  rw [gain]
  refine Finset.sum_congr rfl fun k _ => ?_
  rw [backs, scales, e8]
  rfl

end Elements

/-! ## The three arrays after the run -/

/-- The last point. -/
abbrev lastPt : Fin cfg0.N := ⟨64, lt_of_lt_of_eq (by omega) points.symm⟩

/-- The first result, whole. -/
def r13 : Vec Ideal S16640x1024 .f32 := fun i => (kargs m c).dh (i 0) (i 1)
/-- The second result, in the kernel's columns. -/
def r14 : Vec Ideal S1024x2048 .f32 := fun i => ∑ t : Fin 65, o14 m c (t.cast points.symm) i
/-- The third result, whole. -/
def r15 : Vec Ideal S1x1024 .f32 := fun i => (kargs m c).dpw (i 1)

theorem arr13 : (dats m 0 c).arrAt 13 cfg0.N = r13 m c := by
  refine (dats m 0 c).arrAt_eq_of_covers 13 _ (by decide +kernel) fun t hf y => ?_
  blk_simp
  rw [after0_13, outs13]
  obtain ⟨a, b, rfl⟩ : ∃ (a : Fin 256) (b : Fin 1024), y = ix2 a b := ⟨y 0, y 1, eq_ix2 y⟩
  refine (add_13 m c t a b).trans ?_
  show r13 m c (ix2 (rowAt t a) b) = _
  refine congrArg _ ?_
  have h0 : win0_13.index t 0 = t.val := by rw [(idxs t).2.2.2.2.2.2.2.2.2.2.2.2.2.1]; rfl
  have h1 : win0_13.index t 1 = 0 := by rw [(idxs t).2.2.2.2.2.2.2.2.2.2.2.2.2.1]; rfl
  blk_ext [rowAt, h0, h1]

theorem arr14 : (dats m 0 c).arrAt 14 cfg0.N = r14 m c := by
  refine (dats m 0 c).arrAt_eq_of_covers 14 _ (by decide +kernel) fun t hf y => ?_
  have h64 := (flush0_14 t).mp hf
  have h65 := lt_of_lt_of_eq t.isLt points
  obtain rfl : t = lastPt := Fin.ext (by show t.val = 64; omega)
  blk_simp
  rw [after0_14]
  obtain ⟨a, b, rfl⟩ : ∃ (a : Fin 1024) (b : Fin 2048), y = ix2 a b := ⟨y 0, y 1, eq_ix2 y⟩
  refine (outs14 m c (ix2 a b) 64 _).trans ?_
  show r14 m c (ix2 a b) = _
  refine congrArg _ ?_
  blk_ext [idxs lastPt]

theorem arr15 : (dats m 0 c).arrAt 15 cfg0.N = r15 m c := by
  refine (dats m 0 c).arrAt_eq_of_covers 15 _ (by decide +kernel) fun t hf y => ?_
  have h64 := (flush0_15 t).mp hf
  have h65 := lt_of_lt_of_eq t.isLt points
  obtain rfl : t = lastPt := Fin.ext (by show t.val = 64; omega)
  blk_simp
  rw [after0_15]
  obtain ⟨b, rfl⟩ : ∃ b : Fin 1024, y = ix2 0 b := ⟨y 1, (eq_ix2 y).trans (congrArg (ix2 · (y 1)) (Subsingleton.elim _ _))⟩
  refine (outs15 m c (ix2 0 b) 64 _).trans ?_
  trans r15 m c (ix2 0 b)
  · show _ = (kargs m c).dpw b
    unfold Args.dpw
    rw [← sum_rows]
    refine Finset.sum_congr rfl fun k _ => ?_
    rw [add_15]
    rfl
  · refine congrArg _ ?_
    blk_ext [idxs lastPt]

/-- The second result in the projection's own columns. -/
theorem cols14 (e : Fin 1024) (b : Fin 1952) : r14 m c (ix2 e (col b)) = (kargs m c).dw e b := by
  show ∑ t : Fin 65, _ = _
  unfold Args.dw
  rw [← sum_rows]
  refine Finset.sum_congr rfl fun t _ => ?_
  rw [add_14]
  rfl

end Proj
-- ==== Proof.ProjClaim.lean ====
/- The gradient of the input projection. -/
module

public import proofs.«01_k».proof.Defs
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Reference3Ideal.Read
public import proofs.«01_k».proof.Proof.ProjArr
public import Idealize.ShloMosaic.Lib.Claim

@[expose] public section

set_option maxRecDepth 16384

noncomputable section

namespace Proj

open Idealize.ShloMosaic Idealize.ShloMosaic.TcCoe Idealize.SL.Sem
open Cert.Kernel3Ideal Cert.Kernel3Ideal.Gen

variable (m : (ℓ : Loc nD τ sig) → Buf (Elt Ideal) ℓ) (g : Dev nD → PrngReg) (c : Dev nD)

/-- The weights' gradient as the host lines leave it. -/
def r12 : Vec Ideal S1024x1952 .f32 := Pipeline.afterTail₀ cfgs (dats m) 0 (V0 m) [hostOps1] c main_v12

theorem r12_eq (e : Fin 1024) (b : Fin 1952) : r12 m c (ix2 e b) = (kargs m c).dw e b := by
  refine (columns m c (dats m) e b).trans ?_
  rw [arr14]
  exact cols14 m c e b

/-- What the kernel's run leaves. -/
theorem run_values : θ_run (defs (F := Ideal)) (onTc (τ := τ) (main (F := Ideal))) ⟨m, fun _ => 0, g⟩ (fun r => ∀ c : Dev nD,
      r.2.mem ((c.tc : Thread nD τ).loc main_v7_0) = r13 m c
      ∧ r.2.mem ((c.tc : Thread nD τ).loc main_v7_2) = r15 m c
      ∧ r.2.mem ((c.tc : Thread nD τ).loc main_v12) = r12 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => ⟨((h c).1 13).trans (arr13 m c), ((h c).1 15).trans (arr15 m c),
      (h c).2 main_v12 (Pipeline.mem_restRefs_of main_v12 (by decide) (by decide)),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 7).trans (((dats m 0 c).arrAt_in 7 rfl _).trans ((A_eq m c 7).trans (V_main_arg2 m c))),
      ((h c).1 2).trans (((dats m 0 c).arrAt_in 2 rfl _).trans ((A_eq m c 2).trans (V_main_arg3 m c))),
      ((h c).1 3).trans (((dats m 0 c).arrAt_in 3 rfl _).trans ((A_eq m c 3).trans (V_main_arg4 m c))),
      ((h c).1 4).trans (((dats m 0 c).arrAt_in 4 rfl _).trans ((A_eq m c 4).trans (V_main_arg5 m c))),
      ((h c).1 5).trans (((dats m 0 c).arrAt_in 5 rfl _).trans ((A_eq m c 5).trans (V_main_arg6 m c))),
      ((h c).1 6).trans (((dats m 0 c).arrAt_in 6 rfl _).trans ((A_eq m c 6).trans (V_main_arg7 m c))),
      ((h c).1 8).trans (((dats m 0 c).arrAt_in 8 rfl _).trans ((A_eq m c 8).trans (V_main_arg8 m c))),
      ((h c).1 9).trans (((dats m 0 c).arrAt_in 9 rfl _).trans ((A_eq m c 9).trans (V_main_arg9 m c))),
      ((h c).1 10).trans (((dats m 0 c).arrAt_in 10 rfl _).trans ((A_eq m c 10).trans (V_main_arg10 m c))),
      ((h c).2 main_arg11 (Pipeline.mem_restRefs_of main_arg11 (by decide) (by decide))).trans (W_main_arg11 m (dats m) c),
      ((h c).1 12).trans (((dats m 0 c).arrAt_in 12 rfl _).trans ((A_eq m c 12).trans (V_main_arg12 m c)))⟩) (run_main m g)

/-- The reference's three results, of the same arguments, are the kernel's. -/
theorem meet_h : Cert.Reference3Ideal.Read.val_main_v51 (F := Ideal) (a0 m c) (a1 m c) (a2 m c) (a3 m c) (a4 m c) (a5 m c) (a6 m c) (a7 m c) (a8 m c) (a9 m c) (a10 m c) (a11 m c) (a12 m c) = r13 m c := by
  funext i
  rw [eq_ix2 i]
  exact Ref.v51_eq _ _ _ _ _ _ _ _ _ _ _ _ _ _ _

theorem meet_g : Cert.Reference3Ideal.Read.val_main_v34 (F := Ideal) (a0 m c) (a1 m c) (a2 m c) (a3 m c) (a4 m c) (a5 m c) (a6 m c) (a7 m c) (a8 m c) (a11 m c) (a12 m c) = r15 m c := by
  funext i
  obtain ⟨b, rfl⟩ : ∃ b : Fin 1024, i = ix2 0 b := ⟨i 1, (eq_ix2 i).trans (congrArg (ix2 · (i 1)) (Subsingleton.elim _ _))⟩
  exact Ref.v34_eq _ _ _ _ _ _ _ _ _ (a9 m c) (a10 m c) _ _ b

theorem meet_w : Cert.Reference3Ideal.Read.val_main_v30 (F := Ideal) (a0 m c) (a1 m c) (a2 m c) (a3 m c) (a4 m c) (a5 m c) (a6 m c) (a7 m c) (a8 m c) (a10 m c) (a12 m c) = r12 m c := by
  funext i
  rw [eq_ix2 i]
  exact (Ref.v30_eq _ _ _ _ _ _ _ _ _ (a9 m c) _ (a11 m c) _ _ _).trans (r12_eq m c _ _).symm

end Proj
-- ==== Proof.OutMath.lean ====
/- What one token's row computes in the output projection, the loss and their gradients, in the kernel's form and in the reference's. -/
module

public import proofs.«01_k».proof.Proof.ProjMath
public import proofs.«01_k».proof.Proof.AttnMath

@[expose] public section

noncomputable section

namespace Out

open Idealize.ShloMosaic
open ProjMath (eps mhalf eps_eq mhalf_eq div_real scale_sum coe_sum)
open scoped BigOperators

/-! ## The norm of a row of any length -/

section Norm
variable {n : ℕ} (L : EReal)

/-- The mean square, plus the small number. -/
def sq (x : Fin n → EReal) : EReal := Ideal.div (∑ k, x k * x k) L + eps
/-- The factor the norm scales a row by. -/
def rr (x : Fin n → EReal) : EReal := Ideal.rsqrt (sq L x)
/-- The gradient of the norm's input, as the kernel takes it. -/
def kback (x g : Fin n → EReal) (e : Fin n) : EReal :=
  rr L x * (g e - x e * rr L x * Ideal.div (∑ k, g k * (x k * rr L x)) L)
/-- The part of the reference's gradient that comes through the factor. -/
def q (x g : Fin n → EReal) : EReal := Ideal.div ((∑ k, x k * g k) * (mhalf * Ideal.div (rr L x) (sq L x))) L
/-- The gradient of the norm's input, as the reference takes it. -/
def rback (x g : Fin n → EReal) (e : Fin n) : EReal := g e * rr L x + x e * q L x g + q L x g * x e

/-- A row of reals has a positive real mean square and a real factor. -/
theorem real_norm (l : ℝ) (hl : 0 < l) (hL : L = (l : EReal)) (x : Fin n → EReal) (hx : ∀ k, ∃ a : ℝ, x k = (a : EReal)) :
    ∃ s r : ℝ, 0 < s ∧ 0 < r ∧ r * r = s⁻¹ ∧ sq L x = (s : EReal) ∧ rr L x = (r : EReal) := by
  choose a ha using hx
  obtain ⟨t, ht, het⟩ := eps_eq
  have hs : 0 < (∑ k, a k * a k) * l⁻¹ + t :=
    add_pos_of_nonneg_of_pos (mul_nonneg (Finset.sum_nonneg fun k _ => mul_self_nonneg _) (inv_nonneg.mpr hl.le)) ht
  have hq : sq L x = (((∑ k, a k * a k) * l⁻¹ + t : ℝ) : EReal) := by
    unfold sq
    rw [hL, div_real _ _ hl.ne', het, EReal.coe_add, EReal.coe_mul, coe_sum]
    simp only [ha, EReal.coe_mul]
  refine ⟨_, (Real.sqrt _)⁻¹, hs, inv_pos.mpr (Real.sqrt_pos.mpr hs), ?_, hq, ?_⟩
  · rw [← mul_inv, Real.mul_self_sqrt hs.le]
  · unfold rr; rw [hq, Ideal.rsqrt_coe, if_neg (not_lt.mpr hs.le), if_neg hs.ne']

/-- On a row of reals the two forms of the gradient agree. -/
theorem back_eq (l : ℝ) (hl : 0 < l) (hL : L = (l : EReal)) (x g : Fin n → EReal) (hx : ∀ k, ∃ a : ℝ, x k = (a : EReal))
    (hg : ∀ k, ∃ a : ℝ, g k = (a : EReal)) (e : Fin n) : kback L x g e = rback L x g e := by
  obtain ⟨s, r, hs, hr, hrr, hse, hre⟩ := real_norm L l hl hL x hx
  choose a ha using hx
  choose b hb using hg
  have h1 : (∑ k, g k * (x k * rr L x)) = ((∑ k, b k * (a k * r) : ℝ) : EReal) := by
    rw [coe_sum]; exact Finset.sum_congr rfl fun k _ => by rw [ha, hb, hre, EReal.coe_mul, EReal.coe_mul]
  have h2 : (∑ k, x k * g k) = ((∑ k, a k * b k : ℝ) : EReal) := by
    rw [coe_sum]; exact Finset.sum_congr rfl fun k _ => by rw [ha, hb, EReal.coe_mul]
  unfold kback rback q
  rw [h1, h2, hse, hre, ha e, hb e, hL, mhalf_eq, div_real _ _ hl.ne', div_real _ _ hs.ne', div_real _ _ hl.ne']
  simp only [← EReal.coe_mul, ← EReal.coe_add, ← EReal.coe_sub]
  congr 1
  have h3 : (∑ k, b k * (a k * r)) = r * ∑ k, a k * b k := by
    rw [Finset.mul_sum]; exact Finset.sum_congr rfl fun k _ => by ring
  rw [h3, ← hrr]
  ring

/-- The kernel's gradient of a row of reals is real. -/
theorem back_real (l : ℝ) (hl : 0 < l) (hL : L = (l : EReal)) (x g : Fin n → EReal) (hx : ∀ k, ∃ a : ℝ, x k = (a : EReal))
    (hg : ∀ k, ∃ a : ℝ, g k = (a : EReal)) (e : Fin n) : ∃ a : ℝ, kback L x g e = (a : EReal) := by
  obtain ⟨s, r, hs, hr, hrr, hse, hre⟩ := real_norm L l hl hL x hx
  choose a ha using hx
  choose b hb using hg
  have h1 : (∑ k, g k * (x k * rr L x)) = ((∑ k, b k * (a k * r) : ℝ) : EReal) := by
    rw [coe_sum]; exact Finset.sum_congr rfl fun k _ => by rw [ha, hb, hre, EReal.coe_mul, EReal.coe_mul]
  unfold kback
  rw [h1, hre, ha e, hb e, hL, div_real _ _ hl.ne']
  simp only [← EReal.coe_mul, ← EReal.coe_sub]
  exact ⟨_, rfl⟩

end Norm

/-! ## The numbers the programs write -/

def len5 : EReal := Ideal.ofBits .f32 0x44000000#32
def len10 : EReal := Ideal.ofBits .f32 0x44800000#32
def one : EReal := Ideal.ofBits .f32 0x3F800000#32
def zer : EReal := Ideal.ofBits .f32 0x00000000#32
def half : EReal := Ideal.ofBits .f32 0x3F000000#32
def two : EReal := Ideal.ofBits .f32 0x40000000#32
def part : EReal := Ideal.ofBits .f32 0x3A800000#32

theorem len5_eq : len5 = ((512 : ℝ) : EReal) := by
  unfold len5
  simp [Ideal.ofBits, Ideal.ieee]
  rw [← EReal.coe_mul]; norm_num
theorem len10_eq : len10 = ((1024 : ℝ) : EReal) := by
  unfold len10
  simp [Ideal.ofBits, Ideal.ieee]
  rw [← EReal.coe_mul]; norm_num
theorem one_eq : one = ((1 : ℝ) : EReal) := by
  unfold one
  simp [Ideal.ofBits, Ideal.ieee]
  rw [← EReal.coe_mul]; norm_num
theorem zer_eq : zer = 0 := Ideal.ofBits_zero_f32
theorem half_eq : half = ((1 / 2 : ℝ) : EReal) := by
  unfold half
  simp [Ideal.ofBits, Ideal.ieee]
  rw [← EReal.coe_mul]; norm_num
theorem two_eq : two = ((2 : ℝ) : EReal) := by
  unfold two
  simp [Ideal.ofBits, Ideal.ieee]
  rw [← EReal.coe_mul]; norm_num
theorem part_eq : part = ((1 / 1024 : ℝ) : EReal) := by
  unfold part
  simp [Ideal.ofBits, Ideal.ieee]
  rw [← EReal.coe_mul]; norm_num

/-! ## One row -/

/-- The weights. -/
structure Wts where
  w : Fin 1024 → Fin 1024 → EReal
  pw : Fin 1024 → EReal
  aw : Fin 512 → EReal

/-- What a token brings: attention output, gate, state-space output, residual, target, and whether the loss counts it. -/
structure Row where
  o : Fin 512 → EReal
  g : Fin 512 → EReal
  u : Fin 512 → EReal
  h : Fin 1024 → EReal
  t : Fin 1024 → EReal
  on : Prop

namespace Row
variable (ρ : Row) (W : Wts)

/-- The gate's sigmoid. -/
def sg (j : Fin 512) : EReal := Ideal.div one (one + Ideal.exp (zer - ρ.g j))
/-- The gate. -/
def sl (j : Fin 512) : EReal := ρ.g j * ρ.sg j
/-- The gate's slope. -/
def dsl (j : Fin 512) : EReal := ρ.sg j * (one + ρ.g j * (one - ρ.sg j))
/-- The gated attention output. -/
def x (j : Fin 512) : EReal := ρ.o j * ρ.sl j
/-- Its norm's factor. -/
def ra : EReal := rr len5 ρ.x
/-- What the projection takes. -/
def cat (k : Fin 1024) : EReal := if h : k.val < 512 then ρ.x ⟨k.val, h⟩ * ρ.ra * W.aw ⟨k.val, h⟩ else ρ.u ⟨k.val - 512, by omega⟩
/-- The projection. -/
def y (e : Fin 1024) : EReal := ∑ k, ρ.cat W k * W.w k e
/-- Its norm's factor. -/
def ry : EReal := rr len10 (ρ.y W)
/-- The distance of the block's output from the target. -/
def diff (e : Fin 1024) : EReal :=
  open Classical in if ρ.on then ρ.h e + ρ.y W e * ρ.ry W * W.pw e - ρ.t e else 0
/-- The gradient of the block's output. -/
def dout (e : Fin 1024) : EReal := ρ.diff W e * part
/-- The row's sum of squared distances. -/
def loss : EReal := ∑ e, ρ.diff W e * ρ.diff W e
/-- The gradient of the projection. -/
def dy (e : Fin 1024) : EReal := kback len10 (ρ.y W) (fun e => ρ.dout W e * W.pw e) e
/-- The row's part of the norm weight's gradient. -/
def dpw (e : Fin 1024) : EReal := ρ.dout W e * (ρ.y W e * ρ.ry W)
/-- The gradient of what the projection takes. -/
def dcat (k : Fin 1024) : EReal := ∑ e, ρ.dy W e * W.w k e
/-- The row's part of the projection weight's gradient. -/
def dwo (k e : Fin 1024) : EReal := ρ.cat W k * ρ.dy W e
/-- The gradient of the normed attention output. -/
def dya (j : Fin 512) : EReal := ρ.dcat W ⟨j.val, by omega⟩
/-- The gradient of the state-space output. -/
def dys (j : Fin 512) : EReal := ρ.dcat W ⟨512 + j.val, by omega⟩
/-- The gradient of the gated attention output. -/
def dt (j : Fin 512) : EReal := kback len5 ρ.x (fun j => ρ.dya W j * W.aw j) j
/-- The row's part of the attention norm weight's gradient. -/
def daw (j : Fin 512) : EReal := ρ.dya W j * (ρ.x j * ρ.ra)
/-- The gradient of the attention output. -/
def dO (j : Fin 512) : EReal := ρ.dt W j * ρ.sl j
/-- The gradient of the gate. -/
def dag (j : Fin 512) : EReal := ρ.dt W j * ρ.o j * ρ.dsl j

end Row

/-- A row past the tokens. -/
def blank : Row := ⟨fun _ => 0, fun _ => 0, fun _ => 0, fun _ => 0, fun _ => 0, False⟩

section Blank
variable (W : Wts)

theorem blank_x (j : Fin 512) : blank.x j = 0 := zero_mul _
theorem blank_cat (k : Fin 1024) : blank.cat W k = 0 := by
  unfold Row.cat
  split
  · rw [blank_x, zero_mul, zero_mul]
  · rfl
theorem blank_diff (e : Fin 1024) : blank.diff W e = 0 := if_neg id
theorem blank_loss : blank.loss W = 0 := Finset.sum_eq_zero fun e _ => by rw [blank_diff, zero_mul]
theorem blank_dpw (e : Fin 1024) : blank.dpw W e = 0 := by unfold Row.dpw Row.dout; rw [blank_diff, zero_mul, zero_mul]
theorem blank_dwo (k e : Fin 1024) : blank.dwo W k e = 0 := by unfold Row.dwo; rw [blank_cat, zero_mul]
theorem blank_daw (j : Fin 512) : blank.daw W j = 0 := by unfold Row.daw; rw [blank_x, zero_mul, mul_zero]

end Blank

/-! ## Rows of reals -/

/-- A row of reals under real weights. -/
structure Real' (ρ : Row) (W : Wts) : Prop where
  o : ∀ j, ∃ a : ℝ, ρ.o j = (a : EReal)
  g : ∀ j, ∃ a : ℝ, ρ.g j = (a : EReal)
  u : ∀ j, ∃ a : ℝ, ρ.u j = (a : EReal)
  h : ∀ e, ∃ a : ℝ, ρ.h e = (a : EReal)
  t : ∀ e, ∃ a : ℝ, ρ.t e = (a : EReal)
  w : ∀ k e, ∃ a : ℝ, W.w k e = (a : EReal)
  pw : ∀ e, ∃ a : ℝ, W.pw e = (a : EReal)
  aw : ∀ j, ∃ a : ℝ, W.aw j = (a : EReal)

theorem mul_real {x y : EReal} (hx : ∃ a : ℝ, x = (a : EReal)) (hy : ∃ a : ℝ, y = (a : EReal)) : ∃ a : ℝ, x * y = (a : EReal) := by
  obtain ⟨a, rfl⟩ := hx; obtain ⟨b, rfl⟩ := hy; exact ⟨a * b, (EReal.coe_mul _ _).symm⟩
theorem add_real {x y : EReal} (hx : ∃ a : ℝ, x = (a : EReal)) (hy : ∃ a : ℝ, y = (a : EReal)) : ∃ a : ℝ, x + y = (a : EReal) := by
  obtain ⟨a, rfl⟩ := hx; obtain ⟨b, rfl⟩ := hy; exact ⟨a + b, (EReal.coe_add _ _).symm⟩
theorem sub_real {x y : EReal} (hx : ∃ a : ℝ, x = (a : EReal)) (hy : ∃ a : ℝ, y = (a : EReal)) : ∃ a : ℝ, x - y = (a : EReal) := by
  obtain ⟨a, rfl⟩ := hx; obtain ⟨b, rfl⟩ := hy; exact ⟨a - b, (EReal.coe_sub _ _).symm⟩
theorem sum_real {ι : Type} (s : Finset ι) (f : ι → EReal) (h : ∀ i, ∃ a : ℝ, f i = (a : EReal)) : ∃ a : ℝ, ∑ i ∈ s, f i = (a : EReal) := by
  choose a ha using h
  exact ⟨∑ i ∈ s, a i, by rw [coe_sum]; exact Finset.sum_congr rfl fun i _ => ha i⟩

theorem neg_real (a : EReal) : zer - a = -a := by rw [zer_eq]; simp

namespace Real'
variable {ρ : Row} {W : Wts} (R : Real' ρ W)
include R

theorem sg (j : Fin 512) : ∃ a : ℝ, ρ.sg j = (a : EReal) := by
  obtain ⟨a, ha⟩ := R.g j
  unfold Row.sg
  rw [neg_real, ha, ← EReal.coe_neg, Ideal.exp_coe, one_eq, ← EReal.coe_add, div_real _ _ (by positivity), ← EReal.coe_mul]
  exact ⟨_, rfl⟩
theorem sl (j : Fin 512) : ∃ a : ℝ, ρ.sl j = (a : EReal) := mul_real (R.g j) (R.sg j)
theorem x (j : Fin 512) : ∃ a : ℝ, ρ.x j = (a : EReal) := mul_real (R.o j) (R.sl j)
theorem ra : ∃ a : ℝ, ρ.ra = (a : EReal) := by
  obtain ⟨s, r, -, -, -, -, h⟩ := real_norm len5 512 (by norm_num) len5_eq ρ.x R.x
  exact ⟨r, h⟩
theorem cat (k : Fin 1024) : ∃ a : ℝ, ρ.cat W k = (a : EReal) := by
  unfold Row.cat
  split
  · exact mul_real (mul_real (R.x _) R.ra) (R.aw _)
  · exact R.u _
theorem y (e : Fin 1024) : ∃ a : ℝ, ρ.y W e = (a : EReal) := sum_real _ _ fun k => mul_real (R.cat k) (R.w k e)
theorem ry : ∃ a : ℝ, ρ.ry W = (a : EReal) := by
  obtain ⟨s, r, -, -, -, -, h⟩ := real_norm len10 1024 (by norm_num) len10_eq (ρ.y W) R.y
  exact ⟨r, h⟩
theorem diff (e : Fin 1024) : ∃ a : ℝ, ρ.diff W e = (a : EReal) := by
  unfold Row.diff
  split
  · exact sub_real (add_real (R.h e) (mul_real (mul_real (R.y e) R.ry) (R.pw e))) (R.t e)
  · exact ⟨0, rfl⟩
theorem dout (e : Fin 1024) : ∃ a : ℝ, ρ.dout W e = (a : EReal) := mul_real (R.diff e) ⟨_, part_eq⟩
theorem gy (e : Fin 1024) : ∃ a : ℝ, ρ.dout W e * W.pw e = (a : EReal) := mul_real (R.dout e) (R.pw e)
theorem dy (e : Fin 1024) : ∃ a : ℝ, ρ.dy W e = (a : EReal) := back_real len10 1024 (by norm_num) len10_eq _ _ R.y R.gy e
theorem dy_eq (e : Fin 1024) : ρ.dy W e = rback len10 (ρ.y W) (fun e => ρ.dout W e * W.pw e) e :=
  back_eq len10 1024 (by norm_num) len10_eq _ _ R.y R.gy e
theorem dya (j : Fin 512) : ∃ a : ℝ, ρ.dya W j = (a : EReal) := by
  unfold Row.dya Row.dcat
  exact sum_real _ _ fun e => mul_real (R.dy e) (R.w _ e)
theorem ga (j : Fin 512) : ∃ a : ℝ, ρ.dya W j * W.aw j = (a : EReal) := mul_real (R.dya j) (R.aw j)
theorem dt (j : Fin 512) : ∃ a : ℝ, ρ.dt W j = (a : EReal) := back_real len5 512 (by norm_num) len5_eq _ _ R.x R.ga j
theorem dt_eq (j : Fin 512) : ρ.dt W j = rback len5 ρ.x (fun j => ρ.dya W j * W.aw j) j :=
  back_eq len5 512 (by norm_num) len5_eq _ _ R.x R.ga j

/-- The gate's gradient, as the reference takes it. -/
theorem dag_eq (j : Fin 512) : ρ.dag W j
    = ρ.o j * ρ.dt W j * ρ.sg j + ρ.g j * (ρ.o j * ρ.dt W j) * (ρ.sg j * (one - ρ.sg j)) := by
  obtain ⟨d, hd⟩ := R.dt j
  obtain ⟨o, ho⟩ := R.o j
  obtain ⟨g, hg⟩ := R.g j
  obtain ⟨s, hs⟩ := R.sg j
  unfold Row.dag Row.dsl
  rw [hd, ho, hg, hs, one_eq]
  simp only [← EReal.coe_mul, ← EReal.coe_add, ← EReal.coe_sub]
  congr 1
  ring

end Real'

/-- The gradient of the output, as the reference takes it. -/
theorem dout_ref (d : EReal) : Ideal.div (half * one) len10 * (two * d) = d * part := by
  rw [half_eq, one_eq, len10_eq, two_eq, part_eq, ← EReal.coe_mul, div_real _ _ (by norm_num), ← EReal.coe_mul, ← mul_assoc, ← EReal.coe_mul, mul_comm]
  congr 2; norm_num

/-- One half of the mean of the squares, summed over parts, as kernel and reference take it. -/
theorem loss_parts {ι : Type} (s : Finset ι) (f : ι → EReal) :
    ∑ i ∈ s, half * f i * part = half * ∑ i ∈ s, Ideal.div (f i) len10 := by
  rw [half_eq, part_eq, len10_eq, ← scale_sum _ (by norm_num)]
  refine Finset.sum_congr rfl fun i _ => ?_
  rw [div_real _ _ (by norm_num), mul_assoc]
  congr 2; norm_num

/-- A scaled sum of sums. -/
theorem loss_inner {ι : Type} (s : Finset ι) (f : ι → EReal) :
    half * (∑ i ∈ s, f i) * part = ∑ i ∈ s, half * f i * part := by
  have h : ∀ a : EReal, half * a * part = ((1 / 2 * (1 / 1024) : ℝ) : EReal) * a := fun a => by
    rw [half_eq, part_eq, EReal.coe_mul, mul_assoc, mul_comm a, mul_assoc]
  simp only [h]
  exact (scale_sum _ (by norm_num) s f).symm

/-! ## All tokens -/

/-- The arguments' elements. -/
structure Args where
  o : Fin 16400 → Fin 512 → EReal
  g : Fin 16400 → Fin 512 → EReal
  u : Fin 16400 → Fin 512 → EReal
  h : Fin 16400 → Fin 1024 → EReal
  t : Fin 16384 → Fin 1024 → EReal
  W : Wts

namespace Args
variable (A : Args)

/-- The row of a token; the first sixteen are left out of the loss. -/
def row (p : Fin 16400) : Row where
  o := A.o p
  g := A.g p
  u := A.u p
  h := A.h p
  t e := if hp : p.val < 16 then 0 else A.t ⟨p.val - 16, by omega⟩ e
  on := 16 ≤ p.val

/-- The rows in the kernel's order. -/
def lay (r : Fin 16640) : Row := if hp : AttnMath.rowPos r.val < 16400 then A.row ⟨AttnMath.rowPos r.val, hp⟩ else blank

/-- The row at which a token stands. -/
def at' (p : Fin 16400) : Fin 16640 := ⟨AttnMath.posRow p.val, AttnMath.posRow_lt _ (by omega)⟩

theorem lay_at (p : Fin 16400) : A.lay (at' p) = A.row p := by
  have e := AttnMath.rowPos_posRow p.val (by omega)
  unfold lay at'
  rw [dif_pos (by rw [e]; exact p.2)]
  congr 1; exact Fin.ext e

theorem sum_lay (f : Row → EReal) (h : f blank = 0) : ∑ r, f (A.lay r) = ∑ p, f (A.row p) := by
  refine (Fintype.sum_of_injective at' (fun a b hab => ?_) _ _ (fun r hr => ?_) (fun p => ?_)).symm
  · have := congrArg (fun r : Fin 16640 => AttnMath.rowPos r.val) hab
    refine Fin.ext ?_
    simp only [at'] at this
    rwa [AttnMath.rowPos_posRow _ (by omega), AttnMath.rowPos_posRow _ (by omega)] at this
  · unfold lay
    rw [dif_neg, h]
    intro hp
    exact hr ⟨⟨_, hp⟩, Fin.ext (AttnMath.posRow_rowPos _ r.2)⟩
  · rw [lay_at]

end Args

end Out
-- ==== Proof.OutPay.lean ====
/- What the body of the output projection's region stores, element by element, at the extended reals. -/
module

public import proofs.«01_k».proof.Proof.Gen.Kernel4Ideal.Skeleton
public import proofs.«01_k».proof.Proof.OutMath
public import Idealize.ShloMosaic.Lib.Pipeline.Value
public import Idealize.ShloMosaic.PureOps.IdealRules

@[expose] public section

set_option maxRecDepth 16384

noncomputable section

namespace Out.Pay

open Idealize.ShloMosaic Idealize.SL.Sem
open Cert.Kernel4Ideal Cert.Kernel4Ideal.Gen
open Out ProjMath
open scoped BigOperators

variable (v0 v3 v32 : Vec Ideal S640x512 .f32) (v2 : Vec Ideal S1x512 .f32) (v35 : Vec Ideal S1024x1024 .bf16)
  (v47 : Vec Ideal S1x1024 .f32) (v48 v71 : Vec Ideal S640x1024 .f32) (i : BitVec 32)

theorem p3 (a : Fin 640) (j : Fin 512) : k0_pay3 (F := Ideal) v0 (ix2 a j) = v0 (ix2 a j) := by
  unfold k0_pay3; rw [shapeCast_self]
theorem p4 (a : Fin 640) (j : Fin 512) : k0_pay4 (F := Ideal) v0 (ix2 a j) = v0 (ix2 a j) := by
  unfold k0_pay4; rw [shapeCast_self]
theorem p5 (a : Fin 640) (j : Fin 512) : k0_pay5 (F := Ideal) v3 (ix2 a j) = Ideal.div one (one + Ideal.exp (zer - v3 (ix2 a j))) := by
  unfold one zer
  rw [← p4 v3]
  generalize hG : k0_pay4 (F := Ideal) v3 = G
  pointwise [k0_pay5, hG]
theorem p6 (a : Fin 640) (j : Fin 512) : k0_pay6 (F := Ideal) v3 (ix2 a j) = v3 (ix2 a j) * k0_pay5 (F := Ideal) v3 (ix2 a j) := by
  rw [← p4 v3]; rfl
theorem p7 (a : Fin 640) (j : Fin 512) : k0_pay7 (F := Ideal) v3 (ix2 a j)
    = k0_pay5 (F := Ideal) v3 (ix2 a j) * (one + v3 (ix2 a j) * (one - k0_pay5 (F := Ideal) v3 (ix2 a j))) := by
  rw [← p4 v3]; rfl
theorem p8 (a : Fin 640) (j : Fin 512) : k0_pay8 (F := Ideal) v0 v3 (ix2 a j) = v0 (ix2 a j) * k0_pay6 (F := Ideal) v3 (ix2 a j) := by
  rw [← p3 v0]; rfl
theorem p9 (a : Fin 640) : k0_pay9 (F := Ideal) v0 v3 (ix2 a 0)
    = Ideal.rsqrt (Ideal.div (∑ k : Fin 512, k0_pay8 (F := Ideal) v0 v3 (ix2 a k) * k0_pay8 (F := Ideal) v0 v3 (ix2 a k)) len5 + eps) := by
  unfold len5 eps
  generalize hX : k0_pay8 (F := Ideal) v0 v3 = X
  pointwise [k0_pay9, hX]
theorem p10 (a : Fin 640) (k : Fin 1024) : k0_pay10 (F := Ideal) v0 v2 v3 v32 (ix2 a k)
    = if h : k.val < 512 then k0_pay8 (F := Ideal) v0 v3 (ix2 a ⟨k.val, h⟩) * k0_pay9 (F := Ideal) v0 v3 (ix2 a 0) * v2 (ix2 0 ⟨k.val, h⟩)
      else v32 (ix2 a ⟨k.val - 512, by omega⟩) := by
  generalize hX : k0_pay8 (F := Ideal) v0 v3 = X
  generalize hR : k0_pay9 (F := Ideal) v0 v3 = R
  unfold k0_pay10
  rw [hX, hR, shapeCast_self]
  by_cases h : k.val < 512
  · rw [dif_pos h]
    refine (concatenate_apply_piece (t := S640x1024) 1 _ _ _ 0 ?_ S640x512 (mulf (F := Ideal) (mulf X (broadcastTo S640x512 R broadcasts_S640x1_S640x512)) (broadcastTo S640x512 v2 broadcasts_S1x512_S640x512)) ?_ rfl 0 ?_ (ix2 a ⟨k.val, h⟩) (fun d hd => ?_) ?_).trans ?_
    · simp
    · rfl
    · rfl
    · fin_cases d <;> [rfl; exact absurd rfl hd]
    · show 0 + k.val = k.val; omega
    · pointwise
  · rw [dif_neg h]
    refine concatenate_apply_piece (t := S640x1024) 1 _ _ _ 1 ?_ S640x512 v32 ?_ rfl 512 ?_ (ix2 a ⟨k.val - 512, by omega⟩) (fun d hd => ?_) ?_
    · simp
    · rfl
    · rfl
    · fin_cases d <;> [rfl; exact absurd rfl hd]
    · show 512 + (k.val - 512) = k.val; omega
theorem p11 (a : Fin 640) (e : Fin 1024) : k0_pay11 (F := Ideal) v0 v2 v3 v32 v35 (ix2 a e)
    = ∑ k : Fin 1024, k0_pay10 (F := Ideal) v0 v2 v3 v32 (ix2 a k) * v35 (ix2 k e) := by
  generalize hC : k0_pay10 (F := Ideal) v0 v2 v3 v32 = C
  pointwise [k0_pay11, hC]
theorem p12 (a : Fin 640) (e : Fin 1024) : k0_pay12 (F := Ideal) v0 v2 v3 v32 v35 (ix2 a e)
    = k0_pay11 (F := Ideal) v0 v2 v3 v32 v35 (ix2 a e) * k0_pay11 (F := Ideal) v0 v2 v3 v32 v35 (ix2 a e) := rfl

variable (Y Q D V C : FVec Ideal S640x1024 .f32) (R : FVec Ideal S640x1 .f32)

theorem p13 (a : Fin 640) : k0_pay13 (F := Ideal) Q (ix2 a 0) = Ideal.rsqrt (Ideal.div (∑ k : Fin 1024, Q (ix2 a k)) len10 + eps) := by
  unfold len10 eps
  pointwise [k0_pay13]

/-- The row's test, as the kernel takes it. -/
def bit (a : Fin 640) : BitVec 1 :=
  IntOp.andi
    (IntOp.cmpi .sge (IntOp.addi (IntOp.muli (IntOp.andi (IntOp.addi (Scalar.muli i 640#32) (BitVec.ofNat 32 a.val)) 7#32) 2080#32)
      (IntOp.shrsi .vector (IntOp.addi (Scalar.muli i 640#32) (BitVec.ofNat 32 a.val)) 3#32)) 16#32)
    (IntOp.cmpi .slt (IntOp.addi (IntOp.muli (IntOp.andi (IntOp.addi (Scalar.muli i 640#32) (BitVec.ofNat 32 a.val)) 7#32) 2080#32)
      (IntOp.shrsi .vector (IntOp.addi (Scalar.muli i 640#32) (BitVec.ofNat 32 a.val)) 3#32)) 16400#32)

theorem bit_eq : ∀ (n : Fin 26) (a : Fin 640), bit (BitVec.ofNat 32 n.val) a
    = BitVec.ofBool (decide (16 ≤ AttnMath.rowPos (n.val * 640 + a.val) ∧ AttnMath.rowPos (n.val * 640 + a.val) < 16400)) := by
  decide +kernel

theorem bit_iff (n : Fin 26) (a : Fin 640) : bit (BitVec.ofNat 32 n.val) a = 1#1
    ↔ 16 ≤ AttnMath.rowPos (n.val * 640 + a.val) ∧ AttnMath.rowPos (n.val * 640 + a.val) < 16400 := by
  rw [bit_eq]
  by_cases h : 16 ≤ AttnMath.rowPos (n.val * 640 + a.val) ∧ AttnMath.rowPos (n.val * 640 + a.val) < 16400
  · rw [decide_eq_true h]; exact ⟨fun _ => h, fun _ => rfl⟩
  · rw [decide_eq_false h]; exact ⟨fun e => absurd e (by decide), fun e => absurd e h⟩

theorem p14 (a : Fin 640) (e : Fin 1024) : k0_pay14 (F := Ideal) i Y Q v47 v48 v71 (ix2 a e)
    = if bit i a = 1#1 then v48 (ix2 a e) + Y (ix2 a e) * k0_pay13 (F := Ideal) Q (ix2 a 0) * v47 (ix2 0 e) - v71 (ix2 a e) else zer := by
  generalize hR : k0_pay13 (F := Ideal) Q = R
  unfold zer bit
  pointwise [k0_pay14, hR]
  rfl

theorem p15 (a : Fin 640) (e : Fin 1024) : k0_pay15 (F := Ideal) i Y Q v47 v48 v71 (ix2 a e)
    = k0_pay14 (F := Ideal) i Y Q v47 v48 v71 (ix2 a e) * part := rfl

theorem p16 : k0_pay16 (F := Ideal) D (ix2 0 0) = half * (∑ a : Fin 640, ∑ e : Fin 1024, D (ix2 a e) * D (ix2 a e)) * part := by
  unfold half part
  pointwise [k0_pay16]

theorem p18 (a : Fin 640) (e : Fin 1024) : k0_pay18 (F := Ideal) Y R (ix2 a e) = Y (ix2 a e) * R (ix2 a 0) := by
  pointwise [k0_pay18]

theorem p19 (a : Fin 640) (e : Fin 1024) : k0_pay19 (F := Ideal) Y R v47 D (ix2 a e)
    = R (ix2 a 0) * (D (ix2 a e) * v47 (ix2 0 e)
        - Y (ix2 a e) * R (ix2 a 0) * Ideal.div (∑ k : Fin 1024, D (ix2 a k) * v47 (ix2 0 k) * (Y (ix2 a k) * R (ix2 a 0))) len10) := by
  unfold len10
  pointwise [k0_pay19, k0_pay18]

theorem p20 (e : Fin 1024) : k0_pay20 (F := Ideal) Y R D (ix2 0 e) = ∑ a : Fin 640, D (ix2 a e) * (Y (ix2 a e) * R (ix2 a 0)) := by
  pointwise [k0_pay20, k0_pay18]

theorem p22 (a : Fin 640) (k : Fin 1024) : k0_pay22 (F := Ideal) V v35 (ix2 a k) = ∑ e : Fin 1024, V (ix2 a e) * v35 (ix2 k e) := by
  pointwise [k0_pay22]

theorem p23 (k e : Fin 1024) : k0_pay23 (F := Ideal) C V (ix2 k e) = ∑ a : Fin 640, C (ix2 a k) * V (ix2 a e) := by
  pointwise [k0_pay23]

theorem p25 (a : Fin 640) (j : Fin 512) : k0_pay25 (F := Ideal) V v35 (ix2 a j) = k0_pay22 (F := Ideal) V v35 (ix2 a ⟨512 + j.val, by omega⟩) := by
  generalize hB : k0_pay22 (F := Ideal) V v35 = B
  pointwise [k0_pay25, hB]

theorem p26 (a : Fin 640) (j : Fin 512) : k0_pay26 (F := Ideal) V v35 (ix2 a j) = k0_pay22 (F := Ideal) V v35 (ix2 a ⟨j.val, by omega⟩) := by
  generalize hB : k0_pay22 (F := Ideal) V v35 = B
  pointwise [k0_pay26, hB]

variable (X S : FVec Ideal S640x512 .f32)

theorem p28 (a : Fin 640) (j : Fin 512) : k0_pay28 (F := Ideal) v2 X R V v35 (ix2 a j)
    = R (ix2 a 0) * (k0_pay26 (F := Ideal) V v35 (ix2 a j) * v2 (ix2 0 j)
        - X (ix2 a j) * R (ix2 a 0) * Ideal.div (∑ k : Fin 512, k0_pay26 (F := Ideal) V v35 (ix2 a k) * v2 (ix2 0 k) * (X (ix2 a k) * R (ix2 a 0))) len5) := by
  unfold len5
  generalize hB : k0_pay26 (F := Ideal) V v35 = B
  pointwise [k0_pay28, k0_pay27, hB]

theorem p29 (j : Fin 512) : k0_pay29 (F := Ideal) X R V v35 (ix2 0 j)
    = ∑ a : Fin 640, k0_pay26 (F := Ideal) V v35 (ix2 a j) * (X (ix2 a j) * R (ix2 a 0)) := by
  generalize hB : k0_pay26 (F := Ideal) V v35 = B
  pointwise [k0_pay29, k0_pay27, hB]

theorem p31 (a : Fin 640) (j : Fin 512) : k0_pay31 (F := Ideal) v2 S X R V v35 (ix2 a j)
    = k0_pay28 (F := Ideal) v2 X R V v35 (ix2 a j) * S (ix2 a j) := rfl

theorem p1 (A B E : FVec Ideal S640x512 .f32) (a : Fin 640) (j : Fin 512) : k0_pay1 (F := Ideal) A B E (ix2 a j) = E (ix2 a j) * A (ix2 a j) * B (ix2 a j) := rfl

end Out.Pay
-- ==== Proof.OutHost.lean ====
/- What the host lines around the output projection's region leave, element by element. -/
module

public import proofs.«01_k».proof.Proof.Gen.Kernel4Ideal.Frame
public import proofs.«01_k».proof.Proof.OutMath
public import Idealize.ShloMosaic.Lib.StableHlo.ReadAt
public import Idealize.ShloMosaic.PureOps.IdealRules

@[expose] public section

set_option maxRecDepth 16384

noncomputable section

namespace Out.Host

open Idealize.ShloMosaic Idealize.ShloMosaic.TcCoe Idealize.SL.Sem
open Cert.Kernel4Ideal Cert.Kernel4Ideal.Gen

variable (m : (ℓ : Loc nD τ sig) → Buf (Elt Ideal) ℓ) (c : Dev nD)

/-- The arguments. -/
def a0 : Vec Ideal S16400x512 .f32 := m ((c : Thread nD τ).loc main_arg0)
def a1 : Vec Ideal S16400x512 .f32 := m ((c : Thread nD τ).loc main_arg1)
def a2 : Vec Ideal S16400x512 .f32 := m ((c : Thread nD τ).loc main_arg2)
def a3 : Vec Ideal S16400x1024 .f32 := m ((c : Thread nD τ).loc main_arg3)
def a4 : Vec Ideal S16384x1024 .f32 := m ((c : Thread nD τ).loc main_arg4)
def a5 : Vec Ideal S1024x1024 .f32 := m ((c : Thread nD τ).loc main_arg5)
def a6 : Vec Ideal S1x1024 .f32 := m ((c : Thread nD τ).loc main_arg6)
def a7 : Vec Ideal S1x512 .f32 := m ((c : Thread nD τ).loc main_arg7)

theorem rows0 (r : Fin 16640) (d : Fin 512) : (V m c main_v11 (ix2 r d) : EReal)
    = if hp : AttnMath.rowPos r.val < 16400 then (a0 m c (ix2 ⟨AttnMath.rowPos r.val, hp⟩ d) : EReal) else (0 : EReal) := by
  unfold V V0 AttnMath.rowPos a0
  after_reads_at
  by_cases hp : r.val % 8 * 2080 + r.val / 8 < 16400
  · refine (dif_pos hp).trans (Eq.trans ?_ (dif_pos hp).symm)
    after_reads_at
  · refine (dif_neg hp).trans (Eq.trans ?_ (dif_neg hp).symm)
    after_reads_at

theorem rows1 (r : Fin 16640) (d : Fin 512) : (V m c main_v16 (ix2 r d) : EReal)
    = if hp : AttnMath.rowPos r.val < 16400 then (a1 m c (ix2 ⟨AttnMath.rowPos r.val, hp⟩ d) : EReal) else (0 : EReal) := by
  unfold V V0 AttnMath.rowPos a1
  after_reads_at
  by_cases hp : r.val % 8 * 2080 + r.val / 8 < 16400
  · refine (dif_pos hp).trans (Eq.trans ?_ (dif_pos hp).symm)
    after_reads_at
  · refine (dif_neg hp).trans (Eq.trans ?_ (dif_neg hp).symm)
    after_reads_at

theorem rows2 (r : Fin 16640) (d : Fin 512) : (V m c main_v21 (ix2 r d) : EReal)
    = if hp : AttnMath.rowPos r.val < 16400 then (a2 m c (ix2 ⟨AttnMath.rowPos r.val, hp⟩ d) : EReal) else (0 : EReal) := by
  unfold V V0 AttnMath.rowPos a2
  after_reads_at
  by_cases hp : r.val % 8 * 2080 + r.val / 8 < 16400
  · refine (dif_pos hp).trans (Eq.trans ?_ (dif_pos hp).symm)
    after_reads_at
  · refine (dif_neg hp).trans (Eq.trans ?_ (dif_neg hp).symm)
    after_reads_at

theorem rows3 (r : Fin 16640) (d : Fin 1024) : (V m c main_v26 (ix2 r d) : EReal)
    = if hp : AttnMath.rowPos r.val < 16400 then (a3 m c (ix2 ⟨AttnMath.rowPos r.val, hp⟩ d) : EReal) else (0 : EReal) := by
  unfold V V0 AttnMath.rowPos a3
  after_reads_at
  by_cases hp : r.val % 8 * 2080 + r.val / 8 < 16400
  · refine (dif_pos hp).trans (Eq.trans ?_ (dif_pos hp).symm)
    after_reads_at
  · refine (dif_neg hp).trans (Eq.trans ?_ (dif_neg hp).symm)
    after_reads_at

theorem rows4 (r : Fin 16640) (d : Fin 1024) : (V m c main_v6 (ix2 r d) : EReal)
    = if hp : AttnMath.rowPos r.val < 16400 then
        (if hq : AttnMath.rowPos r.val < 16 then (0 : EReal) else (a4 m c (ix2 ⟨AttnMath.rowPos r.val - 16, by omega⟩ d) : EReal))
      else (0 : EReal) := by
  unfold V V0 AttnMath.rowPos a4
  after_reads_at
  by_cases hp : r.val % 8 * 2080 + r.val / 8 < 16400
  · refine (dif_pos hp).trans (Eq.trans ?_ (dif_pos hp).symm)
    after_reads_at
  · refine (dif_neg hp).trans (Eq.trans ?_ (dif_neg hp).symm)
    after_reads_at

theorem weights (k e : Fin 1024) : (V m c main_v27 (ix2 k e) : EReal) = (a5 m c (ix2 k e) : EReal) := by
  unfold V V0 a5
  after_reads_at

section Tail
variable (dats : (p : Fin 1) → (c : Dev nD) → Pipeline.Dat τ (Elt Ideal) Unit ℕ (UR sig nD τ) ℕ (cfgs p) c) (p : Fin 16400)

theorem tail32 (d : Fin 512) : (Pipeline.afterTail₀ cfgs dats 0 (V0 m) [hostOps1] c main_v32 (ix2 p d) : EReal)
    = ((dats 0 c).arrAt 10 cfg0.N (ix2 (Args.at' p) d) : EReal) := by
  have hA : Pipeline.withArrays (cfgs 0).spec c (V0 m c) (fun w => (dats 0 c).arrAt w (cfgs 0).N) (Proc.tc.devRef main_v28_1) = (dats 0 c).arrAt 10 cfg0.N :=
    Pipeline.withArrays_arr_shared (cfgs 0).spec c (V0 m c) _ (fun w w' hne he => absurd he (by revert w w'; decide)) 10
  unfold Pipeline.afterTail₀ Args.at' AttnMath.posRow
  after_reads_at
  exact congrFun hA _

theorem tail36 (d : Fin 512) : (Pipeline.afterTail₀ cfgs dats 0 (V0 m) [hostOps1] c main_v36 (ix2 p d) : EReal)
    = ((dats 0 c).arrAt 11 cfg0.N (ix2 (Args.at' p) d) : EReal) := by
  have hA : Pipeline.withArrays (cfgs 0).spec c (V0 m c) (fun w => (dats 0 c).arrAt w (cfgs 0).N) (Proc.tc.devRef main_v28_2) = (dats 0 c).arrAt 11 cfg0.N :=
    Pipeline.withArrays_arr_shared (cfgs 0).spec c (V0 m c) _ (fun w w' hne he => absurd he (by revert w w'; decide)) 11
  unfold Pipeline.afterTail₀ Args.at' AttnMath.posRow
  after_reads_at
  exact congrFun hA _

theorem tail40 (d : Fin 512) : (Pipeline.afterTail₀ cfgs dats 0 (V0 m) [hostOps1] c main_v40 (ix2 p d) : EReal)
    = ((dats 0 c).arrAt 12 cfg0.N (ix2 (Args.at' p) d) : EReal) := by
  have hA : Pipeline.withArrays (cfgs 0).spec c (V0 m c) (fun w => (dats 0 c).arrAt w (cfgs 0).N) (Proc.tc.devRef main_v28_3) = (dats 0 c).arrAt 12 cfg0.N :=
    Pipeline.withArrays_arr_shared (cfgs 0).spec c (V0 m c) _ (fun w w' hne he => absurd he (by revert w w'; decide)) 12
  unfold Pipeline.afterTail₀ Args.at' AttnMath.posRow
  after_reads_at
  exact congrFun hA _

theorem tail44 (d : Fin 1024) : (Pipeline.afterTail₀ cfgs dats 0 (V0 m) [hostOps1] c main_v44 (ix2 p d) : EReal)
    = ((dats 0 c).arrAt 9 cfg0.N (ix2 (Args.at' p) d) : EReal) := by
  have hA : Pipeline.withArrays (cfgs 0).spec c (V0 m c) (fun w => (dats 0 c).arrAt w (cfgs 0).N) (Proc.tc.devRef main_v28_0) = (dats 0 c).arrAt 9 cfg0.N :=
    Pipeline.withArrays_arr_shared (cfgs 0).spec c (V0 m c) _ (fun w w' hne he => absurd he (by revert w w'; decide)) 9
  unfold Pipeline.afterTail₀ Args.at' AttnMath.posRow
  after_reads_at
  exact congrFun hA _

end Tail

end Out.Host
-- ==== Proof.OutPts.lean ====
/- What the points of the output projection's region leave. -/
module

public import proofs.«01_k».proof.Proof.OutPay
public import proofs.«01_k».proof.Proof.OutHost
public import Idealize.ShloMosaic.Lib.Pointwise
public import Idealize.ShloMosaic.Lib.Pipeline.ValueKit

@[expose] public section

set_option maxRecDepth 16384

noncomputable section

namespace Out.Arr

open Idealize.ShloMosaic Idealize.ShloMosaic.TcCoe Idealize.SL.Sem
open Idealize.ShloMosaic.Pipeline (Dat)
open Cert.Kernel4Ideal Cert.Kernel4Ideal.Gen
open Out Out.Pay
open scoped BigOperators

/-- Running totals that take each next term on the right are the sums so far. -/
theorem running {N : ℕ} (f g : (n : ℕ) → n < N → EReal) (h0 : ∀ h, f 0 h = g 0 h)
    (hs : ∀ n h, f (n + 1) h = f n (Nat.lt_of_succ_lt h) + g (n + 1) h) :
    ∀ n (h : n < N), f n h = ∑ k : Fin (n + 1), g k.val (lt_of_le_of_lt (Nat.le_of_lt_succ k.isLt) h)
  | 0, h => by rw [h0, Fin.sum_univ_one]; rfl
  | n + 1, h => by
    rw [hs, running f g h0 hs n]
    exact (Fin.sum_univ_castSucc (n := n + 1) (fun k => g k.val (lt_of_le_of_lt (Nat.le_of_lt_succ k.isLt) h))).symm

/-- The row of the whole array that row `a` of block `t` is. -/
def rowOf (t : Fin 26) (a : Fin 640) : Fin 16640 := ⟨t.val * 640 + a.val, by omega⟩

/-- A sum over blocks and rows of blocks is the sum over all rows. -/
theorem sum_rows (f : Fin 16640 → EReal) : ∑ t : Fin 26, ∑ a : Fin 640, f (rowOf t a) = ∑ r, f r := by
  rw [← Fintype.sum_prod_type']
  refine Fintype.sum_equiv (finProdFinEquiv (m := 26) (n := 640)) _ (fun r : Fin 16640 => f r) fun p => congrArg f (Fin.ext ?_)
  show p.1.val * 640 + p.2.val = p.2.val + 640 * p.1.val
  omega

variable (m : (ℓ : Loc nD τ sig) → Buf (Elt Ideal) ℓ) (c : Dev nD)

/-- The arguments' elements. -/
def kargs : Args where
  o p d := Host.a0 m c (ix2 p d)
  g p d := Host.a1 m c (ix2 p d)
  u p d := Host.a2 m c (ix2 p d)
  h p d := Host.a3 m c (ix2 p d)
  t p d := Host.a4 m c (ix2 p d)
  W := ⟨fun k e => Host.a5 m c (ix2 k e), fun e => Host.a6 m c (ix2 0 e), fun j => Host.a7 m c (ix2 0 j)⟩

theorem points : cfg0.N = 26 := N_0

section Blocks
variable (t : Fin cfg0.N)
/-- The blocks at a point. -/
def i0 : Vec Ideal S640x512 .f32 := iblk m c 0 t
def i1 : Vec Ideal S640x512 .f32 := iblk m c 1 t
def i2 : Vec Ideal S640x512 .f32 := iblk m c 2 t
def i3 : Vec Ideal S640x1024 .f32 := iblk m c 3 t
def i4 : Vec Ideal S640x1024 .f32 := iblk m c 4 t
def i5 : Vec Ideal S1024x1024 .bf16 := iblk m c 5 t
def i6 : Vec Ideal S1x1024 .f32 := iblk m c 6 t
def i7 : Vec Ideal S1x512 .f32 := iblk m c 7 t
def i8 : Vec Ideal S512x8 .f32 := iblk m c 8 t

/-- The point's number, as the kernel takes it. -/
def num : BitVec 32 := BitVec.ofNat 32 ((grid0.coords t) 0).val
/-- What the point computes on the way. -/
def bX : FVec Ideal S640x512 .f32 := k0_pay8 (i0 m c t) (i1 m c t)
def bA : FVec Ideal S640x1 .f32 := k0_pay9 (i0 m c t) (i1 m c t)
def bC : FVec Ideal S640x1024 .f32 := k0_pay10 (i0 m c t) (i7 m c t) (i1 m c t) (i2 m c t)
def bY : FVec Ideal S640x1024 .f32 := k0_pay11 (i0 m c t) (i7 m c t) (i1 m c t) (i2 m c t) (i5 m c t)
def bQ : FVec Ideal S640x1024 .f32 := k0_pay12 (i0 m c t) (i7 m c t) (i1 m c t) (i2 m c t) (i5 m c t)
def bR : FVec Ideal S640x1 .f32 := k0_pay13 (bQ m c t)
def bD : FVec Ideal S640x1024 .f32 := k0_pay14 (num t) (bY m c t) (bQ m c t) (i6 m c t) (i3 m c t) (i4 m c t)
def bV : FVec Ideal S640x1024 .f32 :=
  k0_pay19 (bY m c t) (bR m c t) (i6 m c t) (k0_pay15 (num t) (bY m c t) (bQ m c t) (i6 m c t) (i3 m c t) (i4 m c t))
/-- What the point leaves in each result. -/
def o9 : Vec Ideal S640x1024 .f32 := k0_pay15 (num t) (bY m c t) (bQ m c t) (i6 m c t) (i3 m c t) (i4 m c t)
def o10 : Vec Ideal S640x512 .f32 := k0_pay31 (i7 m c t) (k0_pay6 (i1 m c t)) (bX m c t) (bA m c t) (bV m c t) (i5 m c t)
def o11 : Vec Ideal S640x512 .f32 :=
  k0_pay1 (k0_pay3 (i0 m c t)) (k0_pay7 (i1 m c t)) (k0_pay28 (i7 m c t) (bX m c t) (bA m c t) (bV m c t) (i5 m c t))
def o12 : Vec Ideal S640x512 .f32 := k0_pay25 (bV m c t) (i5 m c t)
def o13 : Vec Ideal S640x8 .f32 := k0_pay2 (k0_pay3 (i0 m c t)) (o10 m c t) (i8 m c t)
def o14 : Vec Ideal S1x1 .f32 := k0_pay16 (bD m c t)
def o15 : Vec Ideal S1x1024 .f32 := k0_pay20 (bY m c t) (bR m c t) (o9 m c t)
def o16 : Vec Ideal S1024x1024 .f32 := k0_pay23 (bC m c t) (bV m c t)
def o17 : Vec Ideal S1x512 .f32 := k0_pay29 (bX m c t) (bA m c t) (bV m c t) (i5 m c t)

theorem out_A (h : t.val % 26 = 0) (h' : ¬ 1 ≤ t.val) : outsAt0 m c t.val t.isLt
    = (o9 m c t, o10 m c t, o11 m c t, o12 m c t, o13 m c t, o14 m c t, o15 m c t, o16 m c t, o17 m c t) := by
  rw [outsAt0_A m c t h h' h h' h h' h h']
  frame_out
  rfl

theorem out_B (h : ¬ t.val % 26 = 0) (h' : 1 ≤ t.val) : outsAt0 m c t.val t.isLt
    = (o9 m c t, o10 m c t, o11 m c t, o12 m c t, o13 m c t,
        k0_pay17 (bD m c t) (outsAt0 m c (t.val - 1) (Nat.lt_of_le_of_lt (Nat.sub_le _ _) t.isLt)).2.2.2.2.2.1,
        k0_pay21 (bY m c t) (bR m c t) (o9 m c t) (outsAt0 m c (t.val - 1) (Nat.lt_of_le_of_lt (Nat.sub_le _ _) t.isLt)).2.2.2.2.2.2.1,
        k0_pay24 (bC m c t) (bV m c t) (outsAt0 m c (t.val - 1) (Nat.lt_of_le_of_lt (Nat.sub_le _ _) t.isLt)).2.2.2.2.2.2.2.1,
        k0_pay30 (bX m c t) (bA m c t) (bV m c t) (i5 m c t) (outsAt0 m c (t.val - 1) (Nat.lt_of_le_of_lt (Nat.sub_le _ _) t.isLt)).2.2.2.2.2.2.2.2) := by
  rw [outsAt0_B m c t h h' h h' h h' h h']
  frame_out
  rfl

end Blocks

theorem add14 (D : FVec Ideal S640x1024 .f32) (q : Vec Ideal S1x1 .f32) (i : S1x1.Idx) :
    k0_pay17 (F := Ideal) D q i = q i + k0_pay16 (F := Ideal) D i := by
  unfold k0_pay17; rw [shapeCast_self]; rfl
theorem add15 (Y : FVec Ideal S640x1024 .f32) (R : FVec Ideal S640x1 .f32) (D : FVec Ideal S640x1024 .f32) (q : Vec Ideal S1x1024 .f32) (i : S1x1024.Idx) :
    k0_pay21 (F := Ideal) Y R D q i = q i + k0_pay20 (F := Ideal) Y R D i := by
  unfold k0_pay21; rw [shapeCast_self]; rfl
theorem add16 (C V : FVec Ideal S640x1024 .f32) (q : Vec Ideal S1024x1024 .f32) (i : S1024x1024.Idx) :
    k0_pay24 (F := Ideal) C V q i = q i + k0_pay23 (F := Ideal) C V i := by
  unfold k0_pay24; rw [shapeCast_self]; rfl
theorem add17 (X : FVec Ideal S640x512 .f32) (R : FVec Ideal S640x1 .f32) (V : FVec Ideal S640x1024 .f32) (w : Vec Ideal S1024x1024 .bf16)
    (q : Vec Ideal S1x512 .f32) (i : S1x512.Idx) :
    k0_pay30 (F := Ideal) X R V w q i = q i + k0_pay29 (F := Ideal) X R V w i := by
  unfold k0_pay30; rw [shapeCast_self]; rfl

/-- The block results at each point. -/
theorem outs_rows (t : Fin cfg0.N) : (outsAt0 m c t.val t.isLt).1 = o9 m c t ∧ (outsAt0 m c t.val t.isLt).2.1 = o10 m c t
    ∧ (outsAt0 m c t.val t.isLt).2.2.1 = o11 m c t ∧ (outsAt0 m c t.val t.isLt).2.2.2.1 = o12 m c t := by
  have h26 := lt_of_lt_of_eq t.isLt points
  by_cases h : t.val = 0
  · rw [out_A m c t (by omega) (by omega)]; exact ⟨rfl, rfl, rfl, rfl⟩
  · rw [out_B m c t (by omega) (by omega)]; exact ⟨rfl, rfl, rfl, rfl⟩

/-- The running results after each point. -/
theorem outs14 (i : S1x1.Idx) (n : ℕ) (hn : n < cfg0.N) :
    (outsAt0 m c n hn).2.2.2.2.2.1 i = ∑ k : Fin (n + 1), o14 m c ⟨k.val, lt_of_le_of_lt (Nat.le_of_lt_succ k.isLt) hn⟩ i := by
  refine running (fun n h => (outsAt0 m c n h).2.2.2.2.2.1 i) (fun n h => o14 m c ⟨n, h⟩ i) (fun h => ?_) (fun n h => ?_) n hn
  · rw [out_A m c ⟨0, h⟩ rfl (by simp)]
  · have h26 := lt_of_lt_of_eq h points
    rw [out_B m c ⟨n + 1, h⟩ (by show ¬ (n + 1) % 26 = 0; omega) (by show 1 ≤ n + 1; omega)]
    exact add14 _ _ i
theorem outs15 (i : S1x1024.Idx) (n : ℕ) (hn : n < cfg0.N) :
    (outsAt0 m c n hn).2.2.2.2.2.2.1 i = ∑ k : Fin (n + 1), o15 m c ⟨k.val, lt_of_le_of_lt (Nat.le_of_lt_succ k.isLt) hn⟩ i := by
  refine running (fun n h => (outsAt0 m c n h).2.2.2.2.2.2.1 i) (fun n h => o15 m c ⟨n, h⟩ i) (fun h => ?_) (fun n h => ?_) n hn
  · rw [out_A m c ⟨0, h⟩ rfl (by simp)]
  · have h26 := lt_of_lt_of_eq h points
    rw [out_B m c ⟨n + 1, h⟩ (by show ¬ (n + 1) % 26 = 0; omega) (by show 1 ≤ n + 1; omega)]
    exact add15 _ _ _ _ i
theorem outs16 (i : S1024x1024.Idx) (n : ℕ) (hn : n < cfg0.N) :
    (outsAt0 m c n hn).2.2.2.2.2.2.2.1 i = ∑ k : Fin (n + 1), o16 m c ⟨k.val, lt_of_le_of_lt (Nat.le_of_lt_succ k.isLt) hn⟩ i := by
  refine running (fun n h => (outsAt0 m c n h).2.2.2.2.2.2.2.1 i) (fun n h => o16 m c ⟨n, h⟩ i) (fun h => ?_) (fun n h => ?_) n hn
  · rw [out_A m c ⟨0, h⟩ rfl (by simp)]
  · have h26 := lt_of_lt_of_eq h points
    rw [out_B m c ⟨n + 1, h⟩ (by show ¬ (n + 1) % 26 = 0; omega) (by show 1 ≤ n + 1; omega)]
    exact add16 _ _ _ i
theorem outs17 (i : S1x512.Idx) (n : ℕ) (hn : n < cfg0.N) :
    (outsAt0 m c n hn).2.2.2.2.2.2.2.2 i = ∑ k : Fin (n + 1), o17 m c ⟨k.val, lt_of_le_of_lt (Nat.le_of_lt_succ k.isLt) hn⟩ i := by
  refine running (fun n h => (outsAt0 m c n h).2.2.2.2.2.2.2.2 i) (fun n h => o17 m c ⟨n, h⟩ i) (fun h => ?_) (fun n h => ?_) n hn
  · rw [out_A m c ⟨0, h⟩ rfl (by simp)]
  · have h26 := lt_of_lt_of_eq h points
    rw [out_B m c ⟨n + 1, h⟩ (by show ¬ (n + 1) % 26 = 0; omega) (by show 1 ≤ n + 1; omega)]
    exact add17 _ _ _ _ _ i

end Out.Arr
-- ==== Proof.OutElt.lean ====
/- What a point of the output projection's region computes, element by element. -/
module

public import proofs.«01_k».proof.Proof.OutPts
public import Idealize.ShloMosaic.Lib.Pointwise
public import Idealize.ShloMosaic.Lib.Pipeline.ValueKit

@[expose] public section

set_option maxRecDepth 16384

noncomputable section

namespace Out.Arr

open Idealize.ShloMosaic Idealize.ShloMosaic.TcCoe Idealize.SL.Sem
open Idealize.ShloMosaic.Pipeline (Dat)
open Cert.Kernel4Ideal Cert.Kernel4Ideal.Gen
open Out Out.Pay ProjMath
open scoped BigOperators

variable (m : (ℓ : Loc nD τ sig) → Buf (Elt Ideal) ℓ) (c : Dev nD)

/-! ## The blocks' elements, out of the arrays -/

theorem idxs : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![0, 0] ∧ win0_6.index t = ![0, 0]
    ∧ win0_7.index t = ![0, 0] ∧ win0_9.index t = ![t.val, 0] ∧ win0_10.index t = ![t.val, 0] ∧ win0_11.index t = ![t.val, 0]
    ∧ win0_12.index t = ![t.val, 0] ∧ win0_14.index t = ![0, 0] ∧ win0_15.index t = ![0, 0] ∧ win0_16.index t = ![0, 0]
    ∧ win0_17.index t = ![0, 0] :=
  (by decide +kernel : ∀ t : Fin grid0.N, _)

theorem num_eq : ∀ t : Fin cfg0.N, num t = BitVec.ofNat 32 t.val :=
  (by decide +kernel : ∀ t : Fin grid0.N, BitVec.ofNat 32 ((grid0.coords t) 0).val = BitVec.ofNat 32 t.val)

/-- The row of the array that row `a` of the block at point `t` is. -/
def rowAt (t : Fin cfg0.N) (a : Fin 640) : Fin 16640 := ⟨t.val * 640 + a.val, by have := lt_of_lt_of_eq t.isLt points; omega⟩

section Elements
variable (t : Fin cfg0.N) (a : Fin 640)

/-- The token's row at row `a` of the block. -/
abbrev ρ : Row := (kargs m c).lay (rowAt t a)
abbrev ω : Wts := (kargs m c).W

/-- What a row in the kernel's order brings: a token's or a blank's. -/
theorem of_lay (A : Args) (f : Row → EReal) (r : Fin 16640) :
    f (A.lay r) = if hp : AttnMath.rowPos r.val < 16400 then f (A.row ⟨AttnMath.rowPos r.val, hp⟩) else f blank := by
  unfold Args.lay
  by_cases hp : AttnMath.rowPos r.val < 16400
  · rw [dif_pos hp, dif_pos hp]
  · rw [dif_neg hp, dif_neg hp]

theorem blk0 (X : Vec Ideal S16640x512 .f32) (b : Fin 512) :
    ((cfg0.win 0).blk t).view.read (Elt Ideal) X (ix2 a b) = X (ix2 (rowAt t a) b) := by
  unfold rowAt; blk_ext [idxs t]
theorem e0 (b : Fin 512) : i0 m c t (ix2 a b) = (ρ m c t a).o b :=
  (blk0 t a (V m c main_v11) b).trans ((Host.rows0 m c (rowAt t a) b).trans (of_lay (kargs m c) (fun ρ => ρ.o b) (rowAt t a)).symm)
theorem blk1 (X : Vec Ideal S16640x512 .f32) (b : Fin 512) :
    ((cfg0.win 1).blk t).view.read (Elt Ideal) X (ix2 a b) = X (ix2 (rowAt t a) b) := by
  unfold rowAt; blk_ext [idxs t]
theorem e1 (b : Fin 512) : i1 m c t (ix2 a b) = (ρ m c t a).g b :=
  (blk1 t a (V m c main_v16) b).trans ((Host.rows1 m c (rowAt t a) b).trans (of_lay (kargs m c) (fun ρ => ρ.g b) (rowAt t a)).symm)
theorem blk2 (X : Vec Ideal S16640x512 .f32) (b : Fin 512) :
    ((cfg0.win 2).blk t).view.read (Elt Ideal) X (ix2 a b) = X (ix2 (rowAt t a) b) := by
  unfold rowAt; blk_ext [idxs t]
theorem e2 (b : Fin 512) : i2 m c t (ix2 a b) = (ρ m c t a).u b :=
  (blk2 t a (V m c main_v21) b).trans ((Host.rows2 m c (rowAt t a) b).trans (of_lay (kargs m c) (fun ρ => ρ.u b) (rowAt t a)).symm)
theorem blk3 (X : Vec Ideal S16640x1024 .f32) (b : Fin 1024) :
    ((cfg0.win 3).blk t).view.read (Elt Ideal) X (ix2 a b) = X (ix2 (rowAt t a) b) := by
  unfold rowAt; blk_ext [idxs t]
theorem e3 (b : Fin 1024) : i3 m c t (ix2 a b) = (ρ m c t a).h b :=
  (blk3 t a (V m c main_v26) b).trans ((Host.rows3 m c (rowAt t a) b).trans (of_lay (kargs m c) (fun ρ => ρ.h b) (rowAt t a)).symm)
theorem blk4 (X : Vec Ideal S16640x1024 .f32) (b : Fin 1024) :
    ((cfg0.win 4).blk t).view.read (Elt Ideal) X (ix2 a b) = X (ix2 (rowAt t a) b) := by
  unfold rowAt; blk_ext [idxs t]
theorem e4 (b : Fin 1024) : i4 m c t (ix2 a b) = (ρ m c t a).t b :=
  (blk4 t a (V m c main_v6) b).trans ((Host.rows4 m c (rowAt t a) b).trans (of_lay (kargs m c) (fun ρ => ρ.t b) (rowAt t a)).symm)
theorem e5 (k e : Fin 1024) : i5 m c t (ix2 k e) = (ω m c).w k e := by
  trans (V m c main_v27 : Vec Ideal S1024x1024 .bf16) (ix2 k e)
  · unfold i5; blk_ext [iblk, idxs t]
  · exact Host.weights m c k e
theorem e6 (b : Fin 1024) : i6 m c t (ix2 0 b) = (ω m c).pw b := by
  show _ = Host.a6 m c (ix2 0 b)
  unfold Host.a6; rw [← V_main_arg6 m c]; unfold i6; blk_ext [iblk, idxs t]
theorem e7 (b : Fin 512) : i7 m c t (ix2 0 b) = (ω m c).aw b := by
  show _ = Host.a7 m c (ix2 0 b)
  unfold Host.a7; rw [← V_main_arg7 m c]; unfold i7; blk_ext [iblk, idxs t]

/-! ## What a point computes, in terms of the token's row -/

theorem sg_eq (j : Fin 512) : k0_pay5 (F := Ideal) (i1 m c t) (ix2 a j) = (ρ m c t a).sg j := by rw [p5, e1]; rfl
theorem sl_eq (j : Fin 512) : k0_pay6 (F := Ideal) (i1 m c t) (ix2 a j) = (ρ m c t a).sl j := by rw [p6, sg_eq, e1]; rfl
theorem dsl_eq (j : Fin 512) : k0_pay7 (F := Ideal) (i1 m c t) (ix2 a j) = (ρ m c t a).dsl j := by rw [p7, sg_eq, e1]; rfl
theorem x_eq (j : Fin 512) : bX m c t (ix2 a j) = (ρ m c t a).x j := by unfold bX; rw [p8, sl_eq, e0]; rfl
theorem ra_eq : bA m c t (ix2 a 0) = (ρ m c t a).ra := by
  unfold bA; rw [p9]
  have h := x_eq m c t a
  unfold bX at h
  simp only [h]; rfl
theorem cat_eq (k : Fin 1024) : bC m c t (ix2 a k) = (ρ m c t a).cat (ω m c) k := by
  unfold bC; rw [p10]
  have h := x_eq m c t a
  have h' := ra_eq m c t a
  unfold bX at h
  unfold bA at h'
  simp only [h, h', e7, e2]; rfl
theorem y_eq (e : Fin 1024) : bY m c t (ix2 a e) = (ρ m c t a).y (ω m c) e := by
  unfold bY; rw [p11]
  have h := cat_eq m c t a
  unfold bC at h
  simp only [h, e5]; rfl
theorem q_eq (e : Fin 1024) : bQ m c t (ix2 a e) = (ρ m c t a).y (ω m c) e * (ρ m c t a).y (ω m c) e := by
  unfold bQ
  exact (p12 _ _ _ _ _ a e).trans (congrArg₂ (· * ·) (y_eq m c t a e) (y_eq m c t a e))
theorem ry_eq : k0_pay13 (F := Ideal) (bQ m c t) (ix2 a 0) = (ρ m c t a).ry (ω m c) := by
  unfold Row.ry rr sq
  exact (p13 _ a).trans (congrArg (fun z => Ideal.rsqrt (Ideal.div z len10 + eps)) (Finset.sum_congr rfl fun k _ => q_eq m c t a k))
theorem on_iff : (ρ m c t a).on ↔ bit (num t) a = 1#1 := by
  have h := bit_iff ⟨t.val, lt_of_lt_of_eq t.isLt points⟩ a
  rw [num_eq]
  refine Iff.trans ?_ h.symm
  unfold ρ Args.lay
  by_cases hp : AttnMath.rowPos (rowAt t a).val < 16400
  · rw [dif_pos hp]; exact ⟨fun q => ⟨q, hp⟩, fun q => q.1⟩
  · rw [dif_neg hp]; exact ⟨fun q => absurd q id, fun q => absurd q.2 hp⟩
theorem diff_eq (e : Fin 1024) : bD m c t (ix2 a e) = (ρ m c t a).diff (ω m c) e := by
  unfold bD; rw [p14, y_eq, ry_eq, e3, e4, e6, zer_eq]
  unfold Row.diff
  by_cases h : bit (num t) a = 1#1
  · rw [if_pos h, if_pos ((on_iff m c t a).mpr h)]
  · rw [if_neg h, if_neg fun q => h ((on_iff m c t a).mp q)]
theorem add_9 (e : Fin 1024) : o9 m c t (ix2 a e) = (ρ m c t a).dout (ω m c) e := by
  unfold o9; rw [p15]
  have h := diff_eq m c t a e
  unfold bD at h
  rw [h]; rfl
theorem dy_eq (e : Fin 1024) : bV m c t (ix2 a e) = (ρ m c t a).dy (ω m c) e := by
  unfold bV; rw [p19]
  have h := add_9 m c t a
  unfold o9 at h
  unfold bR
  simp only [h, y_eq, ry_eq, e6]; rfl
theorem dcat_eq (k : Fin 1024) : k0_pay22 (F := Ideal) (bV m c t) (i5 m c t) (ix2 a k) = (ρ m c t a).dcat (ω m c) k := by
  rw [p22]
  simp only [dy_eq, e5]; rfl
theorem dya_eq (j : Fin 512) : k0_pay26 (F := Ideal) (bV m c t) (i5 m c t) (ix2 a j) = (ρ m c t a).dya (ω m c) j := by
  rw [p26, dcat_eq]; rfl
theorem dt_eq (j : Fin 512) : k0_pay28 (F := Ideal) (i7 m c t) (bX m c t) (bA m c t) (bV m c t) (i5 m c t) (ix2 a j) = (ρ m c t a).dt (ω m c) j := by
  rw [p28]
  simp only [dya_eq, x_eq, ra_eq, e7]; rfl
theorem add_10 (j : Fin 512) : o10 m c t (ix2 a j) = (ρ m c t a).dO (ω m c) j := by
  unfold o10; rw [p31, dt_eq, sl_eq]; rfl
theorem add_11 (j : Fin 512) : o11 m c t (ix2 a j) = (ρ m c t a).dag (ω m c) j := by
  unfold o11; rw [p1, dt_eq, dsl_eq, p3, e0]; rfl
theorem add_12 (j : Fin 512) : o12 m c t (ix2 a j) = (ρ m c t a).dys (ω m c) j := by
  unfold o12; rw [p25, dcat_eq]; rfl
end Elements

section Sums
variable (t : Fin cfg0.N)

theorem add_14 : o14 m c t (ix2 0 0) = ∑ a : Fin 640, half * (ρ m c t a).loss (ω m c) * part := by
  unfold o14; rw [p16]
  simp only [diff_eq]
  exact loss_inner _ _
theorem add_15 (e : Fin 1024) : o15 m c t (ix2 0 e) = ∑ a : Fin 640, (ρ m c t a).dpw (ω m c) e := by
  unfold o15; rw [p20]
  unfold bR
  simp only [add_9, y_eq, ry_eq]; rfl
theorem add_16 (k e : Fin 1024) : o16 m c t (ix2 k e) = ∑ a : Fin 640, (ρ m c t a).dwo (ω m c) k e := by
  unfold o16; rw [p23]
  simp only [cat_eq, dy_eq]; rfl
theorem add_17 (j : Fin 512) : o17 m c t (ix2 0 j) = ∑ a : Fin 640, (ρ m c t a).daw (ω m c) j := by
  unfold o17; rw [p29]
  simp only [dya_eq, x_eq, ra_eq]; rfl
end Sums

end Out.Arr
-- ==== Proof.OutArr.lean ====
/- What the output projection's region leaves in its result arrays. -/
module

public import proofs.«01_k».proof.Proof.OutElt
public import Idealize.ShloMosaic.Lib.Pointwise
public import Idealize.ShloMosaic.Lib.Pipeline.ValueKit

@[expose] public section

set_option maxRecDepth 16384

noncomputable section

namespace Out.Arr

open Idealize.ShloMosaic Idealize.ShloMosaic.TcCoe Idealize.SL.Sem
open Idealize.ShloMosaic.Pipeline (Dat)
open Cert.Kernel4Ideal Cert.Kernel4Ideal.Gen
open Out Out.Pay
open scoped BigOperators

variable (m : (ℓ : Loc nD τ sig) → Buf (Elt Ideal) ℓ) (c : Dev nD)

/-! ## The arrays after the run -/

/-- The last point. -/
abbrev lastPt : Fin cfg0.N := ⟨25, lt_of_lt_of_eq (by omega) points.symm⟩

/-- The row results, whole. -/
def r9 : Vec Ideal S16640x1024 .f32 := fun i => ((kargs m c).lay (i 0)).dout (ω m c) (i 1)
def r10 : Vec Ideal S16640x512 .f32 := fun i => ((kargs m c).lay (i 0)).dO (ω m c) (i 1)
def r11 : Vec Ideal S16640x512 .f32 := fun i => ((kargs m c).lay (i 0)).dag (ω m c) (i 1)
def r12 : Vec Ideal S16640x512 .f32 := fun i => ((kargs m c).lay (i 0)).dys (ω m c) (i 1)
/-- The summed results, whole. -/
def r14 : Vec Ideal S1x1 .f32 := fun _ => ∑ p, half * ((kargs m c).row p).loss (ω m c) * part
def r15 : Vec Ideal S1x1024 .f32 := fun i => ∑ p, ((kargs m c).row p).dpw (ω m c) (i 1)
def r16 : Vec Ideal S1024x1024 .f32 := fun i => ∑ p, ((kargs m c).row p).dwo (ω m c) (i 0) (i 1)
def r17 : Vec Ideal S1x512 .f32 := fun i => ∑ p, ((kargs m c).row p).daw (ω m c) (i 1)

/-- What the points add up to is what the tokens add up to. -/
theorem total (f : Row → EReal) (h : f blank = 0) :
    (∑ k : Fin 26, ∑ a : Fin 640, f (ρ m c (k.cast points.symm) a)) = ∑ p, f ((kargs m c).row p) := by
  rw [← (kargs m c).sum_lay f h, ← sum_rows]
  rfl

theorem arr9 : (dats m 0 c).arrAt 9 cfg0.N = r9 m c := by
  refine (dats m 0 c).arrAt_eq_of_covers 9 _ (by decide +kernel) fun t hf y => ?_
  blk_simp
  rw [after0_9, (outs_rows m c t).1]
  obtain ⟨a, b, rfl⟩ : ∃ (a : Fin 640) (b : Fin 1024), y = ix2 a b := ⟨y 0, y 1, eq_ix2 y⟩
  refine (add_9 m c t a b).trans ?_
  show r9 m c (ix2 (rowAt t a) b) = _
  refine congrArg _ ?_
  have h0 : win0_9.index t 0 = t.val := by rw [(idxs t).2.2.2.2.2.2.2.2.1]; rfl
  have h1 : win0_9.index t 1 = 0 := by rw [(idxs t).2.2.2.2.2.2.2.2.1]; rfl
  blk_ext [rowAt, h0, h1]
theorem arr10 : (dats m 0 c).arrAt 10 cfg0.N = r10 m c := by
  refine (dats m 0 c).arrAt_eq_of_covers 10 _ (by decide +kernel) fun t hf y => ?_
  blk_simp
  rw [after0_10, (outs_rows m c t).2.1]
  obtain ⟨a, b, rfl⟩ : ∃ (a : Fin 640) (b : Fin 512), y = ix2 a b := ⟨y 0, y 1, eq_ix2 y⟩
  refine (add_10 m c t a b).trans ?_
  show r10 m c (ix2 (rowAt t a) b) = _
  refine congrArg _ ?_
  have h0 : win0_10.index t 0 = t.val := by rw [(idxs t).2.2.2.2.2.2.2.2.2.1]; rfl
  have h1 : win0_10.index t 1 = 0 := by rw [(idxs t).2.2.2.2.2.2.2.2.2.1]; rfl
  blk_ext [rowAt, h0, h1]
theorem arr11 : (dats m 0 c).arrAt 11 cfg0.N = r11 m c := by
  refine (dats m 0 c).arrAt_eq_of_covers 11 _ (by decide +kernel) fun t hf y => ?_
  blk_simp
  rw [after0_11, (outs_rows m c t).2.2.1]
  obtain ⟨a, b, rfl⟩ : ∃ (a : Fin 640) (b : Fin 512), y = ix2 a b := ⟨y 0, y 1, eq_ix2 y⟩
  refine (add_11 m c t a b).trans ?_
  show r11 m c (ix2 (rowAt t a) b) = _
  refine congrArg _ ?_
  have h0 : win0_11.index t 0 = t.val := by rw [(idxs t).2.2.2.2.2.2.2.2.2.2.1]; rfl
  have h1 : win0_11.index t 1 = 0 := by rw [(idxs t).2.2.2.2.2.2.2.2.2.2.1]; rfl
  blk_ext [rowAt, h0, h1]
theorem arr12 : (dats m 0 c).arrAt 12 cfg0.N = r12 m c := by
  refine (dats m 0 c).arrAt_eq_of_covers 12 _ (by decide +kernel) fun t hf y => ?_
  blk_simp
  rw [after0_12, (outs_rows m c t).2.2.2]
  obtain ⟨a, b, rfl⟩ : ∃ (a : Fin 640) (b : Fin 512), y = ix2 a b := ⟨y 0, y 1, eq_ix2 y⟩
  refine (add_12 m c t a b).trans ?_
  show r12 m c (ix2 (rowAt t a) b) = _
  refine congrArg _ ?_
  have h0 : win0_12.index t 0 = t.val := by rw [(idxs t).2.2.2.2.2.2.2.2.2.2.2.1]; rfl
  have h1 : win0_12.index t 1 = 0 := by rw [(idxs t).2.2.2.2.2.2.2.2.2.2.2.1]; rfl
  blk_ext [rowAt, h0, h1]

theorem arr14 : (dats m 0 c).arrAt 14 cfg0.N = r14 m c := by
  refine (dats m 0 c).arrAt_eq_of_covers 14 _ (by decide +kernel) fun t hf y => ?_
  have h25 := (flush0_14 t).mp hf
  have h26 := lt_of_lt_of_eq t.isLt points
  obtain rfl : t = lastPt := Fin.ext (by show t.val = 25; omega)
  blk_simp
  rw [after0_14]
  obtain rfl : y = ix2 0 0 := (eq_ix2 y).trans (congrArg₂ ix2 (Subsingleton.elim _ _) (Subsingleton.elim _ _))
  refine (outs14 m c (ix2 0 0) 25 _).trans ?_
  show _ = ∑ p, half * ((kargs m c).row p).loss (ω m c) * part
  rw [← total m c (fun ρ => half * ρ.loss (ω m c) * part) (by show half * blank.loss _ * part = 0; rw [blank_loss, mul_zero, zero_mul])]
  exact Finset.sum_congr rfl fun k _ => add_14 m c _
theorem arr15 : (dats m 0 c).arrAt 15 cfg0.N = r15 m c := by
  refine (dats m 0 c).arrAt_eq_of_covers 15 _ (by decide +kernel) fun t hf y => ?_
  have h25 := (flush0_15 t).mp hf
  have h26 := lt_of_lt_of_eq t.isLt points
  obtain rfl : t = lastPt := Fin.ext (by show t.val = 25; omega)
  blk_simp
  rw [after0_15]
  obtain ⟨b, rfl⟩ : ∃ b : Fin 1024, y = ix2 0 b := ⟨y 1, (eq_ix2 y).trans (congrArg (ix2 · (y 1)) (Subsingleton.elim _ _))⟩
  refine (outs15 m c (ix2 0 b) 25 _).trans ?_
  trans r15 m c (ix2 0 b)
  · show _ = ∑ p, ((kargs m c).row p).dpw (ω m c) b
    rw [← total m c (fun ρ => ρ.dpw (ω m c) b) (blank_dpw _ _)]
    exact Finset.sum_congr rfl fun k _ => add_15 m c _ b
  · refine congrArg _ ?_
    blk_ext [idxs lastPt]
theorem arr16 : (dats m 0 c).arrAt 16 cfg0.N = r16 m c := by
  refine (dats m 0 c).arrAt_eq_of_covers 16 _ (by decide +kernel) fun t hf y => ?_
  have h25 := (flush0_16 t).mp hf
  have h26 := lt_of_lt_of_eq t.isLt points
  obtain rfl : t = lastPt := Fin.ext (by show t.val = 25; omega)
  blk_simp
  rw [after0_16]
  obtain ⟨a, b, rfl⟩ : ∃ (a b : Fin 1024), y = ix2 a b := ⟨y 0, y 1, eq_ix2 y⟩
  refine (outs16 m c (ix2 a b) 25 _).trans ?_
  trans r16 m c (ix2 a b)
  · show _ = ∑ p, ((kargs m c).row p).dwo (ω m c) a b
    rw [← total m c (fun ρ => ρ.dwo (ω m c) a b) (blank_dwo _ _ _)]
    exact Finset.sum_congr rfl fun k _ => add_16 m c _ a b
  · refine congrArg _ ?_
    blk_ext [idxs lastPt]
theorem arr17 : (dats m 0 c).arrAt 17 cfg0.N = r17 m c := by
  refine (dats m 0 c).arrAt_eq_of_covers 17 _ (by decide +kernel) fun t hf y => ?_
  have h25 := (flush0_17 t).mp hf
  have h26 := lt_of_lt_of_eq t.isLt points
  obtain rfl : t = lastPt := Fin.ext (by show t.val = 25; omega)
  blk_simp
  rw [after0_17]
  obtain ⟨b, rfl⟩ : ∃ b : Fin 512, y = ix2 0 b := ⟨y 1, (eq_ix2 y).trans (congrArg (ix2 · (y 1)) (Subsingleton.elim _ _))⟩
  refine (outs17 m c (ix2 0 b) 25 _).trans ?_
  trans r17 m c (ix2 0 b)
  · show _ = ∑ p, ((kargs m c).row p).daw (ω m c) b
    rw [← total m c (fun ρ => ρ.daw (ω m c) b) (blank_daw _ _)]
    exact Finset.sum_congr rfl fun k _ => add_17 m c _ b
  · refine congrArg _ ?_
    blk_ext [idxs lastPt]

end Out.Arr
-- ==== Proof.OutRef.lean ====
/- What the reference's results of the output projection are, token by token. -/
module

public import proofs.«01_k».proof.Proof.Gen.Reference4Ideal.Read
public import proofs.«01_k».proof.Proof.OutMath
public import Idealize.ShloMosaic.Lib.KernelVsHost
public import Idealize.ShloMosaic.Lib.Pipeline.Value

@[expose] public section

set_option maxRecDepth 16384

noncomputable section

namespace Out.Ref

open Idealize.ShloMosaic Idealize.ShloMosaic.TcCoe
open Cert.Reference4Ideal Cert.Reference4Ideal.Gen Cert.Reference4Ideal.Read
open Out ProjMath
open scoped BigOperators

variable (x0 x1 x2 : Vec Ideal S16400x512 .f32) (x3 : Vec Ideal S16400x1024 .f32) (x4 : Vec Ideal S16384x1024 .f32)
  (x5 : Vec Ideal S1024x1024 .f32) (x6 : Vec Ideal S1x1024 .f32) (x7 : Vec Ideal S1x512 .f32)

/-- The arguments' elements. -/
def args : Args where
  o p d := x0 (ix2 p d)
  g p d := x1 (ix2 p d)
  u p d := x2 (ix2 p d)
  h p d := x3 (ix2 p d)
  t p d := x4 (ix2 p d)
  W := ⟨fun k e => x5 (ix2 k e), fun e => x6 (ix2 0 e), fun j => x7 (ix2 0 j)⟩

/-- A token's row. -/
def tok (p : Fin 16400) : Row := (args x0 x1 x2 x3 x4 x5 x6 x7).row p
/-- The weights. -/
def wts : Wts := (args x0 x1 x2 x3 x4 x5 x6 x7).W

local notation "ℝo" => tok x0 x1 x2 x3 x4 x5 x6 x7
local notation "𝕎" => wts x0 x1 x2 x3 x4 x5 x6 x7

/-- A sum with a zero start. -/
theorem from_zero {z s t : EReal} (hz : z = 0) (hs : s = t) : z + s = t := by rw [hz, hs, zero_add]

/-! ## The forward pass -/

theorem sg_eq (p : Fin 16400) (j : Fin 512) : val_main_v0_2 (F := Ideal) x1 (ix2 p j) = (ℝo p).sg j := by
  rw [val_main_v0_2_apply, val_main_call0_v4_apply, val_main_call0_v3_apply, val_main_call0_v2_apply, val_main_call0_v1_apply, val_main_call0_v0_apply]
  unfold Row.sg
  rw [neg_real]
  rfl
theorem sl_eq (p : Fin 16400) (j : Fin 512) : val_main_v0_0 (F := Ideal) x1 (ix2 p j) = (ℝo p).sl j := by
  rw [val_main_v0_0_apply, sg_eq x0 x1 x2 x3 x4 x5 x6 x7]; rfl
theorem slope_eq (p : Fin 16400) (j : Fin 512) : val_main_v0_1 (F := Ideal) x1 (ix2 p j) = (ℝo p).sg j * (one - (ℝo p).sg j) := by
  rw [val_main_v0_1_apply, val_main_call0_v7_apply, val_main_call0_v6_apply, sg_eq x0 x1 x2 x3 x4 x5 x6 x7]; rfl
theorem x_eq (p : Fin 16400) (j : Fin 512) : val_main_v1 (F := Ideal) x0 x1 (ix2 p j) = (ℝo p).x j := by
  rw [val_main_v1_apply, sl_eq x0 x1 x2 x3 x4 x5 x6 x7]; rfl
theorem sqa_eq (p : Fin 16400) : val_main_v8 (F := Ideal) x0 x1 (ix2 p 0) = sq len5 (ℝo p).x := by
  rw [val_main_v8_apply, val_main_v6_apply, val_main_v4_apply, val_main_v3_apply, val_main_v5_apply, val_main_v7_apply]
  unfold sq
  refine congrArg (fun z => Ideal.div z len5 + eps) (from_zero Ideal.ofBits_zero_f32 (Finset.sum_congr rfl fun k _ => ?_))
  rw [val_main_v2_apply, ← x_eq x0 x1 x2 x3 x4 x5 x6 x7]
  exact congrArg (fun i => val_main_v1 (F := Ideal) x0 x1 i * val_main_v1 (F := Ideal) x0 x1 i) (eq_ix2 _)
theorem ra_eq (p : Fin 16400) : val_main_v9 (F := Ideal) x0 x1 (ix2 p 0) = (ℝo p).ra := by
  rw [val_main_v9_apply, sqa_eq x0 x1 x2 x3 x4 x5 x6 x7]; rfl
theorem xa_eq (p : Fin 16400) (j : Fin 512) : val_main_v14 (F := Ideal) x0 x1 (ix2 p j) = (ℝo p).x j * (ℝo p).ra := by
  rw [val_main_v14_apply, val_main_v13_apply, x_eq x0 x1 x2 x3 x4 x5 x6 x7, ← ra_eq x0 x1 x2 x3 x4 x5 x6 x7]
  exact congrArg ((ℝo p).x j * ·) (congrArg _ (eq_ix2 _))
theorem cat_eq (p : Fin 16400) (k : Fin 1024) : val_main_v17 (F := Ideal) x0 x1 x2 x7 (ix2 p k) = (ℝo p).cat 𝕎 k := by
  have hk := k.isLt
  unfold Row.cat val_main_v17
  by_cases h0 : k.val < 512
  · rw [dif_pos h0]
    refine (concatenate_apply_piece (t := S16400x1024) 1 _ _ _ 0 ?_ S16400x512 (val_main_v16 (F := Ideal) x0 x1 x7) ?_ rfl 0 ?_ (ix2 p ⟨k.val, h0⟩) (fun d hd => ?_) ?_).trans ?_
    · simp
    · rfl
    · rfl
    · fin_cases d <;> [rfl; exact absurd rfl hd]
    · show 0 + k.val = k.val; omega
    · rw [val_main_v16_apply, val_main_v15_apply, xa_eq x0 x1 x2 x3 x4 x5 x6 x7]
      exact congrArg (_ * ·) (congrArg x7 (eq_ix2 _))
  · rw [dif_neg h0]
    refine concatenate_apply_piece (t := S16400x1024) 1 _ _ _ 1 ?_ S16400x512 x2 ?_ rfl 512 ?_ (ix2 p ⟨k.val - 512, by omega⟩) (fun d hd => ?_) ?_
    · simp
    · rfl
    · rfl
    · fin_cases d <;> [rfl; exact absurd rfl hd]
    · show 512 + (k.val - 512) = k.val; omega
theorem y_eq (p : Fin 16400) (e : Fin 1024) : val_main_v18 (F := Ideal) x0 x1 x2 x5 x7 (ix2 p e) = (ℝo p).y 𝕎 e := by
  rw [val_main_v18_apply]
  refine Finset.sum_congr rfl fun k _ => ?_
  exact congrArg₂ (· * ·) ((congrArg _ (eq_ix2 _)).trans (cat_eq x0 x1 x2 x3 x4 x5 x6 x7 p k)) (congrArg x5 (eq_ix2 _))
theorem sqy_eq (p : Fin 16400) : val_main_v25 (F := Ideal) x0 x1 x2 x5 x7 (ix2 p 0) = sq len10 ((ℝo p).y 𝕎) := by
  rw [val_main_v25_apply, val_main_v23_apply, val_main_v21_apply, val_main_v20_apply, val_main_v22_apply, val_main_v24_apply]
  unfold sq
  refine congrArg (fun z => Ideal.div z len10 + eps) (from_zero Ideal.ofBits_zero_f32 (Finset.sum_congr rfl fun k _ => ?_))
  rw [val_main_v19_apply, ← y_eq x0 x1 x2 x3 x4 x5 x6 x7]
  exact congrArg (fun i => val_main_v18 (F := Ideal) x0 x1 x2 x5 x7 i * val_main_v18 (F := Ideal) x0 x1 x2 x5 x7 i) (eq_ix2 _)
theorem ry_eq (p : Fin 16400) : val_main_v26 (F := Ideal) x0 x1 x2 x5 x7 (ix2 p 0) = (ℝo p).ry 𝕎 := by
  rw [val_main_v26_apply, sqy_eq x0 x1 x2 x3 x4 x5 x6 x7]; rfl
theorem yn_eq (p : Fin 16400) (e : Fin 1024) : val_main_v31 (F := Ideal) x0 x1 x2 x5 x7 (ix2 p e) = (ℝo p).y 𝕎 e * (ℝo p).ry 𝕎 := by
  rw [val_main_v31_apply, val_main_v30_apply, y_eq x0 x1 x2 x3 x4 x5 x6 x7, ← ry_eq x0 x1 x2 x3 x4 x5 x6 x7]
  exact congrArg ((ℝo p).y 𝕎 e * ·) (congrArg _ (eq_ix2 _))
theorem out_eq (p : Fin 16400) (e : Fin 1024) :
    val_main_v34 (F := Ideal) x0 x1 x2 x3 x5 x6 x7 (ix2 p e) = (ℝo p).h e + (ℝo p).y 𝕎 e * (ℝo p).ry 𝕎 * (𝕎).pw e := by
  rw [val_main_v34_apply, val_main_v33_apply, val_main_v32_apply, yn_eq x0 x1 x2 x3 x4 x5 x6 x7]
  exact congrArg (fun z => x3 (ix2 p e) + (ℝo p).y 𝕎 e * (ℝo p).ry 𝕎 * z) (congrArg x6 (eq_ix2 _))
theorem diff_eq (p : Fin 16400) (hp : 16 ≤ p.val) (e : Fin 1024) :
    val_main_v36 (F := Ideal) x0 x1 x2 x3 x4 x5 x6 x7 (ix2 ⟨p.val - 16, by omega⟩ e) = (ℝo p).diff 𝕎 e := by
  have hh : val_main_v35 (F := Ideal) x0 x1 x2 x3 x5 x6 x7 (ix2 ⟨p.val - 16, by omega⟩ e) = (ℝo p).h e + (ℝo p).y 𝕎 e * (ℝo p).ry 𝕎 * (𝕎).pw e := by
    rw [val_main_v35_apply, ← out_eq x0 x1 x2 x3 x4 x5 x6 x7]
    refine congrArg _ (funext fun a => ?_)
    fin_cases a
    · exact Fin.ext (by show 16 + (p.val - 16) = p.val; omega)
    · rfl
  have ht : x4 (ix2 ⟨p.val - 16, by omega⟩ e) = (ℝo p).t e := by
    unfold tok Args.row
    show _ = if hp : p.val < 16 then _ else _
    rw [dif_neg (by omega)]; rfl
  unfold Row.diff
  rw [val_main_v36_apply, hh, ht]
  exact (if_pos hp).symm
theorem diff_off (p : Fin 16400) (hp : ¬ 16 ≤ p.val) (e : Fin 1024) : (ℝo p).diff 𝕎 e = 0 := if_neg hp
theorem loss_eq (i : S_.Idx) : val_main_v44 (F := Ideal) x0 x1 x2 x3 x4 x5 x6 x7 i = ∑ p, half * (ℝo p).loss 𝕎 * part := by
  rw [loss_parts, val_main_v44_apply, val_main_v43_apply]
  refine congrArg (half * ·) (from_zero Ideal.ofBits_zero_f32 ?_)
  refine Fintype.sum_of_injective (fun j : S16384.Idx => (⟨16 + (j 0).val, by have h : (j 0).val < 16384 := (j 0).isLt; omega⟩ : Fin 16400))
    (fun a b hab => ?_) _ _ (fun p hp => ?_) (fun j => ?_)
  · have h := congrArg Fin.val hab
    funext d
    fin_cases d
    exact Fin.ext (by dsimp only at h; show (a 0).val = (b 0).val; omega)
  · have h : ¬ 16 ≤ p.val := fun h => hp ⟨ix1 ⟨p.val - 16, by omega⟩, Fin.ext (by show 16 + (p.val - 16) = p.val; omega)⟩
    have hl : (ℝo p).loss 𝕎 = 0 := Finset.sum_eq_zero fun e _ => by rw [diff_off x0 x1 x2 x3 x4 x5 x6 x7 p h, zero_mul]
    rw [hl, len10_eq, div_real _ _ (by norm_num), zero_mul]
  · rw [val_main_v42_apply, val_main_v41_apply, val_main_v40_apply]
    refine congrArg (Ideal.div · len10) (from_zero Ideal.ofBits_zero_f32 (Finset.sum_congr rfl fun k _ => ?_))
    rw [val_main_v37_apply, ← diff_eq x0 x1 x2 x3 x4 x5 x6 x7 _ (by show 16 ≤ 16 + (j 0).val; omega) k]
    refine congrArg (fun i => val_main_v36 (F := Ideal) x0 x1 x2 x3 x4 x5 x6 x7 i * val_main_v36 (F := Ideal) x0 x1 x2 x3 x4 x5 x6 x7 i) (funext fun a => ?_)
    fin_cases a
    · exact Fin.ext (by show (j 0).val = 16 + (j 0).val - 16; omega)
    · rfl
theorem loss_at (a b : Fin 1) : val_main_v98 (F := Ideal) x0 x1 x2 x3 x4 x5 x6 x7 (ix2 a b) = ∑ p, half * (ℝo p).loss 𝕎 * part := by
  unfold val_main_v98 shapeCast
  exact loss_eq x0 x1 x2 x3 x4 x5 x6 x7 _

/-! ## The gradients -/

theorem dout_eq (p : Fin 16400) (e : Fin 1024) : val_main_v51 (F := Ideal) x0 x1 x2 x3 x4 x5 x6 x7 (ix2 p e) = (ℝo p).dout 𝕎 e := by
  unfold Row.dout val_main_v51
  by_cases hp : 16 ≤ p.val
  · refine (pad_apply_of_inside _ _ _ _ _ _ _ _ (ix2 ⟨p.val - 16, by omega⟩ e) (fun a => ?_)).trans ?_
    · fin_cases a
      · show p.val = 16 + (p.val - 16) * (0 + 1); omega
      · show e.val = 0 + e.val * (0 + 1); omega
    · rw [val_main_v50_apply, val_main_v49_apply, val_main_v48_apply, val_main_v46_apply, val_main_v45_apply, val_main_v47_apply, val_main_v39_apply, val_main_v38_apply, diff_eq x0 x1 x2 x3 x4 x5 x6 x7 p hp e]
      exact dout_ref _
  · rw [diff_off x0 x1 x2 x3 x4 x5 x6 x7 p hp e, zero_mul]
    refine (pad_apply_of_not_inside _ _ _ _ _ _ _ _ 0 (fun h => ?_)).trans Ideal.ofBits_zero_f32
    have h1 : 16 ≤ p.val := h.1
    exact hp h1
theorem dpw_eq (e : Fin 1024) : val_main_v54 (F := Ideal) x0 x1 x2 x3 x4 x5 x6 x7 (ix2 0 e) = ∑ p, (ℝo p).dpw 𝕎 e := by
  rw [val_main_v54_apply, val_main_v53_apply]
  refine from_zero Ideal.ofBits_zero_f32 (Finset.sum_congr rfl fun p _ => ?_)
  have h : val_main_v52 (F := Ideal) x0 x1 x2 x3 x4 x5 x6 x7 (ix2 p e) = (ℝo p).dpw 𝕎 e := by
    rw [val_main_v52_apply, yn_eq x0 x1 x2 x3 x4 x5 x6 x7, dout_eq x0 x1 x2 x3 x4 x5 x6 x7]; exact mul_comm _ _
  rw [← h]
  refine congrArg _ (funext fun a => ?_)
  fin_cases a
  · rfl
  · exact Fin.ext (by show 0 * 1024 + e.val = e.val; omega)
theorem gy_eq (p : Fin 16400) (e : Fin 1024) : val_main_v56 (F := Ideal) x0 x1 x2 x3 x4 x5 x6 x7 (ix2 p e) = (ℝo p).dout 𝕎 e * (𝕎).pw e := by
  rw [val_main_v56_apply, val_main_v55_apply, dout_eq x0 x1 x2 x3 x4 x5 x6 x7]
  exact congrArg (_ * ·) (congrArg x6 (eq_ix2 _))
theorem sy_eq (p : Fin 16400) : val_main_v58 (F := Ideal) x0 x1 x2 x3 x4 x5 x6 x7 (ix1 p) = ∑ k, (ℝo p).y 𝕎 k * ((ℝo p).dout 𝕎 k * (𝕎).pw k) := by
  rw [val_main_v58_apply]
  refine from_zero Ideal.ofBits_zero_f32 (Finset.sum_congr rfl fun k _ => ?_)
  rw [val_main_v57_apply]
  exact congrArg₂ (· * ·) ((congrArg _ (eq_ix2 _)).trans (y_eq x0 x1 x2 x3 x4 x5 x6 x7 p k)) ((congrArg _ (eq_ix2 _)).trans (gy_eq x0 x1 x2 x3 x4 x5 x6 x7 p k))
theorem qy_eq (p : Fin 16400) : val_main_v65 (F := Ideal) x0 x1 x2 x3 x4 x5 x6 x7 (ix1 p) = q len10 ((ℝo p).y 𝕎) (fun e => (ℝo p).dout 𝕎 e * (𝕎).pw e) := by
  have h59 : val_main_v59 (F := Ideal) x0 x1 x2 x3 x4 x5 x6 x7 (ix2 p 0) = ∑ k, (ℝo p).y 𝕎 k * ((ℝo p).dout 𝕎 k * (𝕎).pw k) := by
    rw [val_main_v59_apply, ← sy_eq x0 x1 x2 x3 x4 x5 x6 x7]
    refine congrArg _ (funext fun a => ?_)
    fin_cases a
    exact Fin.ext (by show p.val * 1 + 0 = p.val; omega)
  have h64 : val_main_v64 (F := Ideal) x0 x1 x2 x3 x4 x5 x6 x7 (ix2 p 0) = q len10 ((ℝo p).y 𝕎) (fun e => (ℝo p).dout 𝕎 e * (𝕎).pw e) := by
    rw [val_main_v64_apply, val_main_v62_apply, val_main_v63_apply, val_main_v29_apply, val_main_v28_apply, val_main_v27_apply, ry_eq x0 x1 x2 x3 x4 x5 x6 x7, sqy_eq x0 x1 x2 x3 x4 x5 x6 x7, h59]
    rfl
  rw [val_main_v65_apply]
  refine from_zero Ideal.ofBits_zero_f32 ((Fin.sum_univ_one _).trans ?_)
  rw [← h64]
  exact congrArg _ (eq_ix2 _)

section Reals
variable (R : ∀ p, Real' (tok x0 x1 x2 x3 x4 x5 x6 x7 p) (wts x0 x1 x2 x3 x4 x5 x6 x7))
include R

theorem dy_eq (p : Fin 16400) (e : Fin 1024) : val_main_v70 (F := Ideal) x0 x1 x2 x3 x4 x5 x6 x7 (ix2 p e) = (ℝo p).dy 𝕎 e := by
  have h66 : val_main_v66 (F := Ideal) x0 x1 x2 x3 x4 x5 x6 x7 (ix2 p e) = q len10 ((ℝo p).y 𝕎) (fun e => (ℝo p).dout 𝕎 e * (𝕎).pw e) := by
    rw [val_main_v66_apply]
    exact (congrArg _ (eq_ix1 _)).trans (qy_eq x0 x1 x2 x3 x4 x5 x6 x7 p)
  have h60 : val_main_v60 (F := Ideal) x0 x1 x2 x5 x7 (ix2 p e) = rr len10 ((ℝo p).y 𝕎) := by
    rw [val_main_v60_apply]
    exact (congrArg _ (eq_ix2 _)).trans (ry_eq x0 x1 x2 x3 x4 x5 x6 x7 p)
  rw [(R p).dy_eq, val_main_v70_apply, val_main_v68_apply, val_main_v69_apply, val_main_v61_apply, val_main_v67_apply, h66, h60, y_eq x0 x1 x2 x3 x4 x5 x6 x7, gy_eq x0 x1 x2 x3 x4 x5 x6 x7]
  rfl
theorem dwo_eq (k e : Fin 1024) : val_main_v72 (F := Ideal) x0 x1 x2 x3 x4 x5 x6 x7 (ix2 k e) = ∑ p, (ℝo p).dwo 𝕎 k e := by
  rw [val_main_v72_apply, val_main_v71_apply]
  refine Finset.sum_congr rfl fun p _ => ?_
  have h1 : val_main_v70 (F := Ideal) x0 x1 x2 x3 x4 x5 x6 x7 (lidx_main_v71 (idx_main_v72 (ix2 k e)) p) = (ℝo p).dy 𝕎 e := by
    rw [← dy_eq x0 x1 x2 x3 x4 x5 x6 x7 R]; exact congrArg _ (eq_ix2 _)
  have h2 : val_main_v17 (F := Ideal) x0 x1 x2 x7 (ridx_main_v71 (idx_main_v72 (ix2 k e)) p) = (ℝo p).cat 𝕎 k := by
    rw [← cat_eq x0 x1 x2 x3 x4 x5 x6 x7]; exact congrArg _ (eq_ix2 _)
  rw [h1, h2]
  exact mul_comm _ _
theorem dcat_eq (p : Fin 16400) (k : Fin 1024) : val_main_v73 (F := Ideal) x0 x1 x2 x3 x4 x5 x6 x7 (ix2 p k) = (ℝo p).dcat 𝕎 k := by
  rw [val_main_v73_apply]
  refine Finset.sum_congr rfl fun e _ => ?_
  exact congrArg₂ (· * ·) ((congrArg _ (eq_ix2 _)).trans (dy_eq x0 x1 x2 x3 x4 x5 x6 x7 R p e)) (congrArg x5 (eq_ix2 _))
theorem dya_eq (p : Fin 16400) (j : Fin 512) : val_main_v74 (F := Ideal) x0 x1 x2 x3 x4 x5 x6 x7 (ix2 p j) = (ℝo p).dya 𝕎 j := by
  rw [val_main_v74_apply]
  exact (congrArg _ (eq_ix2 _)).trans (dcat_eq x0 x1 x2 x3 x4 x5 x6 x7 R p _)
theorem dys_eq (p : Fin 16400) (j : Fin 512) : val_main_v75 (F := Ideal) x0 x1 x2 x3 x4 x5 x6 x7 (ix2 p j) = (ℝo p).dys 𝕎 j := by
  rw [val_main_v75_apply]
  exact (congrArg _ (eq_ix2 _)).trans (dcat_eq x0 x1 x2 x3 x4 x5 x6 x7 R p _)
theorem daw_eq (j : Fin 512) : val_main_v78 (F := Ideal) x0 x1 x2 x3 x4 x5 x6 x7 (ix2 0 j) = ∑ p, (ℝo p).daw 𝕎 j := by
  rw [val_main_v78_apply, val_main_v77_apply]
  refine from_zero Ideal.ofBits_zero_f32 (Finset.sum_congr rfl fun p _ => ?_)
  have h : val_main_v76 (F := Ideal) x0 x1 x2 x3 x4 x5 x6 x7 (ix2 p j) = (ℝo p).daw 𝕎 j := by
    rw [val_main_v76_apply, xa_eq x0 x1 x2 x3 x4 x5 x6 x7, dya_eq x0 x1 x2 x3 x4 x5 x6 x7 R]; exact mul_comm _ _
  rw [← h]
  refine congrArg _ (funext fun a => ?_)
  fin_cases a
  · rfl
  · exact Fin.ext (by show 0 * 512 + j.val = j.val; omega)
theorem ga_eq (p : Fin 16400) (j : Fin 512) : val_main_v80 (F := Ideal) x0 x1 x2 x3 x4 x5 x6 x7 (ix2 p j) = (ℝo p).dya 𝕎 j * (𝕎).aw j := by
  rw [val_main_v80_apply, val_main_v79_apply, dya_eq x0 x1 x2 x3 x4 x5 x6 x7 R]
  exact congrArg (_ * ·) (congrArg x7 (eq_ix2 _))
theorem sa_eq (p : Fin 16400) : val_main_v82 (F := Ideal) x0 x1 x2 x3 x4 x5 x6 x7 (ix1 p) = ∑ k, (ℝo p).x k * ((ℝo p).dya 𝕎 k * (𝕎).aw k) := by
  rw [val_main_v82_apply]
  refine from_zero Ideal.ofBits_zero_f32 (Finset.sum_congr rfl fun k _ => ?_)
  rw [val_main_v81_apply]
  exact congrArg₂ (· * ·) ((congrArg _ (eq_ix2 _)).trans (x_eq x0 x1 x2 x3 x4 x5 x6 x7 p k)) ((congrArg _ (eq_ix2 _)).trans (ga_eq x0 x1 x2 x3 x4 x5 x6 x7 R p k))
theorem qa_eq (p : Fin 16400) : val_main_v89 (F := Ideal) x0 x1 x2 x3 x4 x5 x6 x7 (ix1 p) = q len5 (ℝo p).x (fun j => (ℝo p).dya 𝕎 j * (𝕎).aw j) := by
  have h83 : val_main_v83 (F := Ideal) x0 x1 x2 x3 x4 x5 x6 x7 (ix2 p 0) = ∑ k, (ℝo p).x k * ((ℝo p).dya 𝕎 k * (𝕎).aw k) := by
    rw [val_main_v83_apply, ← sa_eq x0 x1 x2 x3 x4 x5 x6 x7 R]
    refine congrArg _ (funext fun a => ?_)
    fin_cases a
    exact Fin.ext (by show p.val * 1 + 0 = p.val; omega)
  have h88 : val_main_v88 (F := Ideal) x0 x1 x2 x3 x4 x5 x6 x7 (ix2 p 0) = q len5 (ℝo p).x (fun j => (ℝo p).dya 𝕎 j * (𝕎).aw j) := by
    rw [val_main_v88_apply, val_main_v86_apply, val_main_v87_apply, val_main_v12_apply, val_main_v11_apply, val_main_v10_apply, ra_eq x0 x1 x2 x3 x4 x5 x6 x7, sqa_eq x0 x1 x2 x3 x4 x5 x6 x7, h83]
    rfl
  rw [val_main_v89_apply]
  refine from_zero Ideal.ofBits_zero_f32 ((Fin.sum_univ_one _).trans ?_)
  rw [← h88]
  exact congrArg _ (eq_ix2 _)
theorem dt_eq (p : Fin 16400) (j : Fin 512) : val_main_v94 (F := Ideal) x0 x1 x2 x3 x4 x5 x6 x7 (ix2 p j) = (ℝo p).dt 𝕎 j := by
  have h90 : val_main_v90 (F := Ideal) x0 x1 x2 x3 x4 x5 x6 x7 (ix2 p j) = q len5 (ℝo p).x (fun j => (ℝo p).dya 𝕎 j * (𝕎).aw j) := by
    rw [val_main_v90_apply]
    exact (congrArg _ (eq_ix1 _)).trans (qa_eq x0 x1 x2 x3 x4 x5 x6 x7 R p)
  have h84 : val_main_v84 (F := Ideal) x0 x1 (ix2 p j) = rr len5 (ℝo p).x := by
    rw [val_main_v84_apply]
    exact (congrArg _ (eq_ix2 _)).trans (ra_eq x0 x1 x2 x3 x4 x5 x6 x7 p)
  rw [(R p).dt_eq, val_main_v94_apply, val_main_v92_apply, val_main_v93_apply, val_main_v85_apply, val_main_v91_apply, h90, h84, x_eq x0 x1 x2 x3 x4 x5 x6 x7, ga_eq x0 x1 x2 x3 x4 x5 x6 x7 R]
  rfl
theorem do_eq (p : Fin 16400) (j : Fin 512) : val_main_v96 (F := Ideal) x0 x1 x2 x3 x4 x5 x6 x7 (ix2 p j) = (ℝo p).dO 𝕎 j := by
  rw [val_main_v96_apply, dt_eq x0 x1 x2 x3 x4 x5 x6 x7 R, sl_eq x0 x1 x2 x3 x4 x5 x6 x7]; rfl
theorem dag_eq (p : Fin 16400) (j : Fin 512) : val_main_v97 (F := Ideal) x0 x1 x2 x3 x4 x5 x6 x7 (ix2 p j) = (ℝo p).dag 𝕎 j := by
  rw [(R p).dag_eq, val_main_v97_apply, val_main_call1_v1_apply, val_main_call1_v2_apply, val_main_call1_v0_apply, val_main_v95_apply, dt_eq x0 x1 x2 x3 x4 x5 x6 x7 R, sg_eq x0 x1 x2 x3 x4 x5 x6 x7, slope_eq x0 x1 x2 x3 x4 x5 x6 x7]
  rfl

end Reals

end Out.Ref
-- ==== Proof.OutClaim.lean ====
/- The output projection, the loss and their gradients. -/
module

public import proofs.«01_k».proof.Defs
public import proofs.«01_k».proof.Proof.Gen.Kernel4Ideal
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Reference4Ideal.Read
public import proofs.«01_k».proof.Proof.AttnClaim
public import proofs.«01_k».proof.Proof.OutArr
public import proofs.«01_k».proof.Proof.OutRef
public import Idealize.ShloMosaic.Lib.Claim

@[expose] public section

set_option maxRecDepth 16384

noncomputable section

namespace Out

open Idealize.ShloMosaic Idealize.ShloMosaic.TcCoe Idealize.SL.Sem
open Cert.Kernel4Ideal Cert.Kernel4Ideal.Gen
open Out.Arr
open scoped BigOperators

/-- The shape conditions of the precondition's operations. -/
theorem preFacts : Cert.Pre_finite4.Facts where
  bcast_S_S16400x512 := by decide
  bcast_S_S16400x1024 := by decide
  bcast_S_S16384x1024 := by decide
  bcast_S_S1024x1024 := by decide
  bcast_S_S1x1024 := by decide
  bcast_S_S1x512 := by decide

variable (m : (ℓ : Loc nD τ sig) → Buf (Elt Ideal) ℓ) (g : Dev nD → PrngReg)

/-- Under the precondition every token's values and every weight are real numbers. -/
theorem reals (H : Cert.Pre_Kernel4Ideal_finite4 (hPre_finite4 := preFacts) m) (c : Dev nD) (p : Fin 16400) :
    Real' (Ref.tok (Host.a0 m c) (Host.a1 m c) (Host.a2 m c) (Host.a3 m c) (Host.a4 m c) (Host.a5 m c) (Host.a6 m c) (Host.a7 m c) p) (Ref.wts (Host.a0 m c) (Host.a1 m c) (Host.a2 m c) (Host.a3 m c) (Host.a4 m c) (Host.a5 m c) (Host.a6 m c) (Host.a7 m c)) := by
  obtain ⟨h0, h1, h2, h3, h4, h5, h6, h7⟩ := H c
  refine ⟨fun j => Attn.real_of_lt _ (congrFun h0 (ix2 p j)), fun j => Attn.real_of_lt _ (congrFun h1 (ix2 p j)),
    fun j => Attn.real_of_lt _ (congrFun h2 (ix2 p j)), fun e => Attn.real_of_lt _ (congrFun h3 (ix2 p e)), fun e => ?_,
    fun k e => Attn.real_of_lt _ (congrFun h5 (ix2 k e)), fun e => Attn.real_of_lt _ (congrFun h6 (ix2 0 e)),
    fun j => Attn.real_of_lt _ (congrFun h7 (ix2 0 j))⟩
  by_cases hp : p.val < 16
  · exact ⟨0, dif_pos hp⟩
  · obtain ⟨a, ha⟩ : ∃ a : ℝ, Host.a4 m c (ix2 ⟨p.val - 16, by omega⟩ e) = (a : EReal) := Attn.real_of_lt _ (congrFun h4 (ix2 ⟨p.val - 16, by omega⟩ e))
    exact ⟨a, (dif_neg hp).trans ha⟩

variable (c : Dev nD)

/-- The gradient of the attention output as the host lines leave it. -/
def t32 : Vec Ideal S16400x512 .f32 := Pipeline.afterTail₀ cfgs (dats m) 0 (V0 m) [hostOps1] c main_v32

theorem t32_eq (p : Fin 16400) (j : Fin 512) : t32 m c (ix2 p j) = ((kargs m c).row p).dO (kargs m c).W j := by
  refine (Host.tail32 m c (dats m) p j).trans ?_
  rw [arr10, ← Args.lay_at]
  rfl

/-- The gradient of the gate as the host lines leave it. -/
def t36 : Vec Ideal S16400x512 .f32 := Pipeline.afterTail₀ cfgs (dats m) 0 (V0 m) [hostOps1] c main_v36

theorem t36_eq (p : Fin 16400) (j : Fin 512) : t36 m c (ix2 p j) = ((kargs m c).row p).dag (kargs m c).W j := by
  refine (Host.tail36 m c (dats m) p j).trans ?_
  rw [arr11, ← Args.lay_at]
  rfl

/-- The gradient of the state-space output as the host lines leave it. -/
def t40 : Vec Ideal S16400x512 .f32 := Pipeline.afterTail₀ cfgs (dats m) 0 (V0 m) [hostOps1] c main_v40

theorem t40_eq (p : Fin 16400) (j : Fin 512) : t40 m c (ix2 p j) = ((kargs m c).row p).dys (kargs m c).W j := by
  refine (Host.tail40 m c (dats m) p j).trans ?_
  rw [arr12, ← Args.lay_at]
  rfl

/-- The gradient of the block's output as the host lines leave it. -/
def t44 : Vec Ideal S16400x1024 .f32 := Pipeline.afterTail₀ cfgs (dats m) 0 (V0 m) [hostOps1] c main_v44

theorem t44_eq (p : Fin 16400) (j : Fin 1024) : t44 m c (ix2 p j) = ((kargs m c).row p).dout (kargs m c).W j := by
  refine (Host.tail44 m c (dats m) p j).trans ?_
  rw [arr9, ← Args.lay_at]
  rfl

/-- What the kernel's run leaves. -/
theorem run_values : θ_run (defs (F := Ideal)) (onTc (τ := τ) (main (F := Ideal))) ⟨m, fun _ => 0, g⟩ (fun r => ∀ c : Dev nD,
      r.2.mem ((c.tc : Thread nD τ).loc main_v28_5) = r14 m c
      ∧ r.2.mem ((c.tc : Thread nD τ).loc main_v32) = t32 m c
      ∧ r.2.mem ((c.tc : Thread nD τ).loc main_v36) = t36 m c
      ∧ r.2.mem ((c.tc : Thread nD τ).loc main_v40) = t40 m c
      ∧ r.2.mem ((c.tc : Thread nD τ).loc main_v44) = t44 m c
      ∧ r.2.mem ((c.tc : Thread nD τ).loc main_v28_7) = r16 m c
      ∧ r.2.mem ((c.tc : Thread nD τ).loc main_v28_6) = r15 m c
      ∧ r.2.mem ((c.tc : Thread nD τ).loc main_v28_8) = r17 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).1 14).trans (arr14 m c),
      (h c).2 main_v32 (Pipeline.mem_restRefs_of main_v32 (by decide) (by decide)),
      (h c).2 main_v36 (Pipeline.mem_restRefs_of main_v36 (by decide) (by decide)),
      (h c).2 main_v40 (Pipeline.mem_restRefs_of main_v40 (by decide) (by decide)),
      (h c).2 main_v44 (Pipeline.mem_restRefs_of main_v44 (by decide) (by decide)),
      ((h c).1 16).trans (arr16 m c),
      ((h c).1 15).trans (arr15 m c),
      ((h c).1 17).trans (arr17 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).1 6).trans (((dats m 0 c).arrAt_in 6 rfl _).trans ((A_eq m c 6).trans (V_main_arg6 m c))),
      ((h c).1 7).trans (((dats m 0 c).arrAt_in 7 rfl _).trans ((A_eq m c 7).trans (V_main_arg7 m c)))⟩) (run_main m g)

/-- The reference's eight results, of the same arguments, are the kernel's. -/
theorem meet_loss : Cert.Reference4Ideal.Read.val_main_v98 (F := Ideal) (Host.a0 m c) (Host.a1 m c) (Host.a2 m c) (Host.a3 m c) (Host.a4 m c) (Host.a5 m c) (Host.a6 m c) (Host.a7 m c) = r14 m c := by
  funext i
  rw [eq_ix2 i]
  exact Ref.loss_at (Host.a0 m c) (Host.a1 m c) (Host.a2 m c) (Host.a3 m c) (Host.a4 m c) (Host.a5 m c) (Host.a6 m c) (Host.a7 m c) _ _

theorem meet_do (H : Cert.Pre_Kernel4Ideal_finite4 (hPre_finite4 := preFacts) m) : Cert.Reference4Ideal.Read.val_main_v96 (F := Ideal) (Host.a0 m c) (Host.a1 m c) (Host.a2 m c) (Host.a3 m c) (Host.a4 m c) (Host.a5 m c) (Host.a6 m c) (Host.a7 m c) = t32 m c := by
  funext i
  rw [eq_ix2 i]
  exact (Ref.do_eq (Host.a0 m c) (Host.a1 m c) (Host.a2 m c) (Host.a3 m c) (Host.a4 m c) (Host.a5 m c) (Host.a6 m c) (Host.a7 m c) (reals m H c) _ _).trans (t32_eq m c _ _).symm

theorem meet_dag (H : Cert.Pre_Kernel4Ideal_finite4 (hPre_finite4 := preFacts) m) : Cert.Reference4Ideal.Read.val_main_v97 (F := Ideal) (Host.a0 m c) (Host.a1 m c) (Host.a2 m c) (Host.a3 m c) (Host.a4 m c) (Host.a5 m c) (Host.a6 m c) (Host.a7 m c) = t36 m c := by
  funext i
  rw [eq_ix2 i]
  exact (Ref.dag_eq (Host.a0 m c) (Host.a1 m c) (Host.a2 m c) (Host.a3 m c) (Host.a4 m c) (Host.a5 m c) (Host.a6 m c) (Host.a7 m c) (reals m H c) _ _).trans (t36_eq m c _ _).symm

theorem meet_dys (H : Cert.Pre_Kernel4Ideal_finite4 (hPre_finite4 := preFacts) m) : Cert.Reference4Ideal.Read.val_main_v75 (F := Ideal) (Host.a0 m c) (Host.a1 m c) (Host.a2 m c) (Host.a3 m c) (Host.a4 m c) (Host.a5 m c) (Host.a6 m c) (Host.a7 m c) = t40 m c := by
  funext i
  rw [eq_ix2 i]
  exact (Ref.dys_eq (Host.a0 m c) (Host.a1 m c) (Host.a2 m c) (Host.a3 m c) (Host.a4 m c) (Host.a5 m c) (Host.a6 m c) (Host.a7 m c) (reals m H c) _ _).trans (t40_eq m c _ _).symm

theorem meet_dout : Cert.Reference4Ideal.Read.val_main_v51 (F := Ideal) (Host.a0 m c) (Host.a1 m c) (Host.a2 m c) (Host.a3 m c) (Host.a4 m c) (Host.a5 m c) (Host.a6 m c) (Host.a7 m c) = t44 m c := by
  funext i
  rw [eq_ix2 i]
  exact (Ref.dout_eq (Host.a0 m c) (Host.a1 m c) (Host.a2 m c) (Host.a3 m c) (Host.a4 m c) (Host.a5 m c) (Host.a6 m c) (Host.a7 m c) _ _).trans (t44_eq m c _ _).symm

theorem meet_dwo (H : Cert.Pre_Kernel4Ideal_finite4 (hPre_finite4 := preFacts) m) : Cert.Reference4Ideal.Read.val_main_v72 (F := Ideal) (Host.a0 m c) (Host.a1 m c) (Host.a2 m c) (Host.a3 m c) (Host.a4 m c) (Host.a5 m c) (Host.a6 m c) (Host.a7 m c) = r16 m c := by
  funext i
  rw [eq_ix2 i]
  exact Ref.dwo_eq (Host.a0 m c) (Host.a1 m c) (Host.a2 m c) (Host.a3 m c) (Host.a4 m c) (Host.a5 m c) (Host.a6 m c) (Host.a7 m c) (reals m H c) _ _

theorem meet_dpw : Cert.Reference4Ideal.Read.val_main_v54 (F := Ideal) (Host.a0 m c) (Host.a1 m c) (Host.a2 m c) (Host.a3 m c) (Host.a4 m c) (Host.a5 m c) (Host.a6 m c) (Host.a7 m c) = r15 m c := by
  funext i
  obtain ⟨b, rfl⟩ : ∃ b : Fin 1024, i = ix2 0 b := ⟨i 1, (eq_ix2 i).trans (congrArg (ix2 · (i 1)) (Subsingleton.elim _ _))⟩
  exact Ref.dpw_eq (Host.a0 m c) (Host.a1 m c) (Host.a2 m c) (Host.a3 m c) (Host.a4 m c) (Host.a5 m c) (Host.a6 m c) (Host.a7 m c) b

theorem meet_daw (H : Cert.Pre_Kernel4Ideal_finite4 (hPre_finite4 := preFacts) m) : Cert.Reference4Ideal.Read.val_main_v78 (F := Ideal) (Host.a0 m c) (Host.a1 m c) (Host.a2 m c) (Host.a3 m c) (Host.a4 m c) (Host.a5 m c) (Host.a6 m c) (Host.a7 m c) = r17 m c := by
  funext i
  obtain ⟨b, rfl⟩ : ∃ b : Fin 512, i = ix2 0 b := ⟨i 1, (eq_ix2 i).trans (congrArg (ix2 · (i 1)) (Subsingleton.elim _ _))⟩
  exact Ref.daw_eq (Host.a0 m c) (Host.a1 m c) (Host.a2 m c) (Host.a3 m c) (Host.a4 m c) (Host.a5 m c) (Host.a6 m c) (Host.a7 m c) (reals m H c) b

end Out
-- ==== Proof.lean ====
/- The claims about attention and its gradient: frames, the named constants, and the equality with the reference; the same of the optimiser, of the input projection's gradient, and of the output projection with the loss and their gradients. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Reference4Ideal.Read
public import proofs.«01_k».proof.Proof.AttnRun
public import proofs.«01_k».proof.Proof.AttnClaim
public import proofs.«01_k».proof.Proof.AdamClaim
public import proofs.«01_k».proof.Proof.ProjClaim
public import proofs.«01_k».proof.Proof.OutClaim

@[expose] public section

noncomputable section

namespace Cert.Proof

open Idealize.ShloMosaic Idealize.ShloMosaic.TcCoe Idealize.SL.Sem

/-- The reference runs to the end, keeps its arguments, and has no counter that could be left nonzero. -/
theorem frame_reference (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0) :=
  (θ_run _ _ _).mono (fun _ h => ⟨fun c => (h c).2.2.2.2, funext fun s => by have := s.2; exact nomatch s.2⟩) (Cert.ReferenceIdeal.Value.run (F := Ideal) m g)

/-- Kernel and reference end with equal results. -/
theorem equal : Cert.algebraic_KernelIdeal_ReferenceIdeal_pre_finite (hPre_finite := Attn.preFacts) := by
  intro m g m' g' hpre hargs
  refine ⟨_, _, _, _, Attn.Run.run_values m g, (θ_run _ _ _).mono (fun r h c => ?_) (Cert.ReferenceIdeal.Value.run (F := Ideal) m' g')⟩
  obtain ⟨a0, a1, a2, a3⟩ := hargs c
  obtain ⟨e0, e1, e2, e3⟩ := Attn.meet m g hpre c
  obtain ⟨h0, h1, h2, h3, h4⟩ := h c
  refine ⟨h0.trans ?_, h1.trans ?_, h2.trans ?_, h3.trans ?_, h4⟩
  · rw [Cert.ReferenceIdeal.Read.val_main_v33_eq, a0, a1, a2]; exact e0
  · rw [Cert.ReferenceIdeal.Read.val_main_v52_eq, a0, a1, a2, a3]; exact e1
  · rw [Cert.ReferenceIdeal.Read.val_main_v51_eq, a0, a1, a2, a3]; exact e2
  · rw [Cert.ReferenceIdeal.Read.val_main_v35_eq, a0, a1, a3]; exact e3

/-- The same of the reference of the optimiser. -/
theorem frame_reference_adam (m : (ℓ : Loc Cert.Reference2Ideal.nD Cert.Reference2Ideal.τ Cert.Reference2Ideal.sig) → Buf (Elt Ideal) ℓ) (g : Dev Cert.Reference2Ideal.nD → PrngReg) :
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0) :=
  (θ_run _ _ _).mono (fun _ h => ⟨fun c => (h c).2.2.2.2, funext fun s => by have := s.2; exact nomatch s.2⟩) (Cert.Reference2Ideal.Value.run (F := Ideal) m g)

/-- The optimiser: kernel and reference end with equal results. -/
theorem equal_adam : Cert.algebraic_Kernel2Ideal_Reference2Ideal := by
  intro m g m' g' _ hargs
  refine ⟨_, _, _, _, Cert.Kernel2Ideal.Value.run_blocks (F := Ideal) m g, (θ_run _ _ _).mono (fun r h c => ?_) (Cert.Reference2Ideal.Value.run (F := Ideal) m' g')⟩
  obtain ⟨a0, a1, a2, a3⟩ := hargs c
  obtain ⟨h0, h1, h2, h3, h4⟩ := h c
  refine ⟨h0.trans ?_, h1.trans ?_, h2.trans ?_, h3.trans ?_, h4⟩
  · rw [Cert.Reference2Ideal.Read.val_main_v0_eq, a0]; exact (Adam.arr_g m c).symm
  · rw [Cert.Reference2Ideal.Read.val_main_v24_eq, a0, a1, a2, a3]; exact (Adam.arr_d m c).symm
  · rw [Cert.Reference2Ideal.Read.val_main_v5_eq, a0, a2]; exact (Adam.arr_m m c).symm
  · rw [Cert.Reference2Ideal.Read.val_main_v11_eq, a0, a3]; exact (Adam.arr_v m c).symm

/-- The same of the reference of the input projection's gradient. -/
theorem frame_reference_proj (m : (ℓ : Loc Cert.Reference3Ideal.nD Cert.Reference3Ideal.τ Cert.Reference3Ideal.sig) → Buf (Elt Ideal) ℓ) (g : Dev Cert.Reference3Ideal.nD → PrngReg) :
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12))
      ∧ r.2.sem = fun _ => 0) :=
  (θ_run _ _ _).mono (fun _ h => ⟨fun c => (h c).2.2.2, funext fun s => by have := s.2; exact nomatch s.2⟩) (Cert.Reference3Ideal.Value.run (F := Ideal) m g)

/-- The input projection's gradient: kernel and reference end with equal results. -/
theorem equal_proj : Cert.algebraic_Kernel3Ideal_Reference3Ideal := by
  intro m g m' g' _ hargs
  refine ⟨_, _, _, Proj.run_values m g, (θ_run _ _ _).mono (fun r h c => ?_) (Cert.Reference3Ideal.Value.run (F := Ideal) m' g')⟩
  obtain ⟨a0, a1, a2, a3, a4, a5, a6, a7, a8, a9, a10, a11, a12⟩ := hargs c
  obtain ⟨h0, h1, h2, h3⟩ := h c
  refine ⟨h0.trans ?_, h1.trans ?_, h2.trans ?_, h3⟩
  · rw [Cert.Reference3Ideal.Read.val_main_v51_eq, a0, a1, a2, a3, a4, a5, a6, a7, a8, a9, a10, a11, a12]; exact Proj.meet_h m c
  · rw [Cert.Reference3Ideal.Read.val_main_v34_eq, a0, a1, a2, a3, a4, a5, a6, a7, a8, a11, a12]; exact Proj.meet_g m c
  · rw [Cert.Reference3Ideal.Read.val_main_v30_eq, a0, a1, a2, a3, a4, a5, a6, a7, a8, a10, a12]; exact Proj.meet_w m c

/-- The same of the reference of the output projection and the loss. -/
theorem frame_reference_out (m : (ℓ : Loc Cert.Reference4Ideal.nD Cert.Reference4Ideal.τ Cert.Reference4Ideal.sig) → Buf (Elt Ideal) ℓ) (g : Dev Cert.Reference4Ideal.nD → PrngReg) :
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0) :=
  (θ_run _ _ _).mono (fun _ h => ⟨fun c => (h c).2.2.2.2.2.2.2.2, funext fun s => by have := s.2; exact nomatch s.2⟩) (Cert.Reference4Ideal.Value.run (F := Ideal) m g)

/-- The output projection, the loss and their gradients: kernel and reference end with equal results. -/
theorem equal_out : Cert.algebraic_Kernel4Ideal_Reference4Ideal_pre_finite4 (hPre_finite4 := Out.preFacts) := by
  intro m g m' g' hpre hargs
  refine ⟨_, _, _, _, _, _, _, _, Out.run_values m g, (θ_run _ _ _).mono (fun r h c => ?_) (Cert.Reference4Ideal.Value.run (F := Ideal) m' g')⟩
  obtain ⟨a0, a1, a2, a3, a4, a5, a6, a7⟩ := hargs c
  have b0 : StableHlo.launchContents m' c (Proc.devRef .tc Cert.Reference4Ideal.main_arg0) = m ((c.tc : Thread Cert.Kernel4Ideal.nD Cert.Kernel4Ideal.τ).loc Cert.Kernel4Ideal.main_arg0) := a0
  have b1 : StableHlo.launchContents m' c (Proc.devRef .tc Cert.Reference4Ideal.main_arg1) = m ((c.tc : Thread Cert.Kernel4Ideal.nD Cert.Kernel4Ideal.τ).loc Cert.Kernel4Ideal.main_arg1) := a1
  have b2 : StableHlo.launchContents m' c (Proc.devRef .tc Cert.Reference4Ideal.main_arg2) = m ((c.tc : Thread Cert.Kernel4Ideal.nD Cert.Kernel4Ideal.τ).loc Cert.Kernel4Ideal.main_arg2) := a2
  have b3 : StableHlo.launchContents m' c (Proc.devRef .tc Cert.Reference4Ideal.main_arg3) = m ((c.tc : Thread Cert.Kernel4Ideal.nD Cert.Kernel4Ideal.τ).loc Cert.Kernel4Ideal.main_arg3) := a3
  have b4 : StableHlo.launchContents m' c (Proc.devRef .tc Cert.Reference4Ideal.main_arg4) = m ((c.tc : Thread Cert.Kernel4Ideal.nD Cert.Kernel4Ideal.τ).loc Cert.Kernel4Ideal.main_arg4) := a4
  have b5 : StableHlo.launchContents m' c (Proc.devRef .tc Cert.Reference4Ideal.main_arg5) = m ((c.tc : Thread Cert.Kernel4Ideal.nD Cert.Kernel4Ideal.τ).loc Cert.Kernel4Ideal.main_arg5) := a5
  have b6 : StableHlo.launchContents m' c (Proc.devRef .tc Cert.Reference4Ideal.main_arg6) = m ((c.tc : Thread Cert.Kernel4Ideal.nD Cert.Kernel4Ideal.τ).loc Cert.Kernel4Ideal.main_arg6) := a6
  have b7 : StableHlo.launchContents m' c (Proc.devRef .tc Cert.Reference4Ideal.main_arg7) = m ((c.tc : Thread Cert.Kernel4Ideal.nD Cert.Kernel4Ideal.τ).loc Cert.Kernel4Ideal.main_arg7) := a7
  obtain ⟨h0, h1, h2, h3, h4, h5, h6, h7, h8⟩ := h c
  refine ⟨h0.trans ?_, h1.trans ?_, h2.trans ?_, h3.trans ?_, h4.trans ?_, h5.trans ?_, h6.trans ?_, h7.trans ?_, h8⟩
  · rw [Cert.Reference4Ideal.Read.val_main_v98_eq, b0, b1, b2, b3, b4, b5, b6, b7]; exact Out.meet_loss m c
  · rw [Cert.Reference4Ideal.Read.val_main_v96_eq, b0, b1, b2, b3, b4, b5, b6, b7]; exact Out.meet_do m c hpre
  · rw [Cert.Reference4Ideal.Read.val_main_v97_eq, b0, b1, b2, b3, b4, b5, b6, b7]; exact Out.meet_dag m c hpre
  · rw [Cert.Reference4Ideal.Read.val_main_v75_eq, b0, b1, b2, b3, b4, b5, b6, b7]; exact Out.meet_dys m c hpre
  · rw [Cert.Reference4Ideal.Read.val_main_v51_eq, b0, b1, b2, b3, b4, b5, b6, b7]; exact Out.meet_dout m c
  · rw [Cert.Reference4Ideal.Read.val_main_v72_eq, b0, b1, b2, b3, b4, b5, b6, b7]; exact Out.meet_dwo m c hpre
  · rw [Cert.Reference4Ideal.Read.val_main_v54_eq, b0, b1, b2, b3, b4, b5, b6, b7]; exact Out.meet_dpw m c
  · rw [Cert.Reference4Ideal.Read.val_main_v78_eq, b0, b1, b2, b3, b4, b5, b6, b7]; exact Out.meet_daw m c hpre

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts, Attn.preFacts, Out.preFacts,
    fun m g _ => Cert.Kernel.Gen.frame m g, fun m g _ => Cert.KernelIdeal.Gen.frame m g, fun m g _ => Cert.KernelIdeal.Gen.frame m g,
    fun m g _ => frame_reference m g, fun m g _ => frame_reference m g,
    fun m g _ => Cert.Kernel2.Gen.frame m g, fun m g _ => Cert.Kernel2Ideal.Gen.frame m g, fun m g _ => frame_reference_adam m g,
    fun m g _ => Cert.Kernel3.Gen.frame m g, fun m g _ => Cert.Kernel3Ideal.Gen.frame m g, fun m g _ => frame_reference_proj m g,
    fun m g _ => Cert.Kernel4.Gen.frame m g, fun m g _ => Cert.Kernel4Ideal.Gen.frame m g, fun m g _ => Cert.Kernel4Ideal.Gen.frame m g,
    fun m g _ => frame_reference_out m g, fun m g _ => frame_reference_out m g,
    ⟨IdealRules.named_const.statement Cert.KernelIdeal.κ "mask" .f32 0xF149F2CA#32 ⊥ rfl,
     IdealRules.named_const.statement Cert.KernelIdeal.κ "log2e" .f32 0x3FB8AA3B#32 (((Real.log 2)⁻¹ : ℝ) : EReal) rfl⟩,
    equal, trivial, equal_adam, trivial, equal_proj, trivial, equal_out⟩

end Cert.Proof
